-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_experts_exist : Cert.Pre_experts_exist.Facts] (m : (ℓ : Loc Cert.Kernel3.nD Cert.Kernel3.τ Cert.Kernel3.sig) → Buf (Elt Bits) ℓ) : Prop :=
  ∀ c : Dev Cert.Kernel3.nD,
    (Cert.Pre_experts_exist.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5))) = (fun _ => 1#1)

def Pre_Kernel3Ideal [hPre_experts_exist : Cert.Pre_experts_exist.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_experts_exist.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_experts_exist [hPre_experts_exist : Cert.Pre_experts_exist.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_experts_exist.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_routed [hPre_routed : Cert.Pre_routed.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_routed [hPre_routed : Cert.Pre_routed.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] [hPre_experts_exist : Cert.Pre_experts_exist.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_experts_exist [hReference3Ideal : Cert.Reference3Ideal.Facts] [hPre_experts_exist : Cert.Pre_experts_exist.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_experts_exist m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_routed [hKernel5Ideal : Cert.Kernel5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_routed m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_routed [hReference5Ideal : Cert.Reference5Ideal.Facts] [hPre_routed : Cert.Pre_routed.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_routed m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.bf16_pair.BufferStatement Cert.KernelIdeal.S32768x2x512 Cert.KernelIdeal.S32768x1x512
  ∧ IdealRules.bf16_pair.BufferStatement Cert.KernelIdeal.S512x2x512 Cert.KernelIdeal.S512x1x512
  ∧ IdealRules.bf16_pair.Statement Cert.KernelIdeal.S256x2x512 Cert.KernelIdeal.S256x1x512
  ∧ IdealRules.bf16_pack.Statement Cert.KernelIdeal.S256x512
  ∧ IdealRules.named_const.Statement Cert.KernelIdeal.κ "mask" .f32 0xFF61B1E6#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v43_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v43_0)) (v1 : (c : Dev Cert.Kernel2Ideal.nD) → Buf (Elt Ideal) ((c.tc : Thread Cert.Kernel2Ideal.nD Cert.Kernel2Ideal.τ).loc Cert.Kernel2Ideal.main_v43_1)) (v2 : (c : Dev Cert.Kernel2Ideal.nD) → Buf (Elt Ideal) ((c.tc : Thread Cert.Kernel2Ideal.nD Cert.Kernel2Ideal.τ).loc Cert.Kernel2Ideal.main_v43_2)) (v3 : (c : Dev Cert.Kernel2Ideal.nD) → Buf (Elt Ideal) ((c.tc : Thread Cert.Kernel2Ideal.nD Cert.Kernel2Ideal.τ).loc Cert.Kernel2Ideal.main_v43_3)) (v4 : (c : Dev Cert.Kernel2Ideal.nD) → Buf (Elt Ideal) ((c.tc : Thread Cert.Kernel2Ideal.nD Cert.Kernel2Ideal.τ).loc Cert.Kernel2Ideal.main_v43_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v43_0) = v0 c
          ∧ r.2.mem ((c.tc : Thread Cert.Kernel2Ideal.nD Cert.Kernel2Ideal.τ).loc Cert.Kernel2Ideal.main_v43_1) = v1 c
          ∧ r.2.mem ((c.tc : Thread Cert.Kernel2Ideal.nD Cert.Kernel2Ideal.τ).loc Cert.Kernel2Ideal.main_v43_2) = v2 c
          ∧ r.2.mem ((c.tc : Thread Cert.Kernel2Ideal.nD Cert.Kernel2Ideal.τ).loc Cert.Kernel2Ideal.main_v43_3) = v3 c
          ∧ r.2.mem ((c.tc : Thread Cert.Kernel2Ideal.nD Cert.Kernel2Ideal.τ).loc Cert.Kernel2Ideal.main_v43_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_v30) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_v32) = v3 c
          ∧ r.2.mem ((c.tc : Thread Cert.Reference2Ideal.nD Cert.Reference2Ideal.τ).loc Cert.Reference2Ideal.main_v33) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] [hPre_experts_exist : Cert.Pre_experts_exist.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v5) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v98) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_routed [hKernel5Ideal : Cert.Kernel5Ideal.Facts] [hReference5Ideal : Cert.Reference5Ideal.Facts] [hPre_routed : Cert.Pre_routed.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_routed m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_experts_exist : Cert.Pre_experts_exist.Facts) (hPre_routed : Cert.Pre_routed.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_experts_exist := hPre_experts_exist)
    ∧ quiescent_Kernel3Ideal (hKernel3Ideal := hKernel3Ideal) (hPre_experts_exist := hPre_experts_exist)
    ∧ quiescent_Reference3Ideal (hReference3Ideal := hReference3Ideal)
    ∧ quiescent_Reference3Ideal_pre_experts_exist (hReference3Ideal := hReference3Ideal) (hPre_experts_exist := hPre_experts_exist)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_routed (hKernel5Ideal := hKernel5Ideal) (hPre_routed := hPre_routed)
    ∧ quiescent_Reference5Ideal (hReference5Ideal := hReference5Ideal)
    ∧ quiescent_Reference5Ideal_pre_routed (hReference5Ideal := hReference5Ideal) (hPre_routed := hPre_routed)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_experts_exist := hPre_experts_exist)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_routed (hKernel5Ideal := hKernel5Ideal) (hReference5Ideal := hReference5Ideal) (hPre_routed := hPre_routed)
    ∧ preserves_Kernel6_Kernel6Ideal
    ∧ algebraic_Kernel6Ideal_Reference6Ideal (hKernel6Ideal := hKernel6Ideal) (hReference6Ideal := hReference6Ideal)
-- ==== Pre_experts_exist.lean ====
abbrev S160 : Shape := ⟨1, ![160]⟩
abbrev S81920x512 : Shape := ⟨2, ![81920, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S160 : S_.BroadcastsInDim S160 (![] : Fin 0 → Fin S160.rank)

variable [Facts]

def fn {F : FTy → Type} [FloatOps F] (main_arg0 : IVec S160 32) (main_arg1 : IVec S160 32) (main_arg2 : IVec S81920x512 32) (main_arg3 : FVec F S32x1024x512 .bf16) (main_arg4 : FVec F S32x1024x512 .bf16) (main_arg5 : FVec F S32x512x1024 .bf16) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  main_v4
-- ==== Pre_routed.lean ====
abbrev S8x32768 : Shape := ⟨2, ![8, 32768]⟩
abbrev S32 : Shape := ⟨1, ![32]⟩
abbrev S2x32768 : Shape := ⟨2, ![2, 32768]⟩
abbrev S_ : Shape := ⟨0, ![]⟩

class Facts : Prop where
  slices_S8x32768_S2x32768_0_0 : S8x32768.Slices ![0, 0] S2x32768
  bcast_S_S2x32768 : S_.BroadcastsInDim S2x32768 (![] : Fin 0 → Fin S2x32768.rank)

variable [Facts]

def fn {F : FTy → Type} [FloatOps F] (main_arg0 : FVec F S8x32768 .f32) (main_arg1 : IVec S32 32) : IVec S2x32768 1 :=
  let main_v0 : FVec F S2x32768 .f32 := (extractStridedSlice S2x32768 ![0, 0] · slices_S8x32768_S2x32768_0_0) main_arg0
  let main_v1 : IVec S2x32768 32 := fptosi 32 main_v0
  let main_c : IVec S_ 32 := constantI S_ 32 0#32
  let main_v2 : IVec S2x32768 32 := broadcastInDim S2x32768 ![] bcast_S_S2x32768 main_c
  let main_v3 : IVec S2x32768 1 := cmpi .sge main_v1 main_v2
  let main_c_0 : IVec S_ 32 := constantI S_ 32 32#32
  let main_v4 : IVec S2x32768 32 := broadcastInDim S2x32768 ![] bcast_S_S2x32768 main_c_0
  let main_v5 : IVec S2x32768 1 := cmpi .slt main_v1 main_v4
  let main_v6 : IVec S2x32768 1 := andi main_v3 main_v5
  main_v6
-- ==== Kernel.lean ====
abbrev S16x4096x1024 : Shape := ⟨3, ![16, 4096, 1024]⟩
abbrev S16x4096x512 : Shape := ⟨3, ![16, 4096, 512]⟩
abbrev S1x1024x4352 : Shape := ⟨3, ![1, 1024, 4352]⟩
abbrev S1x4352 : Shape := ⟨2, ![1, 4352]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x4352 : Shape := ⟨2, ![1024, 4352]⟩
abbrev S4352 : Shape := ⟨1, ![4352]⟩
abbrev S1024x2048 : Shape := ⟨2, ![1024, 2048]⟩
abbrev S2048 : Shape := ⟨1, ![2048]⟩
abbrev S_ : Shape := ⟨0, ![]⟩
abbrev S40x1024 : Shape := ⟨2, ![40, 1024]⟩
abbrev S1024x4 : Shape := ⟨2, ![1024, 4]⟩
abbrev S4x1024 : Shape := ⟨2, ![4, 1024]⟩
abbrev S1 : Shape := ⟨1, ![1]⟩
abbrev S1024x32 : Shape := ⟨2, ![1024, 32]⟩
abbrev S32x1024 : Shape := ⟨2, ![32, 1024]⟩
abbrev S40 : Shape := ⟨1, ![40]⟩
abbrev S4 : Shape := ⟨1, ![4]⟩
abbrev S32 : Shape := ⟨1, ![32]⟩
abbrev S40x1 : Shape := ⟨2, ![40, 1]⟩
abbrev S65536x1024 : Shape := ⟨2, ![65536, 1024]⟩
abbrev S65536x512 : Shape := ⟨2, ![65536, 512]⟩
abbrev S1x2048 : Shape := ⟨2, ![1, 2048]⟩
abbrev S512x1024 : Shape := ⟨2, ![512, 1024]⟩
abbrev S1024x1024 : Shape := ⟨2, ![1024, 1024]⟩
abbrev S1024 : Shape := ⟨1, ![1024]⟩
abbrev S80x1024 : Shape := ⟨2, ![80, 1024]⟩
abbrev S256x256 : Shape := ⟨2, ![256, 256]⟩
abbrev S32768x1024 : Shape := ⟨2, ![32768, 1024]⟩
abbrev S32768x512 : Shape := ⟨2, ![32768, 512]⟩
abbrev S8x32768 : Shape := ⟨2, ![8, 32768]⟩
abbrev S32x128 : Shape := ⟨2, ![32, 128]⟩
abbrev S512x512 : Shape := ⟨2, ![512, 512]⟩
abbrev S8x512 : Shape := ⟨2, ![8, 512]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S80x256 : Shape := ⟨2, ![80, 256]⟩
abbrev S40x256 : Shape := ⟨2, ![40, 256]⟩
abbrev S8x256 : Shape := ⟨2, ![8, 256]⟩
abbrev S1x256 : Shape := ⟨2, ![1, 256]⟩
abbrev S32x256 : Shape := ⟨2, ![32, 256]⟩
abbrev S32x1 : Shape := ⟨2, ![32, 1]⟩

abbrev nBuf : Space → Nat
  | .hbm => 76
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1x1024x4352, .f32⟩
  | .hbm, ⟨4, _⟩ => ⟨S1x4352, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S1024x4352, .f32⟩
  | .hbm, ⟨15, _⟩ => ⟨S4352, .f32⟩
  | .hbm, ⟨16, _⟩ => ⟨S1024x2048, .f32⟩
  | .hbm, ⟨17, _⟩ => ⟨S2048, .f32⟩
  | .hbm, ⟨18, _⟩ => ⟨S_, .f32⟩
  | .hbm, ⟨19, _⟩ => ⟨S40x1024, .f32⟩
  | .hbm, ⟨20, _⟩ => ⟨S1024x4, .f32⟩
  | .hbm, ⟨21, _⟩ => ⟨S4x1024, .f32⟩
  | .hbm, ⟨22, _⟩ => ⟨S_, .i32⟩
  | .hbm, ⟨23, _⟩ => ⟨S1, .i32⟩
  | .hbm, ⟨24, _⟩ => ⟨S40x1024, .f32⟩
  | .hbm, ⟨25, _⟩ => ⟨S1024x32, .f32⟩
  | .hbm, ⟨26, _⟩ => ⟨S32x1024, .f32⟩
  | .hbm, ⟨27, _⟩ => ⟨S_, .i32⟩
  | .hbm, ⟨28, _⟩ => ⟨S1, .i32⟩
  | .hbm, ⟨29, _⟩ => ⟨S40x1024, .f32⟩
  | .hbm, ⟨30, _⟩ => ⟨S40x1024, .bf16⟩
  | .hbm, ⟨31, _⟩ => ⟨S40x1024, .f32⟩
  | .hbm, ⟨32, _⟩ => ⟨S40x1024, .f32⟩
  | .hbm, ⟨33, _⟩ => ⟨S40x1024, .bf16⟩
  | .hbm, ⟨34, _⟩ => ⟨S_, .f32⟩
  | .hbm, ⟨35, _⟩ => ⟨S40, .f32⟩
  | .hbm, ⟨36, _⟩ => ⟨S4, .f32⟩
  | .hbm, ⟨37, _⟩ => ⟨S_, .i32⟩
  | .hbm, ⟨38, _⟩ => ⟨S1, .i32⟩
  | .hbm, ⟨39, _⟩ => ⟨S40, .f32⟩
  | .hbm, ⟨40, _⟩ => ⟨S32, .f32⟩
  | .hbm, ⟨41, _⟩ => ⟨S_, .i32⟩
  | .hbm, ⟨42, _⟩ => ⟨S1, .i32⟩
  | .hbm, ⟨43, _⟩ => ⟨S40, .f32⟩
  | .hbm, ⟨44, _⟩ => ⟨S40x1, .f32⟩
  | .hbm, ⟨45, _⟩ => ⟨S65536x1024, .f32⟩
  | .hbm, ⟨46, _⟩ => ⟨S65536x512, .bf16⟩
  | .hbm, ⟨47, _⟩ => ⟨S65536x512, .bf16⟩
  | .hbm, ⟨48, _⟩ => ⟨S1024x2048, .bf16⟩
  | .hbm, ⟨49, _⟩ => ⟨S1x2048, .f32⟩
  | .hbm, ⟨50, _⟩ => ⟨S512x1024, .f32⟩
  | .hbm, ⟨51, _⟩ => ⟨S512x1024, .bf16⟩
  | .hbm, ⟨52, _⟩ => ⟨S512x1024, .f32⟩
  | .hbm, ⟨53, _⟩ => ⟨S512x1024, .bf16⟩
  | .hbm, ⟨54, _⟩ => ⟨S1024x1024, .f32⟩
  | .hbm, ⟨55, _⟩ => ⟨S1024x1024, .bf16⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S80x1024, .bf16⟩
  | .hbm, ⟨61, _⟩ => ⟨S_, .bf16⟩
  | .hbm, ⟨62, _⟩ => ⟨S256x256, .bf16⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S_, .bf16⟩
  | .hbm, ⟨70, _⟩ => ⟨S256x256, .bf16⟩
  | .hbm, ⟨71, _⟩ => ⟨S256x256, .bf16⟩
  | .hbm, ⟨72, _⟩ => ⟨S32768x1024, .f32⟩
  | .hbm, ⟨73, _⟩ => ⟨S32768x512, .i32⟩
  | .hbm, ⟨74, _⟩ => ⟨S8x32768, .f32⟩
  | .hbm, ⟨75, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S80x1024, .bf16⟩
  | .local _ .vmem, ⟨14, _⟩ => ⟨S40x1, .f32⟩
  | .local _ .vmem, ⟨15, _⟩ => ⟨S256x256, .bf16⟩
  | .local _ .vmem, ⟨16, _⟩ => ⟨S512x1024, .f32⟩
  | .local _ .vmem, ⟨17, _⟩ => ⟨S512x1024, .f32⟩
  | .local _ .vmem, ⟨18, _⟩ => ⟨S512x512, .i32⟩
  | .local _ .vmem, ⟨19, _⟩ => ⟨S512x512, .i32⟩
  | .local _ .vmem, ⟨20, _⟩ => ⟨S8x512, .f32⟩
  | .local _ .vmem, ⟨21, _⟩ => ⟨S8x512, .f32⟩
  | .local _ .vmem, ⟨22, _⟩ => ⟨S32x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_cst : Ref sig .tc := ⟨.hbm, 69, rfl⟩
abbrev main_call0_v5 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev main_v43_2 : Ref sig .tc := ⟨.hbm, 74, rfl⟩
abbrev main_v43_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22

abbrev nD : Nat := 1
abbrev τ : Topo := Topo.v7x

variable {F : FTy → Type} [BitOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S80x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
abbrev S16x4096x1024 : Shape := ⟨3, ![16, 4096, 1024]⟩
abbrev S16x4096x512 : Shape := ⟨3, ![16, 4096, 512]⟩
abbrev S1x1024x4352 : Shape := ⟨3, ![1, 1024, 4352]⟩
abbrev S1x4352 : Shape := ⟨2, ![1, 4352]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S1024x4352 : Shape := ⟨2, ![1024, 4352]⟩
abbrev S4352 : Shape := ⟨1, ![4352]⟩
abbrev S1024x2048 : Shape := ⟨2, ![1024, 2048]⟩
abbrev S2048 : Shape := ⟨1, ![2048]⟩
abbrev S_ : Shape := ⟨0, ![]⟩
abbrev S40x1024 : Shape := ⟨2, ![40, 1024]⟩
abbrev S1024x4 : Shape := ⟨2, ![1024, 4]⟩
abbrev S4x1024 : Shape := ⟨2, ![4, 1024]⟩
abbrev S1 : Shape := ⟨1, ![1]⟩
abbrev S1024x32 : Shape := ⟨2, ![1024, 32]⟩
abbrev S32x1024 : Shape := ⟨2, ![32, 1024]⟩
abbrev S40 : Shape := ⟨1, ![40]⟩
abbrev S4 : Shape := ⟨1, ![4]⟩
abbrev S32 : Shape := ⟨1, ![32]⟩
abbrev S40x1 : Shape := ⟨2, ![40, 1]⟩
abbrev S65536x1024 : Shape := ⟨2, ![65536, 1024]⟩
abbrev S65536x512 : Shape := ⟨2, ![65536, 512]⟩
abbrev S1x2048 : Shape := ⟨2, ![1, 2048]⟩
abbrev S512x1024 : Shape := ⟨2, ![512, 1024]⟩
abbrev S1024x1024 : Shape := ⟨2, ![1024, 1024]⟩
abbrev S1024 : Shape := ⟨1, ![1024]⟩
abbrev S80x1024 : Shape := ⟨2, ![80, 1024]⟩
abbrev S256x256 : Shape := ⟨2, ![256, 256]⟩
abbrev S32768x1024 : Shape := ⟨2, ![32768, 1024]⟩
abbrev S32768x2x512 : Shape := ⟨3, ![32768, 2, 512]⟩
abbrev S8x32768 : Shape := ⟨2, ![8, 32768]⟩
abbrev S32x128 : Shape := ⟨2, ![32, 128]⟩
abbrev S32768x1x512 : Shape := ⟨3, ![32768, 1, 512]⟩
abbrev S32768x512 : Shape := ⟨2, ![32768, 512]⟩
abbrev S512x512 : Shape := ⟨2, ![512, 512]⟩
abbrev S512x2x512 : Shape := ⟨3, ![512, 2, 512]⟩
abbrev S512x1x512 : Shape := ⟨3, ![512, 1, 512]⟩
abbrev S8x512 : Shape := ⟨2, ![8, 512]⟩
abbrev S256x1024 : Shape := ⟨2, ![256, 1024]⟩
abbrev S256x512 : Shape := ⟨2, ![256, 512]⟩
abbrev S256x2048 : Shape := ⟨2, ![256, 2048]⟩
abbrev S256 : Shape := ⟨1, ![256]⟩
abbrev S256x1 : Shape := ⟨2, ![256, 1]⟩
abbrev S256x2x512 : Shape := ⟨3, ![256, 2, 512]⟩
abbrev S256x1x512 : Shape := ⟨3, ![256, 1, 512]⟩
abbrev S80x256 : Shape := ⟨2, ![80, 256]⟩
abbrev S40x256 : Shape := ⟨2, ![40, 256]⟩
abbrev S8x256 : Shape := ⟨2, ![8, 256]⟩
abbrev S1x256 : Shape := ⟨2, ![1, 256]⟩
abbrev S32x256 : Shape := ⟨2, ![32, 256]⟩
abbrev S32x1 : Shape := ⟨2, ![32, 1]⟩

abbrev nBuf : Space → Nat
  | .hbm => 76
  | .vmem => 23
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1x1024x4352, .f32⟩
  | .hbm, ⟨4, _⟩ => ⟨S1x4352, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S1024x4352, .f32⟩
  | .hbm, ⟨15, _⟩ => ⟨S4352, .f32⟩
  | .hbm, ⟨16, _⟩ => ⟨S1024x2048, .f32⟩
  | .hbm, ⟨17, _⟩ => ⟨S2048, .f32⟩
  | .hbm, ⟨18, _⟩ => ⟨S_, .f32⟩
  | .hbm, ⟨19, _⟩ => ⟨S40x1024, .f32⟩
  | .hbm, ⟨20, _⟩ => ⟨S1024x4, .f32⟩
  | .hbm, ⟨21, _⟩ => ⟨S4x1024, .f32⟩
  | .hbm, ⟨22, _⟩ => ⟨S_, .i32⟩
  | .hbm, ⟨23, _⟩ => ⟨S1, .i32⟩
  | .hbm, ⟨24, _⟩ => ⟨S40x1024, .f32⟩
  | .hbm, ⟨25, _⟩ => ⟨S1024x32, .f32⟩
  | .hbm, ⟨26, _⟩ => ⟨S32x1024, .f32⟩
  | .hbm, ⟨27, _⟩ => ⟨S_, .i32⟩
  | .hbm, ⟨28, _⟩ => ⟨S1, .i32⟩
  | .hbm, ⟨29, _⟩ => ⟨S40x1024, .f32⟩
  | .hbm, ⟨30, _⟩ => ⟨S40x1024, .bf16⟩
  | .hbm, ⟨31, _⟩ => ⟨S40x1024, .f32⟩
  | .hbm, ⟨32, _⟩ => ⟨S40x1024, .f32⟩
  | .hbm, ⟨33, _⟩ => ⟨S40x1024, .bf16⟩
  | .hbm, ⟨34, _⟩ => ⟨S_, .f32⟩
  | .hbm, ⟨35, _⟩ => ⟨S40, .f32⟩
  | .hbm, ⟨36, _⟩ => ⟨S4, .f32⟩
  | .hbm, ⟨37, _⟩ => ⟨S_, .i32⟩
  | .hbm, ⟨38, _⟩ => ⟨S1, .i32⟩
  | .hbm, ⟨39, _⟩ => ⟨S40, .f32⟩
  | .hbm, ⟨40, _⟩ => ⟨S32, .f32⟩
  | .hbm, ⟨41, _⟩ => ⟨S_, .i32⟩
  | .hbm, ⟨42, _⟩ => ⟨S1, .i32⟩
  | .hbm, ⟨43, _⟩ => ⟨S40, .f32⟩
  | .hbm, ⟨44, _⟩ => ⟨S40x1, .f32⟩
  | .hbm, ⟨45, _⟩ => ⟨S65536x1024, .f32⟩
  | .hbm, ⟨46, _⟩ => ⟨S65536x512, .bf16⟩
  | .hbm, ⟨47, _⟩ => ⟨S65536x512, .bf16⟩
  | .hbm, ⟨48, _⟩ => ⟨S1024x2048, .bf16⟩
  | .hbm, ⟨49, _⟩ => ⟨S1x2048, .f32⟩
  | .hbm, ⟨50, _⟩ => ⟨S512x1024, .f32⟩
  | .hbm, ⟨51, _⟩ => ⟨S512x1024, .bf16⟩
  | .hbm, ⟨52, _⟩ => ⟨S512x1024, .f32⟩
  | .hbm, ⟨53, _⟩ => ⟨S512x1024, .bf16⟩
  | .hbm, ⟨54, _⟩ => ⟨S1024x1024, .f32⟩
  | .hbm, ⟨55, _⟩ => ⟨S1024x1024, .bf16⟩
  | .hbm, ⟨56, _⟩ => ⟨S1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S80x1024, .bf16⟩
  | .hbm, ⟨61, _⟩ => ⟨S_, .bf16⟩
  | .hbm, ⟨62, _⟩ => ⟨S256x256, .bf16⟩
  | .hbm, ⟨63, _⟩ => ⟨S256x256, .i32⟩
  | .hbm, ⟨64, _⟩ => ⟨S_, .i32⟩
  | .hbm, ⟨65, _⟩ => ⟨S256x256, .i32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S_, .bf16⟩
  | .hbm, ⟨70, _⟩ => ⟨S256x256, .bf16⟩
  | .hbm, ⟨71, _⟩ => ⟨S256x256, .bf16⟩
  | .hbm, ⟨72, _⟩ => ⟨S32768x1024, .f32⟩
  | .hbm, ⟨73, _⟩ => ⟨S32768x2x512, .bf16⟩
  | .hbm, ⟨74, _⟩ => ⟨S8x32768, .f32⟩
  | .hbm, ⟨75, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x2048, .bf16⟩
  | .local _ .vmem, ⟨7, _⟩ => ⟨S1x2048, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S80x1024, .bf16⟩
  | .local _ .vmem, ⟨14, _⟩ => ⟨S40x1, .f32⟩
  | .local _ .vmem, ⟨15, _⟩ => ⟨S256x256, .bf16⟩
  | .local _ .vmem, ⟨16, _⟩ => ⟨S512x1024, .f32⟩
  | .local _ .vmem, ⟨17, _⟩ => ⟨S512x1024, .f32⟩
  | .local _ .vmem, ⟨18, _⟩ => ⟨S512x2x512, .bf16⟩
  | .local _ .vmem, ⟨19, _⟩ => ⟨S512x2x512, .bf16⟩
  | .local _ .vmem, ⟨20, _⟩ => ⟨S8x512, .f32⟩
  | .local _ .vmem, ⟨21, _⟩ => ⟨S8x512, .f32⟩
  | .local _ .vmem, ⟨22, _⟩ => ⟨S32x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_3 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_call0_v0 : Ref sig .tc := ⟨.hbm, 63, rfl⟩
abbrev main_call0_c : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_cst : Ref sig .tc := ⟨.hbm, 69, rfl⟩
abbrev main_call0_v5 : Ref sig .tc := ⟨.hbm, 70, rfl⟩
abbrev main_v42 : Ref sig .tc := ⟨.hbm, 71, rfl⟩
abbrev main_v43_0 : Ref sig .tc := ⟨.hbm, 72, rfl⟩
abbrev main_v43_1 : Ref sig .tc := ⟨.hbm, 73, rfl⟩
abbrev main_v43_2 : Ref sig .tc := ⟨.hbm, 74, rfl⟩
abbrev main_v43_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22

abbrev nD : Nat := 1
abbrev τ : Topo := Topo.v7x

variable {F : FTy → Type} [FloatOps F] [Named F]

def κ : String → Option EReal := fun
  | "mask" => some ⊥
  | _ => none

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S80x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S40x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x2x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S32x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S16x4096x1024 : Shape := ⟨3, ![16, 4096, 1024]⟩
abbrev S16x4096x512 : Shape := ⟨3, ![16, 4096, 512]⟩
abbrev S1x1024x4352 : Shape := ⟨3, ![1, 1024, 4352]⟩
abbrev S1x4352 : Shape := ⟨2, ![1, 4352]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S8x4096x1024 : Shape := ⟨3, ![8, 4096, 1024]⟩
abbrev S32768x1024 : Shape := ⟨2, ![32768, 1024]⟩
abbrev S8x4096x512 : Shape := ⟨3, ![8, 4096, 512]⟩
abbrev S32768x512 : Shape := ⟨2, ![32768, 512]⟩
abbrev S1024x4352 : Shape := ⟨2, ![1024, 4352]⟩
abbrev S1024x2048 : Shape := ⟨2, ![1024, 2048]⟩
abbrev S32768x2048 : Shape := ⟨2, ![32768, 2048]⟩
abbrev S4352 : Shape := ⟨1, ![4352]⟩
abbrev S2048 : Shape := ⟨1, ![2048]⟩
abbrev S1x2048 : Shape := ⟨2, ![1, 2048]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩

abbrev nBuf : Space → Nat
  | .hbm => 84
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S1x1024x4352, .f32⟩
  | .hbm, ⟨4, _⟩ => ⟨S1x4352, .f32⟩
  | .hbm, ⟨5, _⟩ => ⟨S1x512x1024, .f32⟩
  | .hbm, ⟨6, _⟩ => ⟨S1x512x1024, .f32⟩
  | .hbm, ⟨7, _⟩ => ⟨S1x1024x1024, .f32⟩
  | .hbm, ⟨8, _⟩ => ⟨S1x1024, .f32⟩
  | .hbm, ⟨9, _⟩ => ⟨S1x1024, .f32⟩
  | .hbm, ⟨10, _⟩ => ⟨S1x1024x4, .f32⟩
  | .hbm, ⟨11, _⟩ => ⟨S1x4, .f32⟩
  | .hbm, ⟨12, _⟩ => ⟨S1x1024x32, .f32⟩
  | .hbm, ⟨13, _⟩ => ⟨S1x32, .f32⟩
  | .hbm, ⟨14, _⟩ => ⟨S8x4096x1024, .f32⟩
  | .hbm, ⟨15, _⟩ => ⟨S32768x1024, .f32⟩
  | .hbm, ⟨16, _⟩ => ⟨S16x4096x512, .f32⟩
  | .hbm, ⟨17, _⟩ => ⟨S8x4096x512, .f32⟩
  | .hbm, ⟨18, _⟩ => ⟨S32768x512, .f32⟩
  | .hbm, ⟨19, _⟩ => ⟨S16x4096x512, .f32⟩
  | .hbm, ⟨20, _⟩ => ⟨S8x4096x512, .f32⟩
  | .hbm, ⟨21, _⟩ => ⟨S32768x512, .f32⟩
  | .hbm, ⟨22, _⟩ => ⟨S1024x4352, .f32⟩
  | .hbm, ⟨23, _⟩ => ⟨S1024x2048, .f32⟩
  | .hbm, ⟨24, _⟩ => ⟨S32768x2048, .f32⟩
  | .hbm, ⟨25, _⟩ => ⟨S4352, .f32⟩
  | .hbm, ⟨26, _⟩ => ⟨S2048, .f32⟩
  | .hbm, ⟨27, _⟩ => ⟨S1x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S_, .f32⟩
  | .hbm, ⟨36, _⟩ => ⟨S32768x2048, .f32⟩
  | .hbm, ⟨37, _⟩ => ⟨S32768x2048, .f32⟩
  | .hbm, ⟨38, _⟩ => ⟨S32768x1024, .f32⟩
  | .hbm, ⟨39, _⟩ => ⟨S512x1024, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S512x1024, .f32⟩
  | .hbm, ⟨44, _⟩ => ⟨S32768x1024, .f32⟩
  | .hbm, ⟨45, _⟩ => ⟨S32768x1024, .f32⟩
  | .hbm, ⟨46, _⟩ => ⟨S32768x1024, .f32⟩
  | .hbm, ⟨47, _⟩ => ⟨S1024x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S1024, .f32⟩
  | .hbm, ⟨54, _⟩ => ⟨S1024, .f32⟩
  | .hbm, ⟨55, _⟩ => ⟨S_, .f32⟩
  | .hbm, ⟨56, _⟩ => ⟨S32768, .f32⟩
  | .hbm, ⟨57, _⟩ => ⟨S32768x1, .f32⟩
  | .hbm, ⟨58, _⟩ => ⟨S_, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S_, .f32⟩
  | .hbm, ⟨65, _⟩ => ⟨S32768, .f32⟩
  | .hbm, ⟨66, _⟩ => ⟨S32768x1, .f32⟩
  | .hbm, ⟨67, _⟩ => ⟨S_, .f32⟩
  | .hbm, ⟨68, _⟩ => ⟨S32768x1, .f32⟩
  | .hbm, ⟨69, _⟩ => ⟨S32768x1, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768x1, .f32⟩
  | .hbm, ⟨74, _⟩ => ⟨S32768x1, .f32⟩
  | .hbm, ⟨75, _⟩ => ⟨S32768x1, .f32⟩
  | .hbm, ⟨76, _⟩ => ⟨S32768x1024, .f32⟩
  | .hbm, ⟨77, _⟩ => ⟨S32768x1024, .f32⟩
  | .hbm, ⟨78, _⟩ => ⟨S1x1024, .f32⟩
  | .hbm, ⟨79, _⟩ => ⟨S32768x1024, .f32⟩
  | .hbm, ⟨80, _⟩ => ⟨S32768x1024, .f32⟩
  | .hbm, ⟨81, _⟩ => ⟨S1x1024, .f32⟩
  | .hbm, ⟨82, _⟩ => ⟨S32768x1024, .f32⟩
  | .hbm, ⟨83, _⟩ => ⟨S32768x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_1 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_2 : Ref sig .tc := ⟨.hbm, 55, rfl⟩
abbrev main_v38 : Ref sig .tc := ⟨.hbm, 56, rfl⟩
abbrev main_v39 : Ref sig .tc := ⟨.hbm, 57, rfl⟩
abbrev main_cst_3 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Kernel2.lean ====
abbrev S16x4096x1024 : Shape := ⟨3, ![16, 4096, 1024]⟩
abbrev S1x1024x4352 : Shape := ⟨3, ![1, 1024, 4352]⟩
abbrev S1x4352 : Shape := ⟨2, ![1, 4352]⟩
abbrev S1x32x1024x512 : Shape := ⟨4, ![1, 32, 1024, 512]⟩
abbrev S1x32x512x1024 : Shape := ⟨4, ![1, 32, 512, 1024]⟩
abbrev S1024x4352 : Shape := ⟨2, ![1024, 4352]⟩
abbrev S4352 : Shape := ⟨1, ![4352]⟩
abbrev S1024x512 : Shape := ⟨2, ![1024, 512]⟩
abbrev S512 : Shape := ⟨1, ![512]⟩
abbrev S1024x128 : Shape := ⟨2, ![1024, 128]⟩
abbrev S128 : Shape := ⟨1, ![128]⟩
abbrev S_ : Shape := ⟨0, ![]⟩
abbrev S1024x64 : Shape := ⟨2, ![1024, 64]⟩
abbrev S1024x256 : Shape := ⟨2, ![1024, 256]⟩
abbrev S1024x1792 : Shape := ⟨2, ![1024, 1792]⟩
abbrev S64 : Shape := ⟨1, ![64]⟩
abbrev S256 : Shape := ⟨1, ![256]⟩
abbrev S1792 : Shape := ⟨1, ![1792]⟩
abbrev S1x1792 : Shape := ⟨2, ![1, 1792]⟩
abbrev S1024x640 : Shape := ⟨2, ![1024, 640]⟩
abbrev S640x1024 : Shape := ⟨2, ![640, 1024]⟩
abbrev S640 : Shape := ⟨1, ![640]⟩
abbrev S640x1 : Shape := ⟨2, ![640, 1]⟩
abbrev S32x1024x512 : Shape := ⟨3, ![32, 1024, 512]⟩
abbrev S32x512x1024 : Shape := ⟨3, ![32, 512, 1024]⟩
abbrev S128x256x512 : Shape := ⟨3, ![128, 256, 512]⟩
abbrev S128x128x1024 : Shape := ⟨3, ![128, 128, 1024]⟩
abbrev S16x4096x1792 : Shape := ⟨3, ![16, 4096, 1792]⟩
abbrev S16x640x4096 : Shape := ⟨3, ![16, 640, 4096]⟩
abbrev S1x512x1024 : Shape := ⟨3, ![1, 512, 1024]⟩
abbrev S1x256x512 : Shape := ⟨3, ![1, 256, 512]⟩
abbrev S1x128x1024 : Shape := ⟨3, ![1, 128, 1024]⟩
abbrev S1x512x1792 : Shape := ⟨3, ![1, 512, 1792]⟩
abbrev S1x640x512 : Shape := ⟨3, ![1, 640, 512]⟩
abbrev S512x1024 : Shape := ⟨2, ![512, 1024]⟩
abbrev S512x1792 : Shape := ⟨2, ![512, 1792]⟩
abbrev S640x512 : Shape := ⟨2, ![640, 512]⟩

abbrev nBuf : Space → Nat
  | .hbm => 58
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S1x1024x4352, .f32⟩
  | .hbm, ⟨2, _⟩ => ⟨S1x4352, .f32⟩
  | .hbm, ⟨3, _⟩ => ⟨S1x32x1024x512, .f32⟩
  | .hbm, ⟨4, _⟩ => ⟨S1x32x1024x512, .f32⟩
  | .hbm, ⟨5, _⟩ => ⟨S1x32x512x1024, .f32⟩
  | .hbm, ⟨6, _⟩ => ⟨S1024x4352, .f32⟩
  | .hbm, ⟨7, _⟩ => ⟨S4352, .f32⟩
  | .hbm, ⟨8, _⟩ => ⟨S1024x512, .f32⟩
  | .hbm, ⟨9, _⟩ => ⟨S512, .f32⟩
  | .hbm, ⟨10, _⟩ => ⟨S1024x128, .f32⟩
  | .hbm, ⟨11, _⟩ => ⟨S128, .f32⟩
  | .hbm, ⟨12, _⟩ => ⟨S1024x128, .f32⟩
  | .hbm, ⟨13, _⟩ => ⟨S128, .f32⟩
  | .hbm, ⟨14, _⟩ => ⟨S1024x512, .f32⟩
  | .hbm, ⟨15, _⟩ => ⟨S512, .f32⟩
  | .hbm, ⟨16, _⟩ => ⟨S1024x512, .f32⟩
  | .hbm, ⟨17, _⟩ => ⟨S512, .f32⟩
  | .hbm, ⟨18, _⟩ => ⟨S1024x512, .f32⟩
  | .hbm, ⟨19, _⟩ => ⟨S512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x64, .f32⟩
  | .hbm, ⟨24, _⟩ => ⟨S1024x64, .f32⟩
  | .hbm, ⟨25, _⟩ => ⟨S1024x256, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x1792, .f32⟩
  | .hbm, ⟨30, _⟩ => ⟨S1024x1792, .bf16⟩
  | .hbm, ⟨31, _⟩ => ⟨S_, .f32⟩
  | .hbm, ⟨32, _⟩ => ⟨S512, .f32⟩
  | .hbm, ⟨33, _⟩ => ⟨S512, .f32⟩
  | .hbm, ⟨34, _⟩ => ⟨S64, .f32⟩
  | .hbm, ⟨35, _⟩ => ⟨S64, .f32⟩
  | .hbm, ⟨36, _⟩ => ⟨S256, .f32⟩
  | .hbm, ⟨37, _⟩ => ⟨S_, .f32⟩
  | .hbm, ⟨38, _⟩ => ⟨S512, .f32⟩
  | .hbm, ⟨39, _⟩ => ⟨S512, .f32⟩
  | .hbm, ⟨40, _⟩ => ⟨S1792, .f32⟩
  | .hbm, ⟨41, _⟩ => ⟨S1x1792, .f32⟩
  | .hbm, ⟨42, _⟩ => ⟨S1024x640, .f32⟩
  | .hbm, ⟨43, _⟩ => ⟨S640x1024, .f32⟩
  | .hbm, ⟨44, _⟩ => ⟨S640x1024, .bf16⟩
  | .hbm, ⟨45, _⟩ => ⟨S640, .f32⟩
  | .hbm, ⟨46, _⟩ => ⟨S640x1, .f32⟩
  | .hbm, ⟨47, _⟩ => ⟨S32x1024x512, .f32⟩
  | .hbm, ⟨48, _⟩ => ⟨S32x1024x512, .f32⟩
  | .hbm, ⟨49, _⟩ => ⟨S32x512x1024, .f32⟩
  | .hbm, ⟨50, _⟩ => ⟨S128x256x512, .f32⟩
  | .hbm, ⟨51, _⟩ => ⟨S128x256x512, .f32⟩
  | .hbm, ⟨52, _⟩ => ⟨S128x128x1024, .f32⟩
  | .hbm, ⟨53, _⟩ => ⟨S16x4096x1792, .bf16⟩
  | .hbm, ⟨54, _⟩ => ⟨S16x640x4096, .bf16⟩
  | .hbm, ⟨55, _⟩ => ⟨S128x256x512, .bf16⟩
  | .hbm, ⟨56, _⟩ => ⟨S128x256x512, .bf16⟩
  | .hbm, ⟨57, _⟩ => ⟨S128x128x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1024x1792, .bf16⟩
  | .local _ .vmem, ⟨3, _⟩ => ⟨S1x1792, .f32⟩
  | .local _ .vmem, ⟨4, _⟩ => ⟨S640x1024, .bf16⟩
  | .local _ .vmem, ⟨5, _⟩ => ⟨S640x1, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x128x1024, .f32⟩
  | .local _ .vmem, ⟨11, _⟩ => ⟨S1x128x1024, .f32⟩
  | .local _ .vmem, ⟨12, _⟩ => ⟨S1x512x1792, .bf16⟩
  | .local _ .vmem, ⟨13, _⟩ => ⟨S1x512x1792, .bf16⟩
  | .local _ .vmem, ⟨14, _⟩ => ⟨S1x640x512, .bf16⟩
  | .local _ .vmem, ⟨15, _⟩ => ⟨S1x640x512, .bf16⟩
  | .local _ .vmem, ⟨16, _⟩ => ⟨S1x256x512, .bf16⟩
  | .local _ .vmem, ⟨17, _⟩ => ⟨S1x256x512, .bf16⟩
  | .local _ .vmem, ⟨18, _⟩ => ⟨S1x256x512, .bf16⟩
  | .local _ .vmem, ⟨19, _⟩ => ⟨S1x256x512, .bf16⟩
  | .local _ .vmem, ⟨20, _⟩ => ⟨S1x128x1024, .bf16⟩
  | .local _ .vmem, ⟨21, _⟩ => ⟨S1x128x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev main_v43_2 : Ref sig .tc := ⟨.hbm, 55, rfl⟩
abbrev main_v43_3 : Ref sig .tc := ⟨.hbm, 56, rfl⟩
abbrev main_v43_4 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1792 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S640x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1792 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x640x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference2Ideal.lean ====
abbrev S16x4096x1024 : Shape := ⟨3, ![16, 4096, 1024]⟩
abbrev S1x1024x4352 : Shape := ⟨3, ![1, 1024, 4352]⟩
abbrev S1x4352 : Shape := ⟨2, ![1, 4352]⟩
abbrev S1x32x1024x512 : Shape := ⟨4, ![1, 32, 1024, 512]⟩
abbrev S1x32x512x1024 : Shape := ⟨4, ![1, 32, 512, 1024]⟩
abbrev S1024x4352 : Shape := ⟨2, ![1024, 4352]⟩
abbrev S1024x2304 : Shape := ⟨2, ![1024, 2304]⟩
abbrev S16x4096x2304 : Shape := ⟨3, ![16, 4096, 2304]⟩
abbrev S4352 : Shape := ⟨1, ![4352]⟩
abbrev S2304 : Shape := ⟨1, ![2304]⟩
abbrev S1x1x2304 : Shape := ⟨3, ![1, 1, 2304]⟩
abbrev S16x4096x512 : Shape := ⟨3, ![16, 4096, 512]⟩
abbrev S16x4096x128 : Shape := ⟨3, ![16, 4096, 128]⟩
abbrev S16x4096x2x64 : Shape := ⟨4, ![16, 4096, 2, 64]⟩
abbrev S1x16x1x4096x1x2x1x64 : Shape := ⟨8, ![1, 16, 1, 4096, 1, 2, 1, 64]⟩
abbrev S1x16x1x4096x1x2x2x64 : Shape := ⟨8, ![1, 16, 1, 4096, 1, 2, 2, 64]⟩
abbrev S16x4096x2x128 : Shape := ⟨4, ![16, 4096, 2, 128]⟩
abbrev S16x4096x256 : Shape := ⟨3, ![16, 4096, 256]⟩
abbrev S_ : Shape := ⟨0, ![]⟩
abbrev S16x4096x1792 : Shape := ⟨3, ![16, 4096, 1792]⟩
abbrev S16x4096x640 : Shape := ⟨3, ![16, 4096, 640]⟩
abbrev S16x640x4096 : Shape := ⟨3, ![16, 640, 4096]⟩
abbrev S128x256x512 : Shape := ⟨3, ![128, 256, 512]⟩
abbrev S128x128x1024 : Shape := ⟨3, ![128, 128, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1x1024x4352, .f32⟩
  | .hbm, ⟨2, _⟩ => ⟨S1x4352, .f32⟩
  | .hbm, ⟨3, _⟩ => ⟨S1x32x1024x512, .f32⟩
  | .hbm, ⟨4, _⟩ => ⟨S1x32x1024x512, .f32⟩
  | .hbm, ⟨5, _⟩ => ⟨S1x32x512x1024, .f32⟩
  | .hbm, ⟨6, _⟩ => ⟨S1024x4352, .f32⟩
  | .hbm, ⟨7, _⟩ => ⟨S1024x2304, .f32⟩
  | .hbm, ⟨8, _⟩ => ⟨S16x4096x2304, .f32⟩
  | .hbm, ⟨9, _⟩ => ⟨S4352, .f32⟩
  | .hbm, ⟨10, _⟩ => ⟨S2304, .f32⟩
  | .hbm, ⟨11, _⟩ => ⟨S1x1x2304, .f32⟩
  | .hbm, ⟨12, _⟩ => ⟨S16x4096x2304, .f32⟩
  | .hbm, ⟨13, _⟩ => ⟨S16x4096x2304, .f32⟩
  | .hbm, ⟨14, _⟩ => ⟨S16x4096x512, .f32⟩
  | .hbm, ⟨15, _⟩ => ⟨S16x4096x128, .f32⟩
  | .hbm, ⟨16, _⟩ => ⟨S16x4096x128, .f32⟩
  | .hbm, ⟨17, _⟩ => ⟨S16x4096x512, .f32⟩
  | .hbm, ⟨18, _⟩ => ⟨S16x4096x512, .f32⟩
  | .hbm, ⟨19, _⟩ => ⟨S16x4096x512, .f32⟩
  | .hbm, ⟨20, _⟩ => ⟨S16x4096x2x64, .f32⟩
  | .hbm, ⟨21, _⟩ => ⟨S1x16x1x4096x1x2x1x64, .f32⟩
  | .hbm, ⟨22, _⟩ => ⟨S1x16x1x4096x1x2x2x64, .f32⟩
  | .hbm, ⟨23, _⟩ => ⟨S16x4096x2x128, .f32⟩
  | .hbm, ⟨24, _⟩ => ⟨S16x4096x256, .f32⟩
  | .hbm, ⟨25, _⟩ => ⟨S_, .f32⟩
  | .hbm, ⟨26, _⟩ => ⟨S16x4096x512, .f32⟩
  | .hbm, ⟨27, _⟩ => ⟨S16x4096x512, .f32⟩
  | .hbm, ⟨28, _⟩ => ⟨S_, .f32⟩
  | .hbm, ⟨29, _⟩ => ⟨S16x4096x512, .f32⟩
  | .hbm, ⟨30, _⟩ => ⟨S16x4096x512, .f32⟩
  | .hbm, ⟨31, _⟩ => ⟨S16x4096x1792, .f32⟩
  | .hbm, ⟨32, _⟩ => ⟨S16x4096x640, .f32⟩
  | .hbm, ⟨33, _⟩ => ⟨S16x640x4096, .f32⟩
  | .hbm, ⟨34, _⟩ => ⟨S128x256x512, .f32⟩
  | .hbm, ⟨35, _⟩ => ⟨S128x256x512, .f32⟩
  | .hbm, ⟨36, _⟩ => ⟨S128x128x1024, .f32⟩
  | .hbm, ⟨37, _⟩ => ⟨S16x4096x1792, .bf16⟩
  | .hbm, ⟨38, _⟩ => ⟨S16x640x4096, .bf16⟩
  | .hbm, ⟨39, _⟩ => ⟨S128x256x512, .bf16⟩
  | .hbm, ⟨40, _⟩ => ⟨S128x256x512, .bf16⟩
  | .hbm, ⟨41, _⟩ => ⟨S128x128x1024, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]
-- ==== Kernel3.lean ====
abbrev S160 : Shape := ⟨1, ![160]⟩
abbrev S81920x512 : Shape := ⟨2, ![81920, 512]⟩
abbrev S32x1024x512 : Shape := ⟨3, ![32, 1024, 512]⟩
abbrev S32x512x1024 : Shape := ⟨3, ![32, 512, 1024]⟩
abbrev S81920x1024 : Shape := ⟨2, ![81920, 1024]⟩
abbrev S512x512 : Shape := ⟨2, ![512, 512]⟩
abbrev S1x1024x512 : Shape := ⟨3, ![1, 1024, 512]⟩
abbrev S1 : Shape := ⟨1, ![1]⟩
abbrev S1x512x1024 : Shape := ⟨3, ![1, 512, 1024]⟩
abbrev S512x1024 : Shape := ⟨2, ![512, 1024]⟩
abbrev S1024x512 : Shape := ⟨2, ![1024, 512]⟩
abbrev S256x512 : Shape := ⟨2, ![256, 512]⟩
abbrev S256x1024 : Shape := ⟨2, ![256, 1024]⟩

abbrev nBuf : Space → Nat
  | .hbm => 5
  | .vmem => 10
  | .smem => 2
  | _ => 0

abbrev bufTy : (tb : Table) → Fin (tcTables nBuf tb) → BufTy
  | .hbm, ⟨0, _⟩ => ⟨S81920x512, .i32⟩
  | .hbm, ⟨1, _⟩ => ⟨S32x1024x512, .bf16⟩
  | .hbm, ⟨2, _⟩ => ⟨S32x1024x512, .bf16⟩
  | .hbm, ⟨3, _⟩ => ⟨S32x512x1024, .bf16⟩
  | .hbm, ⟨4, _⟩ => ⟨S81920x1024, .bf16⟩
  | .local _ .vmem, ⟨0, _⟩ => ⟨S512x512, .i32⟩
  | .local _ .vmem, ⟨1, _⟩ => ⟨S512x512, .i32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .bf16⟩
  | .local _ .vmem, ⟨9, _⟩ => ⟨S512x1024, .bf16⟩
  | .local _ .smem, ⟨0, _⟩ => ⟨S160, .i32⟩
  | .local _ .smem, ⟨1, _⟩ => ⟨S160, .i32⟩
  | _, _ => ⟨S81920x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c256_i32 : BitVec 32 := 256#32
  let v2 : BitVec 1 := Scalar.cmpi .sgt v1 c256_i32
  let v3 : BitVec 32 := Scalar.extui v2
  let c0_i32 : BitVec 32 := 0#32
  let v4 : BitVec 1 := Scalar.cmpi .ne v3 c0_i32
  v4

def k0_cond2 (v1 : BitVec 32) : BitVec 1 :=
  let c0_i32_0 : BitVec 32 := 0#32
  let v5 : BitVec 1 := Scalar.cmpi .sgt v1 c0_i32_0
  let c256_i32_1 : BitVec 32 := 256#32
  let v6 : BitVec 1 := Scalar.cmpi .sle v1 c256_i32_1
  let v7 : BitVec 1 := Scalar.andi v5 v6
  let v8 : BitVec 32 := Scalar.extui v7
  let c0_i32_2 : BitVec 32 := 0#32
  let v9 : BitVec 1 := Scalar.cmpi .ne v8 c0_i32_2
  v9

def k0_cond3 (v1 : BitVec 32) : BitVec 1 :=
  let c0_i32_3 : BitVec 32 := 0#32
  let v10 : BitVec 1 := Scalar.cmpi .sle v1 c0_i32_3
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S160 : Shape := ⟨1, ![160]⟩
abbrev S81920x512 : Shape := ⟨2, ![81920, 512]⟩
abbrev S32x1024x512 : Shape := ⟨3, ![32, 1024, 512]⟩
abbrev S32x512x1024 : Shape := ⟨3, ![32, 512, 1024]⟩
abbrev S81920x512x2 : Shape := ⟨3, ![81920, 512, 2]⟩
abbrev S81920x512x1 : Shape := ⟨3, ![81920, 512, 1]⟩
abbrev S81920x1024 : Shape := ⟨2, ![81920, 1024]⟩
abbrev S160x512x1024 : Shape := ⟨3, ![160, 512, 1024]⟩
abbrev S_ : Shape := ⟨0, ![]⟩
abbrev S160x1 : Shape := ⟨2, ![160, 1]⟩
abbrev S160x1024x512 : Shape := ⟨3, ![160, 1024, 512]⟩
abbrev S160x512x512 : Shape := ⟨3, ![160, 512, 512]⟩
abbrev S512 : Shape := ⟨1, ![512]⟩
abbrev S1x512x1 : Shape := ⟨3, ![1, 512, 1]⟩
abbrev S160x1x1 : Shape := ⟨3, ![160, 1, 1]⟩
abbrev S160x512x1 : Shape := ⟨3, ![160, 512, 1]⟩

abbrev nBuf : Space → Nat
  | .hbm => 70
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S81920x512, .i32⟩
  | .hbm, ⟨3, _⟩ => ⟨S32x1024x512, .bf16⟩
  | .hbm, ⟨4, _⟩ => ⟨S32x1024x512, .bf16⟩
  | .hbm, ⟨5, _⟩ => ⟨S32x512x1024, .bf16⟩
  | .hbm, ⟨6, _⟩ => ⟨S81920x512x2, .bf16⟩
  | .hbm, ⟨7, _⟩ => ⟨S81920x512x1, .bf16⟩
  | .hbm, ⟨8, _⟩ => ⟨S81920x512, .bf16⟩
  | .hbm, ⟨9, _⟩ => ⟨S81920x512x1, .bf16⟩
  | .hbm, ⟨10, _⟩ => ⟨S81920x512, .bf16⟩
  | .hbm, ⟨11, _⟩ => ⟨S81920x1024, .bf16⟩
  | .hbm, ⟨12, _⟩ => ⟨S81920x1024, .f32⟩
  | .hbm, ⟨13, _⟩ => ⟨S160x512x1024, .f32⟩
  | .hbm, ⟨14, _⟩ => ⟨S_, .i32⟩
  | .hbm, ⟨15, _⟩ => ⟨S160, .i32⟩
  | .hbm, ⟨16, _⟩ => ⟨S160, .i1⟩
  | .hbm, ⟨17, _⟩ => ⟨S_, .i32⟩
  | .hbm, ⟨18, _⟩ => ⟨S160, .i32⟩
  | .hbm, ⟨19, _⟩ => ⟨S160, .i32⟩
  | .hbm, ⟨20, _⟩ => ⟨S160, .i32⟩
  | .hbm, ⟨21, _⟩ => ⟨S160x1, .i32⟩
  | .hbm, ⟨22, _⟩ => ⟨S160x1024x512, .bf16⟩
  | .hbm, ⟨23, _⟩ => ⟨S160x1024x512, .f32⟩
  | .hbm, ⟨24, _⟩ => ⟨S160x512x512, .f32⟩
  | .hbm, ⟨25, _⟩ => ⟨S_, .i32⟩
  | .hbm, ⟨26, _⟩ => ⟨S160, .i32⟩
  | .hbm, ⟨27, _⟩ => ⟨S160, .i1⟩
  | .hbm, ⟨28, _⟩ => ⟨S_, .i32⟩
  | .hbm, ⟨29, _⟩ => ⟨S160, .i32⟩
  | .hbm, ⟨30, _⟩ => ⟨S160, .i32⟩
  | .hbm, ⟨31, _⟩ => ⟨S160, .i32⟩
  | .hbm, ⟨32, _⟩ => ⟨S160x1, .i32⟩
  | .hbm, ⟨33, _⟩ => ⟨S160x1024x512, .bf16⟩
  | .hbm, ⟨34, _⟩ => ⟨S160x1024x512, .f32⟩
  | .hbm, ⟨35, _⟩ => ⟨S160x512x512, .f32⟩
  | .hbm, ⟨36, _⟩ => ⟨S160x512x512, .f32⟩
  | .hbm, ⟨37, _⟩ => ⟨S160x512x512, .f32⟩
  | .hbm, ⟨38, _⟩ => ⟨S_, .f32⟩
  | .hbm, ⟨39, _⟩ => ⟨S160x512x512, .f32⟩
  | .hbm, ⟨40, _⟩ => ⟨S160x512x512, .f32⟩
  | .hbm, ⟨41, _⟩ => ⟨S_, .f32⟩
  | .hbm, ⟨42, _⟩ => ⟨S160x512x512, .f32⟩
  | .hbm, ⟨43, _⟩ => ⟨S160x512x512, .f32⟩
  | .hbm, ⟨44, _⟩ => ⟨S160x512x512, .f32⟩
  | .hbm, ⟨45, _⟩ => ⟨S160x512x512, .f32⟩
  | .hbm, ⟨46, _⟩ => ⟨S_, .i32⟩
  | .hbm, ⟨47, _⟩ => ⟨S160, .i32⟩
  | .hbm, ⟨48, _⟩ => ⟨S160, .i1⟩
  | .hbm, ⟨49, _⟩ => ⟨S_, .i32⟩
  | .hbm, ⟨50, _⟩ => ⟨S160, .i32⟩
  | .hbm, ⟨51, _⟩ => ⟨S160, .i32⟩
  | .hbm, ⟨52, _⟩ => ⟨S160, .i32⟩
  | .hbm, ⟨53, _⟩ => ⟨S160x1, .i32⟩
  | .hbm, ⟨54, _⟩ => ⟨S160x512x1024, .bf16⟩
  | .hbm, ⟨55, _⟩ => ⟨S160x512x1024, .f32⟩
  | .hbm, ⟨56, _⟩ => ⟨S160x512x1024, .f32⟩
  | .hbm, ⟨57, _⟩ => ⟨S512, .i32⟩
  | .hbm, ⟨58, _⟩ => ⟨S1x512x1, .i32⟩
  | .hbm, ⟨59, _⟩ => ⟨S160x1x1, .i32⟩
  | .hbm, ⟨60, _⟩ => ⟨S160x512x1, .i32⟩
  | .hbm, ⟨61, _⟩ => ⟨S160x512x1, .i32⟩
  | .hbm, ⟨62, _⟩ => ⟨S160x512x1, .i1⟩
  | .hbm, ⟨63, _⟩ => ⟨S_, .f32⟩
  | .hbm, ⟨64, _⟩ => ⟨S_, .f32⟩
  | .hbm, ⟨65, _⟩ => ⟨S160x512x1024, .i1⟩
  | .hbm, ⟨66, _⟩ => ⟨S160x512x1024, .f32⟩
  | .hbm, ⟨67, _⟩ => ⟨S160x512x1024, .f32⟩
  | .hbm, ⟨68, _⟩ => ⟨S81920x1024, .f32⟩
  | .hbm, ⟨69, _⟩ => ⟨S81920x1024, .bf16⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Kernel4.lean ====
abbrev S32768x1024 : Shape := ⟨2, ![32768, 1024]⟩
abbrev S65536x512 : Shape := ⟨2, ![65536, 512]⟩
abbrev S8x32768 : Shape := ⟨2, ![8, 32768]⟩
abbrev S1x1024 : Shape := ⟨2, ![1, 1024]⟩
abbrev S1024 : Shape := ⟨1, ![1024]⟩
abbrev S65536x1024 : Shape := ⟨2, ![65536, 1024]⟩
abbrev S1024x1024 : Shape := ⟨2, ![1024, 1024]⟩
abbrev S1024x512 : Shape := ⟨2, ![1024, 512]⟩
abbrev S8x1024 : Shape := ⟨2, ![8, 1024]⟩
abbrev S1024x8 : Shape := ⟨2, ![1024, 8]⟩
abbrev S1024x1 : Shape := ⟨2, ![1024, 1]⟩

abbrev nBuf : Space → Nat
  | .hbm => 14
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S65536x512, .i32⟩
  | .hbm, ⟨2, _⟩ => ⟨S8x32768, .f32⟩
  | .hbm, ⟨3, _⟩ => ⟨S32768x1024, .f32⟩
  | .hbm, ⟨4, _⟩ => ⟨S65536x512, .i32⟩
  | .hbm, ⟨5, _⟩ => ⟨S8x32768, .f32⟩
  | .hbm, ⟨6, _⟩ => ⟨S1x1024, .f32⟩
  | .hbm, ⟨7, _⟩ => ⟨S1x1024, .f32⟩
  | .hbm, ⟨8, _⟩ => ⟨S1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S65536x1024, .f32⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .i32⟩
  | .local _ .vmem, ⟨3, _⟩ => ⟨S1024x512, .i32⟩
  | .local _ .vmem, ⟨4, _⟩ => ⟨S1024x512, .i32⟩
  | .local _ .vmem, ⟨5, _⟩ => ⟨S1024x512, .i32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x512, .i32⟩
  | .local _ .vmem, ⟨15, _⟩ => ⟨S1024x512, .i32⟩
  | .local _ .vmem, ⟨16, _⟩ => ⟨S1024x512, .i32⟩
  | .local _ .vmem, ⟨17, _⟩ => ⟨S1024x512, .i32⟩
  | .local _ .vmem, ⟨18, _⟩ => ⟨S8x1024, .f32⟩
  | .local _ .vmem, ⟨19, _⟩ => ⟨S8x1024, .f32⟩
  | .local _ .vmem, ⟨20, _⟩ => ⟨S1x1024, .f32⟩
  | .local _ .vmem, ⟨21, _⟩ => ⟨S1x1024, .f32⟩
  | .local _ .vmem, ⟨22, _⟩ => ⟨S1024x1024, .f32⟩
  | .local _ .vmem, ⟨23, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![v0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x512 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== Reference4Ideal.lean ====
abbrev S32768x1024 : Shape := ⟨2, ![32768, 1024]⟩
abbrev S65536x512 : Shape := ⟨2, ![65536, 512]⟩
abbrev S8x32768 : Shape := ⟨2, ![8, 32768]⟩
abbrev S1x1024 : Shape := ⟨2, ![1, 1024]⟩
abbrev S65536x512x2 : Shape := ⟨3, ![65536, 512, 2]⟩
abbrev S65536x512x1 : Shape := ⟨3, ![65536, 512, 1]⟩
abbrev S65536x1024 : Shape := ⟨2, ![65536, 1024]⟩
abbrev S1x32768 : Shape := ⟨2, ![1, 32768]⟩
abbrev S32768 : Shape := ⟨1, ![32768]⟩
abbrev S32768x1 : Shape := ⟨2, ![32768, 1]⟩
abbrev S_ : Shape := ⟨0, ![]⟩
abbrev S1024 : Shape := ⟨1, ![1024]⟩

abbrev nBuf : Space → Nat
  | .hbm => 119
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S65536x512, .i32⟩
  | .hbm, ⟨2, _⟩ => ⟨S8x32768, .f32⟩
  | .hbm, ⟨3, _⟩ => ⟨S32768x1024, .f32⟩
  | .hbm, ⟨4, _⟩ => ⟨S65536x512, .i32⟩
  | .hbm, ⟨5, _⟩ => ⟨S8x32768, .f32⟩
  | .hbm, ⟨6, _⟩ => ⟨S1x1024, .f32⟩
  | .hbm, ⟨7, _⟩ => ⟨S1x1024, .f32⟩
  | .hbm, ⟨8, _⟩ => ⟨S65536x512x2, .bf16⟩
  | .hbm, ⟨9, _⟩ => ⟨S65536x512x1, .bf16⟩
  | .hbm, ⟨10, _⟩ => ⟨S65536x512, .bf16⟩
  | .hbm, ⟨11, _⟩ => ⟨S65536x512x1, .bf16⟩
  | .hbm, ⟨12, _⟩ => ⟨S65536x512, .bf16⟩
  | .hbm, ⟨13, _⟩ => ⟨S65536x1024, .bf16⟩
  | .hbm, ⟨14, _⟩ => ⟨S65536x1024, .f32⟩
  | .hbm, ⟨15, _⟩ => ⟨S32768x1024, .f32⟩
  | .hbm, ⟨16, _⟩ => ⟨S1x32768, .f32⟩
  | .hbm, ⟨17, _⟩ => ⟨S32768, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S1x32768, .f32⟩
  | .hbm, ⟨23, _⟩ => ⟨S32768, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S65536x512x2, .bf16⟩
  | .hbm, ⟨64, _⟩ => ⟨S65536x512x1, .bf16⟩
  | .hbm, ⟨65, _⟩ => ⟨S65536x512, .bf16⟩
  | .hbm, ⟨66, _⟩ => ⟨S65536x512x1, .bf16⟩
  | .hbm, ⟨67, _⟩ => ⟨S65536x512, .bf16⟩
  | .hbm, ⟨68, _⟩ => ⟨S65536x1024, .bf16⟩
  | .hbm, ⟨69, _⟩ => ⟨S65536x1024, .f32⟩
  | .hbm, ⟨70, _⟩ => ⟨S32768x1024, .f32⟩
  | .hbm, ⟨71, _⟩ => ⟨S1x32768, .f32⟩
  | .hbm, ⟨72, _⟩ => ⟨S32768, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S1x32768, .f32⟩
  | .hbm, ⟨78, _⟩ => ⟨S32768, .f32⟩
  | .hbm, ⟨79, _⟩ => ⟨S32768x1, .f32⟩
  | .hbm, ⟨80, _⟩ => ⟨S32768x1024, .f32⟩
  | .hbm, ⟨81, _⟩ => ⟨S32768x1024, .f32⟩
  | .hbm, ⟨82, _⟩ => ⟨S32768x1024, .f32⟩
  | .hbm, ⟨83, _⟩ => ⟨S_, .f32⟩
  | .hbm, ⟨84, _⟩ => ⟨S32768x1024, .f32⟩
  | .hbm, ⟨85, _⟩ => ⟨S32768x1024, .f32⟩
  | .hbm, ⟨86, _⟩ => ⟨S32768x1024, .f32⟩
  | .hbm, ⟨87, _⟩ => ⟨S1024, .f32⟩
  | .hbm, ⟨88, _⟩ => ⟨S1024, .f32⟩
  | .hbm, ⟨89, _⟩ => ⟨S_, .f32⟩
  | .hbm, ⟨90, _⟩ => ⟨S32768, .f32⟩
  | .hbm, ⟨91, _⟩ => ⟨S32768x1, .f32⟩
  | .hbm, ⟨92, _⟩ => ⟨S_, .f32⟩
  | .hbm, ⟨93, _⟩ => ⟨S32768x1, .f32⟩
  | .hbm, ⟨94, _⟩ => ⟨S32768x1, .f32⟩
  | .hbm, ⟨95, _⟩ => ⟨S32768x1024, .f32⟩
  | .hbm, ⟨96, _⟩ => ⟨S32768x1024, .f32⟩
  | .hbm, ⟨97, _⟩ => ⟨S32768x1024, .f32⟩
  | .hbm, ⟨98, _⟩ => ⟨S_, .f32⟩
  | .hbm, ⟨99, _⟩ => ⟨S32768, .f32⟩
  | .hbm, ⟨100, _⟩ => ⟨S32768x1, .f32⟩
  | .hbm, ⟨101, _⟩ => ⟨S_, .f32⟩
  | .hbm, ⟨102, _⟩ => ⟨S32768x1, .f32⟩
  | .hbm, ⟨103, _⟩ => ⟨S32768x1, .f32⟩
  | .hbm, ⟨104, _⟩ => ⟨S32768x1024, .f32⟩
  | .hbm, ⟨105, _⟩ => ⟨S32768x1024, .f32⟩
  | .hbm, ⟨106, _⟩ => ⟨S_, .f32⟩
  | .hbm, ⟨107, _⟩ => ⟨S32768x1, .f32⟩
  | .hbm, ⟨108, _⟩ => ⟨S32768x1, .f32⟩
  | .hbm, ⟨109, _⟩ => ⟨S32768x1, .f32⟩
  | .hbm, ⟨110, _⟩ => ⟨S32768x1024, .f32⟩
  | .hbm, ⟨111, _⟩ => ⟨S32768x1024, .f32⟩
  | .hbm, ⟨112, _⟩ => ⟨S1x1024, .f32⟩
  | .hbm, ⟨113, _⟩ => ⟨S32768x1024, .f32⟩
  | .hbm, ⟨114, _⟩ => ⟨S32768x1024, .f32⟩
  | .hbm, ⟨115, _⟩ => ⟨S1x1024, .f32⟩
  | .hbm, ⟨116, _⟩ => ⟨S32768x1024, .f32⟩
  | .hbm, ⟨117, _⟩ => ⟨S32768x1024, .f32⟩
  | .hbm, ⟨118, _⟩ => ⟨S65536x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_cst_6 : Ref sig .tc := ⟨.hbm, 89, rfl⟩
abbrev main_v74 : Ref sig .tc := ⟨.hbm, 90, rfl⟩
abbrev main_v75 : Ref sig .tc := ⟨.hbm, 91, rfl⟩
abbrev main_cst_7 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_8 : Ref sig .tc := ⟨.hbm, 98, rfl⟩
abbrev main_v81 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_10 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩

abbrev nD : Nat := 1
abbrev τ : Topo := Topo.v7x

variable {F : FTy → Type} [FloatOps F]
-- ==== Kernel5.lean ====
abbrev S8x32768 : Shape := ⟨2, ![8, 32768]⟩
abbrev S32 : Shape := ⟨1, ![32]⟩
abbrev S32x1 : Shape := ⟨2, ![32, 1]⟩
abbrev S8x8192 : Shape := ⟨2, ![8, 8192]⟩
abbrev S32x8192 : Shape := ⟨2, ![32, 8192]⟩
abbrev S1x8192 : Shape := ⟨2, ![1, 8192]⟩
abbrev S8192 : Shape := ⟨1, ![8192]⟩

abbrev nBuf : Space → Nat
  | .hbm => 5
  | .vmem => 5
  | .smem => 0
  | _ => 0

abbrev bufTy : (tb : Table) → Fin (tcTables nBuf tb) → BufTy
  | .hbm, ⟨0, _⟩ => ⟨S8x32768, .f32⟩
  | .hbm, ⟨1, _⟩ => ⟨S32, .i32⟩
  | .hbm, ⟨2, _⟩ => ⟨S32, .f32⟩
  | .hbm, ⟨3, _⟩ => ⟨S32x1, .f32⟩
  | .hbm, ⟨4, _⟩ => ⟨S8x32768, .i32⟩
  | .local _ .vmem, ⟨0, _⟩ => ⟨S8x8192, .f32⟩
  | .local _ .vmem, ⟨1, _⟩ => ⟨S8x8192, .f32⟩
  | .local _ .vmem, ⟨2, _⟩ => ⟨S32x1, .f32⟩
  | .local _ .vmem, ⟨3, _⟩ => ⟨S8x8192, .i32⟩
  | .local _ .vmem, ⟨4, _⟩ => ⟨S8x8192, .i32⟩
  | _, _ => ⟨S8x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S8x32768 : Shape := ⟨2, ![8, 32768]⟩
abbrev S32 : Shape := ⟨1, ![32]⟩
abbrev S2x32768 : Shape := ⟨2, ![2, 32768]⟩
abbrev S_ : Shape := ⟨0, ![]⟩
abbrev S2x32768x1 : Shape := ⟨3, ![2, 32768, 1]⟩
abbrev S6x32768 : Shape := ⟨2, ![6, 32768]⟩

abbrev nBuf : Space → Nat
  | .hbm => 20
  | .vmem => 0
  | .smem => 0
  | _ => 0

abbrev bufTy : (tb : Table) → Fin (tcTables nBuf tb) → BufTy
  | .hbm, ⟨0, _⟩ => ⟨S8x32768, .f32⟩
  | .hbm, ⟨1, _⟩ => ⟨S32, .i32⟩
  | .hbm, ⟨2, _⟩ => ⟨S2x32768, .f32⟩
  | .hbm, ⟨3, _⟩ => ⟨S2x32768, .i32⟩
  | .hbm, ⟨4, _⟩ => ⟨S32, .f32⟩
  | .hbm, ⟨5, _⟩ => ⟨S_, .i32⟩
  | .hbm, ⟨6, _⟩ => ⟨S2x32768, .i32⟩
  | .hbm, ⟨7, _⟩ => ⟨S2x32768, .i1⟩
  | .hbm, ⟨8, _⟩ => ⟨S_, .i32⟩
  | .hbm, ⟨9, _⟩ => ⟨S2x32768, .i32⟩
  | .hbm, ⟨10, _⟩ => ⟨S2x32768, .i32⟩
  | .hbm, ⟨11, _⟩ => ⟨S2x32768, .i32⟩
  | .hbm, ⟨12, _⟩ => ⟨S2x32768x1, .i32⟩
  | .hbm, ⟨13, _⟩ => ⟨S2x32768, .f32⟩
  | .hbm, ⟨14, _⟩ => ⟨S2x32768, .f32⟩
  | .hbm, ⟨15, _⟩ => ⟨S2x32768, .f32⟩
  | .hbm, ⟨16, _⟩ => ⟨S2x32768, .i32⟩
  | .hbm, ⟨17, _⟩ => ⟨S_, .i32⟩
  | .hbm, ⟨18, _⟩ => ⟨S6x32768, .i32⟩
  | .hbm, ⟨19, _⟩ => ⟨S8x32768, .i32⟩
  | _, _ => ⟨S8x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_1 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S32x16 : Shape := ⟨2, ![32, 16]⟩
abbrev S512x256 : Shape := ⟨2, ![512, 256]⟩
abbrev S32x8 : Shape := ⟨2, ![32, 8]⟩
abbrev S8x32 : Shape := ⟨2, ![8, 32]⟩
abbrev S8x1 : Shape := ⟨2, ![8, 1]⟩
abbrev S8 : Shape := ⟨1, ![8]⟩
abbrev S8x512x256 : Shape := ⟨3, ![8, 512, 256]⟩
abbrev S1x512x256 : Shape := ⟨3, ![1, 512, 256]⟩
abbrev S1x1 : Shape := ⟨2, ![1, 1]⟩
abbrev S1 : Shape := ⟨1, ![1]⟩

abbrev nBuf : Space → Nat
  | .hbm => 7
  | .vmem => 3
  | .smem => 2
  | _ => 0

abbrev bufTy : (tb : Table) → Fin (tcTables nBuf tb) → BufTy
  | .hbm, ⟨0, _⟩ => ⟨S32x16, .f32⟩
  | .hbm, ⟨1, _⟩ => ⟨S512x256, .i32⟩
  | .hbm, ⟨2, _⟩ => ⟨S32x8, .f32⟩
  | .hbm, ⟨3, _⟩ => ⟨S8x32, .f32⟩
  | .hbm, ⟨4, _⟩ => ⟨S8x1, .f32⟩
  | .hbm, ⟨5, _⟩ => ⟨S8, .f32⟩
  | .hbm, ⟨6, _⟩ => ⟨S8x512x256, .f32⟩
  | .local _ .vmem, ⟨0, _⟩ => ⟨S512x256, .i32⟩
  | .local _ .vmem, ⟨1, _⟩ => ⟨S1x512x256, .f32⟩
  | .local _ .vmem, ⟨2, _⟩ => ⟨S1x512x256, .f32⟩
  | .local _ .smem, ⟨0, _⟩ => ⟨S8x32, .f32⟩
  | .local _ .smem, ⟨1, _⟩ => ⟨S8, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let v4 : Index := Scalar.indexCast arg0
  let c0_1 : Index := 0#32
  ![v4.toNat, 0]
def k0_off2 (i : grid0.Coords) : Fin 1 → Nat :=
  let arg0 : BitVec 32 := BitVec.ofNat 32 (i 0).val
  let v6 : Index := Scalar.indexCast arg0
  ![v6.toNat]
def k0_off3 (i : grid0.Coords) : Fin 2 → Nat :=
  let arg0 : BitVec 32 := BitVec.ofNat 32 (i 0).val
  let v14 : Index := Scalar.indexCast arg0
  let c1 : Index := 1#32
  ![v14.toNat, 1]
def k0_off4 (i : grid0.Coords) : Fin 2 → Nat :=
  let arg0 : BitVec 32 := BitVec.ofNat 32 (i 0).val
  let v24 : Index := Scalar.indexCast arg0
  let c2 : Index := 2#32
  ![v24.toNat, 2]
def k0_off5 (i : grid0.Coords) : Fin 2 → Nat :=
  let arg0 : BitVec 32 := BitVec.ofNat 32 (i 0).val
  let v34 : Index := Scalar.indexCast arg0
  let c3 : Index := 3#32
  ![v34.toNat, 3]
def k0_off6 (i : grid0.Coords) : Fin 2 → Nat :=
  let arg0 : BitVec 32 := BitVec.ofNat 32 (i 0).val
  let v44 : Index := Scalar.indexCast arg0
  let c4 : Index := 4#32
  ![v44.toNat, 4]
def k0_off7 (i : grid0.Coords) : Fin 2 → Nat :=
  let arg0 : BitVec 32 := BitVec.ofNat 32 (i 0).val
  let v54 : Index := Scalar.indexCast arg0
  let c5 : Index := 5#32
  ![v54.toNat, 5]
def k0_off8 (i : grid0.Coords) : Fin 2 → Nat :=
  let arg0 : BitVec 32 := BitVec.ofNat 32 (i 0).val
  let v64 : Index := Scalar.indexCast arg0
  let c6 : Index := 6#32
  ![v64.toNat, 6]
def k0_off9 (i : grid0.Coords) : Fin 2 → Nat :=
  let arg0 : BitVec 32 := BitVec.ofNat 32 (i 0).val
  let v74 : Index := Scalar.indexCast arg0
  let c7 : Index := 7#32
  ![v74.toNat, 7]
def k0_off10 (i : grid0.Coords) : Fin 2 → Nat :=
  let arg0 : BitVec 32 := BitVec.ofNat 32 (i 0).val
  let v84 : Index := Scalar.indexCast arg0
  let c8 : Index := 8#32
  ![v84.toNat, 8]
def k0_off11 (i : grid0.Coords) : Fin 2 → Nat :=
  let arg0 : BitVec 32 := BitVec.ofNat 32 (i 0).val
  let v94 : Index := Scalar.indexCast arg0
  let c9 : Index := 9#32
  ![v94.toNat, 9]
def k0_off12 (i : grid0.Coords) : Fin 2 → Nat :=
  let arg0 : BitVec 32 := BitVec.ofNat 32 (i 0).val
  let v104 : Index := Scalar.indexCast arg0
  let c10 : Index := 10#32
  ![v104.toNat, 10]
def k0_off13 (i : grid0.Coords) : Fin 2 → Nat :=
  let arg0 : BitVec 32 := BitVec.ofNat 32 (i 0).val
  let v114 : Index := Scalar.indexCast arg0
  let c11 : Index := 11#32
  ![v114.toNat, 11]
def k0_off14 (i : grid0.Coords) : Fin 2 → Nat :=
  let arg0 : BitVec 32 := BitVec.ofNat 32 (i 0).val
  let v124 : Index := Scalar.indexCast arg0
  let c12 : Index := 12#32
  ![v124.toNat, 12]
def k0_off15 (i : grid0.Coords) : Fin 2 → Nat :=
  let arg0 : BitVec 32 := BitVec.ofNat 32 (i 0).val
  let v134 : Index := Scalar.indexCast arg0
  let c13 : Index := 13#32
  ![v134.toNat, 13]
def k0_off16 (i : grid0.Coords) : Fin 2 → Nat :=
  let arg0 : BitVec 32 := BitVec.ofNat 32 (i 0).val
  let v144 : Index := Scalar.indexCast arg0
  let c14 : Index := 14#32
  ![v144.toNat, 14]
def k0_off17 (i : grid0.Coords) : Fin 2 → Nat :=
  let arg0 : BitVec 32 := BitVec.ofNat 32 (i 0).val
  let v154 : Index := Scalar.indexCast arg0
  let c15 : Index := 15#32
  ![v154.toNat, 15]
def k0_off18 (i : grid0.Coords) : Fin 2 → Nat :=
  let arg0 : BitVec 32 := BitVec.ofNat 32 (i 0).val
  let v164 : Index := Scalar.indexCast arg0
  let c16 : Index := 16#32
  ![v164.toNat, 16]
def k0_off19 (i : grid0.Coords) : Fin 2 → Nat :=
  let arg0 : BitVec 32 := BitVec.ofNat 32 (i 0).val
  let v174 : Index := Scalar.indexCast arg0
  let c17 : Index := 17#32
  ![v174.toNat, 17]
def k0_off20 (i : grid0.Coords) : Fin 2 → Nat :=
  let arg0 : BitVec 32 := BitVec.ofNat 32 (i 0).val
  let v184 : Index := Scalar.indexCast arg0
  let c18 : Index := 18#32
  ![v184.toNat, 18]
def k0_off21 (i : grid0.Coords) : Fin 2 → Nat :=
  let arg0 : BitVec 32 := BitVec.ofNat 32 (i 0).val
  let v194 : Index := Scalar.indexCast arg0
  let c19 : Index := 19#32
  ![v194.toNat, 19]
def k0_off22 (i : grid0.Coords) : Fin 2 → Nat :=
  let arg0 : BitVec 32 := BitVec.ofNat 32 (i 0).val
  let v204 : Index := Scalar.indexCast arg0
  let c20 : Index := 20#32
  ![v204.toNat, 20]
def k0_off23 (i : grid0.Coords) : Fin 2 → Nat :=
  let arg0 : BitVec 32 := BitVec.ofNat 32 (i 0).val
  let v214 : Index := Scalar.indexCast arg0
  let c21 : Index := 21#32
  ![v214.toNat, 21]
def k0_off24 (i : grid0.Coords) : Fin 2 → Nat :=
  let arg0 : BitVec 32 := BitVec.ofNat 32 (i 0).val
  let v224 : Index := Scalar.indexCast arg0
  let c22 : Index := 22#32
  ![v224.toNat, 22]
def k0_off25 (i : grid0.Coords) : Fin 2 → Nat :=
  let arg0 : BitVec 32 := BitVec.ofNat 32 (i 0).val
  let v234 : Index := Scalar.indexCast arg0
  let c23 : Index := 23#32
  ![v234.toNat, 23]
def k0_off26 (i : grid0.Coords) : Fin 2 → Nat :=
  let arg0 : BitVec 32 := BitVec.ofNat 32 (i 0).val
  let v244 : Index := Scalar.indexCast arg0
  let c24 : Index := 24#32
  ![v244.toNat, 24]
def k0_off27 (i : grid0.Coords) : Fin 2 → Nat :=
  let arg0 : BitVec 32 := BitVec.ofNat 32 (i 0).val
  let v254 : Index := Scalar.indexCast arg0
  let c25 : Index := 25#32
  ![v254.toNat, 25]
def k0_off28 (i : grid0.Coords) : Fin 2 → Nat :=
  let arg0 : BitVec 32 := BitVec.ofNat 32 (i 0).val
  let v264 : Index := Scalar.indexCast arg0
  let c26 : Index := 26#32
  ![v264.toNat, 26]
def k0_off29 (i : grid0.Coords) : Fin 2 → Nat :=
  let arg0 : BitVec 32 := BitVec.ofNat 32 (i 0).val
  let v274 : Index := Scalar.indexCast arg0
  let c27 : Index := 27#32
  ![v274.toNat, 27]
def k0_off30 (i : grid0.Coords) : Fin 2 → Nat :=
  let arg0 : BitVec 32 := BitVec.ofNat 32 (i 0).val
  let v284 : Index := Scalar.indexCast arg0
  let c28 : Index := 28#32
  ![v284.toNat, 28]
def k0_off31 (i : grid0.Coords) : Fin 2 → Nat :=
  let arg0 : BitVec 32 := BitVec.ofNat 32 (i 0).val
  let v294 : Index := Scalar.indexCast arg0
  let c29 : Index := 29#32
  ![v294.toNat, 29]
def k0_off32 (i : grid0.Coords) : Fin 2 → Nat :=
  let arg0 : BitVec 32 := BitVec.ofNat 32 (i 0).val
  let v304 : Index := Scalar.indexCast arg0
  let c30 : Index := 30#32
  ![v304.toNat, 30]
def k0_off33 (i : grid0.Coords) : Fin 2 → Nat :=
  let arg0 : BitVec 32 := BitVec.ofNat 32 (i 0).val
  let v314 : Index := Scalar.indexCast arg0
  let c31 : Index := 31#32
  ![v314.toNat, 31]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S8x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S32x16 : Shape := ⟨2, ![32, 16]⟩
abbrev S512x256 : Shape := ⟨2, ![512, 256]⟩
abbrev S32x8 : Shape := ⟨2, ![32, 8]⟩
abbrev S1x8 : Shape := ⟨2, ![1, 8]⟩
abbrev S8 : Shape := ⟨1, ![8]⟩
abbrev S_ : Shape := ⟨0, ![]⟩
abbrev S512x256x1 : Shape := ⟨3, ![512, 256, 1]⟩
abbrev S512x256x8 : Shape := ⟨3, ![512, 256, 8]⟩
abbrev S8x512x256 : Shape := ⟨3, ![8, 512, 256]⟩

abbrev nBuf : Space → Nat
  | .hbm => 33
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S512x256, .i32⟩
  | .hbm, ⟨2, _⟩ => ⟨S32x8, .f32⟩
  | .hbm, ⟨3, _⟩ => ⟨S1x8, .f32⟩
  | .hbm, ⟨4, _⟩ => ⟨S8, .f32⟩
  | .hbm, ⟨5, _⟩ => ⟨S1x8, .f32⟩
  | .hbm, ⟨6, _⟩ => ⟨S32x8, .f32⟩
  | .hbm, ⟨7, _⟩ => ⟨S32x8, .f32⟩
  | .hbm, ⟨8, _⟩ => ⟨S_, .f32⟩
  | .hbm, ⟨9, _⟩ => ⟨S32x8, .f32⟩
  | .hbm, ⟨10, _⟩ => ⟨S32x8, .f32⟩
  | .hbm, ⟨11, _⟩ => ⟨S_, .i32⟩
  | .hbm, ⟨12, _⟩ => ⟨S512x256, .i32⟩
  | .hbm, ⟨13, _⟩ => ⟨S512x256, .i1⟩
  | .hbm, ⟨14, _⟩ => ⟨S_, .i32⟩
  | .hbm, ⟨15, _⟩ => ⟨S512x256, .i32⟩
  | .hbm, ⟨16, _⟩ => ⟨S512x256, .i32⟩
  | .hbm, ⟨17, _⟩ => ⟨S512x256, .i32⟩
  | .hbm, ⟨18, _⟩ => ⟨S512x256x1, .i32⟩
  | .hbm, ⟨19, _⟩ => ⟨S512x256x8, .f32⟩
  | .hbm, ⟨20, _⟩ => ⟨S8x512x256, .f32⟩
  | .hbm, ⟨21, _⟩ => ⟨S_, .i32⟩
  | .hbm, ⟨22, _⟩ => ⟨S512x256, .i32⟩
  | .hbm, ⟨23, _⟩ => ⟨S512x256, .i1⟩
  | .hbm, ⟨24, _⟩ => ⟨S_, .i32⟩
  | .hbm, ⟨25, _⟩ => ⟨S512x256, .i32⟩
  | .hbm, ⟨26, _⟩ => ⟨S512x256, .i1⟩
  | .hbm, ⟨27, _⟩ => ⟨S512x256, .i1⟩
  | .hbm, ⟨28, _⟩ => ⟨S_, .f32⟩
  | .hbm, ⟨29, _⟩ => ⟨S_, .f32⟩
  | .hbm, ⟨30, _⟩ => ⟨S8x512x256, .i1⟩
  | .hbm, ⟨31, _⟩ => ⟨S8x512x256, .f32⟩
  | .hbm, ⟨32, _⟩ => ⟨S8x512x256, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_1 : Ref sig .tc := ⟨.hbm, 21, rfl⟩
abbrev main_v16 : Ref sig .tc := ⟨.hbm, 22, rfl⟩
abbrev main_v17 : Ref sig .tc := ⟨.hbm, 23, rfl⟩
abbrev main_c_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v21 : Ref sig .tc := ⟨.hbm, 32, rfl⟩

abbrev nD : Nat := 1
abbrev τ : Topo := Topo.v7x

variable {F : FTy → Type} [FloatOps F]
-- ==== Proof.Merge.Row.lean ====
/- The gated merge of one token, as formulas on extended reals: what both programs compute at a row. -/
module

public import Idealize.ShloMosaic.Lib.Pointwise

@[expose] public section

noncomputable section

namespace Cert.Merge

open Idealize.ShloMosaic

/-- The inputs of one token: its `x` row, the two attention outputs, and the layer's weights. -/
@[ext] structure Tok where
  x : Fin 1024 → EReal
  ya : Fin 512 → EReal
  yb : Fin 512 → EReal
  wg : Fin 1024 → Fin 2048 → EReal
  bg : Fin 2048 → EReal
  wa : Fin 512 → Fin 1024 → EReal
  wb : Fin 512 → Fin 1024 → EReal
  wo : Fin 1024 → Fin 1024 → EReal
  g : Fin 1024 → EReal
  b : Fin 1024 → EReal

namespace Tok

variable (T : Tok)

/-- The sigmoid of the gate's logit, the logit being a product with the gate's weights and a bias. -/
def gate (j : Fin 2048) : EReal := Ideal.div 1 (1 + Ideal.exp (-((∑ k, T.x k * T.wg k j) + T.bg j)))

/-- The two projected branches, each under its gate. -/
def merged (j : Fin 1024) : EReal :=
  T.gate ⟨j.val, by omega⟩ * (∑ k, T.ya k * T.wa k j) + T.gate ⟨1024 + j.val, by omega⟩ * (∑ k, T.yb k * T.wb k j)

/-- The residual stream before its layer norm. -/
def pre (j : Fin 1024) : EReal := Ideal.ofBits .f32 0x3F9837F0#32 * T.x j + ∑ k, T.merged k * T.wo k j

/-- The mean of a row. -/
def mean (f : Fin 1024 → EReal) : EReal := Ideal.div (∑ k, f k) (Ideal.ofBits .f32 0x44800000#32)

/-- The row less its mean. -/
def centred (j : Fin 1024) : EReal := T.pre j - mean T.pre

/-- The layer-normed row. -/
def x1 (j : Fin 1024) : EReal :=
  T.centred j * Ideal.rsqrt (mean (fun k => T.centred k * T.centred k) + Ideal.ofBits .f32 0x3727C5AC#32) * T.g j + T.b j

end Tok

end Cert.Merge
-- ==== Proof.Merge.Ref.lean ====
/- The reference's result read at a token and a feature: the row formulas of `Merge/Row.lean`. -/
module

public import proofs.«01_k».proof.Proof.Gen.ReferenceIdeal.Run
public import proofs.«01_k».proof.Proof.Merge.Row

@[expose] public section

set_option maxRecDepth 16384

noncomputable section

namespace Cert.ReferenceIdeal.Merge

open Cert.ReferenceIdeal Cert.ReferenceIdeal.Gen Cert.Merge
open Idealize.ShloMosaic Idealize.ShloMosaic.TcCoe

section
variable {F : FTy → Type} [FloatOps F]
  (a0 : Vec F S16x4096x1024 .f32) (a1 a2 : Vec F S16x4096x512 .bf16) (a3 : Vec F S1x1024x4352 .f32) (a4 : Vec F S1x4352 .f32)
  (a5 a6 : Vec F S1x512x1024 .f32) (a7 : Vec F S1x1024x1024 .f32) (a8 a9 : Vec F S1x1024 .f32)

/-- The gates of all tokens. -/
def gates : FVec F S32768x2048 .f32 :=
  Host.divf (broadcastInDim S32768x2048 ![] bcast_S_S32768x2048 (constant S_ .f32 0x3F800000#32)) (addf (broadcastInDim S32768x2048 ![] bcast_S_S32768x2048 (constant S_ .f32 0x3F800000#32)) (Host.exp (Host.negf (addf (Host.dotGeneral dot_S32768x1024_S1024x2048_S32768x2048_1_0_0_1_n_n none (shapeCast _ (extractStridedSlice S8x4096x1024 ![0, 0, 0] a0 slices_S16x4096x1024_S8x4096x1024_0_0_0) shapeCasts_S8x4096x1024_S32768x1024) (extractStridedSlice S1024x2048 ![0, 2304] (shapeCast _ a3 shapeCasts_S1x1024x4352_S1024x4352) slices_S1024x4352_S1024x2048_0_2304)) (broadcastInDim S32768x2048 ![0, 1] bcast_S1x2048_S32768x2048_0_1 (broadcastInDim S1x2048 ![1] bcast_S2048_S1x2048_1 (extractStridedSlice S2048 ![2304] (shapeCast _ a4 shapeCasts_S1x4352_S4352) slices_S4352_S2048_2304)))))))

/-- A branch projected. -/
def branch (y : Vec F S16x4096x512 .bf16) (w : Vec F S1x512x1024 .f32) : FVec F S32768x1024 .f32 :=
  Host.dotGeneral dot_S32768x512_S512x1024_S32768x1024_1_0_0_1_n_n none (shapeCast _ (extractStridedSlice S8x4096x512 ![0, 0, 0] (extf .f32 y bitsLt_bf16_f32) slices_S16x4096x512_S8x4096x512_0_0_0) shapeCasts_S8x4096x512_S32768x512) (shapeCast _ w shapeCasts_S1x512x1024_S512x1024)

/-- The gated sum of the branches. -/
def merged : FVec F S32768x1024 .f32 :=
  addf (mulf (extractStridedSlice S32768x1024 ![0, 0] (gates a0 a3 a4) slices_S32768x2048_S32768x1024_0_0) (branch a1 a5)) (mulf (extractStridedSlice S32768x1024 ![0, 1024] (gates a0 a3 a4) slices_S32768x2048_S32768x1024_0_1024) (branch a2 a6))

/-- The residual stream before its layer norm. -/
def pre : FVec F S32768x1024 .f32 :=
  addf (mulf (broadcastInDim S32768x1024 ![] bcast_S_S32768x1024 (constant S_ .f32 0x3F9837F0#32)) (shapeCast _ (extractStridedSlice S8x4096x1024 ![0, 0, 0] a0 slices_S16x4096x1024_S8x4096x1024_0_0_0) shapeCasts_S8x4096x1024_S32768x1024)) (Host.dotGeneral dot_S32768x1024_S1024x1024_S32768x1024_1_0_0_1_n_n none (merged a0 a1 a2 a3 a4 a5 a6) (shapeCast _ a7 shapeCasts_S1x1024x1024_S1024x1024))

/-- A row's mean. -/
def mean (p : FVec F S32768x1024 .f32) : FVec F S32768x1 .f32 :=
  Host.divf (broadcastInDim S32768x1 ![0] bcast_S32768_S32768x1_0 (Host.reduceAdd (p) (constant S_ .f32 0x00000000#32) reducesTo_S32768x1024_S32768_d1 h_S_)) (broadcastInDim S32768x1 ![] bcast_S_S32768x1 (constant S_ .f32 0x44800000#32))

/-- The rows less their means. -/
def centred (p : FVec F S32768x1024 .f32) : FVec F S32768x1024 .f32 :=
  subf (p) (broadcastInDim S32768x1024 ![0, 1] bcast_S32768x1_S32768x1024_0_1 (mean p))

/-- The layer norm of the rows. -/
def normed (p : FVec F S32768x1024 .f32) : FVec F S32768x1024 .f32 :=
  addf (mulf (mulf (centred p) (broadcastInDim S32768x1024 ![0, 1] bcast_S32768x1_S32768x1024_0_1 (Host.rsqrt (addf (mean (mulf (centred p) (centred p))) (broadcastInDim S32768x1 ![] bcast_S_S32768x1 (constant S_ .f32 0x3727C5AC#32)))))) (broadcastInDim S32768x1024 ![0, 1] bcast_S1x1024_S32768x1024_0_1 (broadcastInDim S1x1024 ![1] bcast_S1024_S1x1024_1 (shapeCast _ a8 shapeCasts_S1x1024_S1024)))) (broadcastInDim S32768x1024 ![0, 1] bcast_S1x1024_S32768x1024_0_1 (broadcastInDim S1x1024 ![1] bcast_S1024_S1x1024_1 (shapeCast _ a9 shapeCasts_S1x1024_S1024)))

end

/-- The token numbered `n`, from the arguments: row `n % 4096` of sequence `n / 4096`. -/
def tok (a0 : Vec Ideal S16x4096x1024 .f32) (a1 a2 : Vec Ideal S16x4096x512 .bf16) (a3 : Vec Ideal S1x1024x4352 .f32) (a4 : Vec Ideal S1x4352 .f32)
  (a5 a6 : Vec Ideal S1x512x1024 .f32) (a7 : Vec Ideal S1x1024x1024 .f32) (a8 a9 : Vec Ideal S1x1024 .f32) (n : Fin 32768) : Tok where
  x k := a0 (ix3 ⟨n.val / 4096, by omega⟩ ⟨n.val % 4096, by omega⟩ k)
  ya k := a1 (ix3 ⟨n.val / 4096, by omega⟩ ⟨n.val % 4096, by omega⟩ k)
  yb k := a2 (ix3 ⟨n.val / 4096, by omega⟩ ⟨n.val % 4096, by omega⟩ k)
  wg k j := a3 (ix3 0 k ⟨2304 + j.val, by omega⟩)
  bg j := a4 (ix2 0 ⟨2304 + j.val, by omega⟩)
  wa k j := a5 (ix3 0 k j)
  wb k j := a6 (ix3 0 k j)
  wo k j := a7 (ix3 0 k j)
  g j := a8 (ix2 0 j)
  b j := a9 (ix2 0 j)

section
variable (a0 : Vec Ideal S16x4096x1024 .f32) (a1 a2 : Vec Ideal S16x4096x512 .bf16) (a3 : Vec Ideal S1x1024x4352 .f32) (a4 : Vec Ideal S1x4352 .f32)
  (a5 a6 : Vec Ideal S1x512x1024 .f32) (a7 : Vec Ideal S1x1024x1024 .f32) (a8 a9 : Vec Ideal S1x1024 .f32)

theorem gates_apply (n : Fin 32768) (j : Fin 2048) : gates a0 a3 a4 (ix2 n j) = (tok a0 a1 a2 a3 a4 a5 a6 a7 a8 a9 n).gate j := by
  pointwise [gates, Tok.gate, tok]

theorem branch_apply (y : Vec Ideal S16x4096x512 .bf16) (w : Vec Ideal S1x512x1024 .f32) (n : Fin 32768) (j : Fin 1024) :
    branch y w (ix2 n j) = ∑ k, y (ix3 ⟨n.val / 4096, by omega⟩ ⟨n.val % 4096, by omega⟩ k) * w (ix3 0 k j) := by
  pointwise [branch]

theorem pre_apply (n : Fin 32768) (j : Fin 1024) : pre a0 a1 a2 a3 a4 a5 a6 a7 (ix2 n j) = (tok a0 a1 a2 a3 a4 a5 a6 a7 a8 a9 n).pre j := by
  have hm (k : Fin 1024) : merged a0 a1 a2 a3 a4 a5 a6 (ix2 n k) = (tok a0 a1 a2 a3 a4 a5 a6 a7 a8 a9 n).merged k := by
    unfold merged
    pointwise []
    rw [gates_apply a0 a1 a2 a3 a4 a5 a6 a7 a8 a9, gates_apply a0 a1 a2 a3 a4 a5 a6 a7 a8 a9, branch_apply, branch_apply]
    rfl
  unfold pre
  pointwise []
  simp only [hm]
  rfl

theorem mean_apply (p : FVec Ideal S32768x1024 .f32) (n : Fin 32768) (i : Fin 1) : mean p (ix2 n i) = Tok.mean (fun k => p (ix2 n k)) := by
  pointwise [mean, Tok.mean]

theorem normed_apply (n : Fin 32768) (j : Fin 1024) :
    normed a8 a9 (pre a0 a1 a2 a3 a4 a5 a6 a7) (ix2 n j) = (tok a0 a1 a2 a3 a4 a5 a6 a7 a8 a9 n).x1 j := by
  have hp := pre_apply a0 a1 a2 a3 a4 a5 a6 a7 a8 a9 n
  generalize pre a0 a1 a2 a3 a4 a5 a6 a7 = p at hp ⊢
  have hc (k : Fin 1024) : centred p (ix2 n k) = (tok a0 a1 a2 a3 a4 a5 a6 a7 a8 a9 n).centred k := by
    unfold centred
    pointwise []
    simp only [mean_apply, hp]
    rfl
  unfold normed
  pointwise []
  simp only [mean_apply]
  pointwise []
  simp only [hc]
  rfl

end

/-- THE REFERENCE'S RESULT AT A TOKEN AND A FEATURE. -/
theorem result_apply (m : (ℓ : Loc nD τ sig) → Buf (Elt Ideal) ℓ) (c : Dev nD) (n : Fin 32768) (j : Fin 1024) :
    Value.res_out0 m c (ix2 n j)
      = (tok (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) n).x1 j :=
  Eq.trans (congrFun (show Value.res_out0 m c = normed (m ((c.tc : Thread nD τ).loc main_arg8)) (m ((c.tc : Thread nD τ).loc main_arg9)) (pre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) from rfl) _)
    (normed_apply _ _ _ _ _ _ _ _ _ _ n j)

end Cert.ReferenceIdeal.Merge
-- ==== Proof.Merge.Tile.lean ====
/- What the kernel's arithmetic leaves for a subtile of 256 tokens, read at a row and a feature. -/
module

public import proofs.«01_k».proof.Proof.Gen.KernelIdeal.Skeleton
public import proofs.«01_k».proof.Proof.Merge.Row

@[expose] public section

set_option maxRecDepth 16384

namespace Cert.KernelIdeal.Merge

open Cert.KernelIdeal Cert.KernelIdeal.Gen Cert.Merge
open Idealize.ShloMosaic Idealize.ShloMosaic.TcCoe

/-- The subtile's tokens before the layer norm, from what the body loads. -/
noncomputable def tilePre {F : FTy → Type} [FloatOps F] [Named F] (v3 : Vec F S256x1024 .f32) (v5 v7 : Vec F S256x512 .bf16) (v10 : Vec F S1024x2048 .bf16) (v13 : Vec F S1x2048 .f32)
    (v24 v27 : Vec F S512x1024 .bf16) (v36 : Vec F S1024x1024 .bf16) : FVec F S256x1024 .f32 :=
  k0_pay11 (k0_pay6 v3) (k0_pay8 v7 v27) (k0_pay9 v3 v5 v10 v13 v24) (k0_pay10 v3 v10 v13) v36

/-- The subtile's layer-normed tokens. -/
noncomputable def tile {F : FTy → Type} [FloatOps F] [Named F] (v3 : Vec F S256x1024 .f32) (v5 v7 : Vec F S256x512 .bf16) (v10 : Vec F S1024x2048 .bf16) (v13 : Vec F S1x2048 .f32)
    (v24 v27 : Vec F S512x1024 .bf16) (v36 : Vec F S1024x1024 .bf16) (v159 v161 : Vec F S1x1024 .f32) : FVec F S256x1024 .f32 :=
  k0_pay12 (tilePre v3 v5 v7 v10 v13 v24 v27 v36) v159 v161

/-- The token at row `r` of a subtile. -/
def tok (v3 : Vec Ideal S256x1024 .f32) (v5 v7 : Vec Ideal S256x512 .bf16) (v10 : Vec Ideal S1024x2048 .bf16) (v13 : Vec Ideal S1x2048 .f32)
    (v24 v27 : Vec Ideal S512x1024 .bf16) (v36 : Vec Ideal S1024x1024 .bf16) (v159 v161 : Vec Ideal S1x1024 .f32) (r : Fin 256) : Tok where
  x k := v3 (ix2 r k)
  ya k := v5 (ix2 r k)
  yb k := v7 (ix2 r k)
  wg k j := v10 (ix2 k j)
  bg j := v13 (ix2 0 j)
  wa k j := v24 (ix2 k j)
  wb k j := v27 (ix2 k j)
  wo k j := v36 (ix2 k j)
  g j := v159 (ix2 0 j)
  b j := v161 (ix2 0 j)

section
variable (v3 : Vec Ideal S256x1024 .f32) (v5 v7 : Vec Ideal S256x512 .bf16) (v10 : Vec Ideal S1024x2048 .bf16) (v13 : Vec Ideal S1x2048 .f32)
  (v24 v27 : Vec Ideal S512x1024 .bf16) (v36 : Vec Ideal S1024x1024 .bf16) (v159 v161 : Vec Ideal S1x1024 .f32)

/-- A gate of a token. -/
theorem gate_apply (r : Fin 256) (j : Fin 2048) :
    k0_pay7 v3 v10 v13 (ix2 r j) = (tok v3 v5 v7 v10 v13 v24 v27 v36 v159 v161 r).gate j := by
  pointwise [k0_pay7, k0_pay6, Tok.gate, tok]
  rw [zero_sub]

/-- A token before the layer norm. -/
theorem tilePre_apply (r : Fin 256) (j : Fin 1024) :
    tilePre v3 v5 v7 v10 v13 v24 v27 v36 (ix2 r j) = (tok v3 v5 v7 v10 v13 v24 v27 v36 v159 v161 r).pre j := by
  have hm (k : Fin 1024) : k0_pay9 v3 v5 v10 v13 v24 (ix2 r k) + k0_pay10 v3 v10 v13 (ix2 r k) * k0_pay8 v7 v27 (ix2 r k)
      = (tok v3 v5 v7 v10 v13 v24 v27 v36 v159 v161 r).merged k := by
    unfold k0_pay9 k0_pay10 k0_pay8
    pointwise []
    rw [gate_apply v3 v5 v7 v10 v13 v24 v27 v36 v159 v161, gate_apply v3 v5 v7 v10 v13 v24 v27 v36 v159 v161]
    rfl
  unfold tilePre
  pointwise [k0_pay11, k0_pay6]
  unfold Tok.pre
  congr 1
  exact Finset.sum_congr rfl fun k _ => by rw [hm k]; rfl

/-- A layer-normed token. -/
theorem tile_apply (r : Fin 256) (j : Fin 1024) :
    tile v3 v5 v7 v10 v13 v24 v27 v36 v159 v161 (ix2 r j) = (tok v3 v5 v7 v10 v13 v24 v27 v36 v159 v161 r).x1 j := by
  unfold tile
  pointwise [k0_pay12]
  simp only [tilePre_apply v3 v5 v7 v10 v13 v24 v27 v36 v159 v161]
  rfl

end

end Cert.KernelIdeal.Merge
-- ==== Proof.Merge.Host.lean ====
/- What the host operations before the kernel call leave in the arrays that the call reads. -/
module

public import proofs.«01_k».proof.Proof.Gen.KernelIdeal.Frame.Runs
public import Idealize.ShloMosaic.Lib.StableHlo.Run
public import Idealize.ShloMosaic.Lib.StableHlo.RunRead
public import Idealize.ShloMosaic.Lib.Pointwise

@[expose] public section

set_option maxRecDepth 16384

namespace Cert.KernelIdeal.Merge

open Cert.KernelIdeal Cert.KernelIdeal.Gen
open Idealize.ShloMosaic Idealize.ShloMosaic.TcCoe Idealize.ShloMosaic.StableHlo

section
variable {F : FTy → Type} [FloatOps F] [Named F]
variable (m : (ℓ : Loc nD τ sig) → Buf (Elt F) ℓ) (c : Dev nD)

theorem V_x : V m c main_v25 = shapeCast S65536x1024 (m ((c : Thread nD τ).loc main_arg0)) shapeCasts_S16x4096x1024_S65536x1024 := by
  unfold V hostOps0 hostOps0_1
  simp only [List.flatten_cons, List.flatten_nil, List.append_nil, List.cons_append, List.nil_append]
  after_reads_simp
  rfl
theorem V_ya : V m c main_v26 = shapeCast S65536x512 (m ((c : Thread nD τ).loc main_arg1)) shapeCasts_S16x4096x512_S65536x512 := by
  unfold V hostOps0 hostOps0_1
  simp only [List.flatten_cons, List.flatten_nil, List.append_nil, List.cons_append, List.nil_append]
  after_reads_simp
  rfl
theorem V_yb : V m c main_v27 = shapeCast S65536x512 (m ((c : Thread nD τ).loc main_arg2)) shapeCasts_S16x4096x512_S65536x512 := by
  unfold V hostOps0 hostOps0_1
  simp only [List.flatten_cons, List.flatten_nil, List.append_nil, List.cons_append, List.nil_append]
  after_reads_simp
  rfl
theorem V_wg : V m c main_v28 = truncf .bf16 (extractStridedSlice S1024x2048 ![0, 2304] (shapeCast S1024x4352 (m ((c : Thread nD τ).loc main_arg3)) shapeCasts_S1x1024x4352_S1024x4352) slices_S1024x4352_S1024x2048_0_2304) bitsLt_bf16_f32 := by
  unfold V hostOps0 hostOps0_1
  simp only [List.flatten_cons, List.flatten_nil, List.append_nil, List.cons_append, List.nil_append]
  after_reads_simp
  rfl
theorem V_bg : V m c main_v29 = broadcastInDim S1x2048 ![1] bcast_S2048_S1x2048_1 (extractStridedSlice S2048 ![2304] (shapeCast S4352 (m ((c : Thread nD τ).loc main_arg4)) shapeCasts_S1x4352_S4352) slices_S4352_S2048_2304) := by
  unfold V hostOps0 hostOps0_1
  simp only [List.flatten_cons, List.flatten_nil, List.append_nil, List.cons_append, List.nil_append]
  after_reads_simp
  rfl
theorem V_wa : V m c main_v31 = truncf .bf16 (shapeCast S512x1024 (m ((c : Thread nD τ).loc main_arg5)) shapeCasts_S1x512x1024_S512x1024) bitsLt_bf16_f32 := by
  unfold V hostOps0 hostOps0_1
  simp only [List.flatten_cons, List.flatten_nil, List.append_nil, List.cons_append, List.nil_append]
  after_reads_simp
  rfl
theorem V_wb : V m c main_v33 = truncf .bf16 (shapeCast S512x1024 (m ((c : Thread nD τ).loc main_arg6)) shapeCasts_S1x512x1024_S512x1024) bitsLt_bf16_f32 := by
  unfold V hostOps0 hostOps0_1
  simp only [List.flatten_cons, List.flatten_nil, List.append_nil, List.cons_append, List.nil_append]
  after_reads_simp
  rfl
theorem V_wo : V m c main_v35 = truncf .bf16 (shapeCast S1024x1024 (m ((c : Thread nD τ).loc main_arg7)) shapeCasts_S1x1024x1024_S1024x1024) bitsLt_bf16_f32 := by
  unfold V hostOps0 hostOps0_1
  simp only [List.flatten_cons, List.flatten_nil, List.append_nil, List.cons_append, List.nil_append]
  after_reads_simp
  rfl
theorem V_g : V m c main_v37 = broadcastInDim S1x1024 ![1] bcast_S1024_S1x1024_1 (shapeCast S1024 (m ((c : Thread nD τ).loc main_arg8)) shapeCasts_S1x1024_S1024) := by
  unfold V hostOps0 hostOps0_1
  simp only [List.flatten_cons, List.flatten_nil, List.append_nil, List.cons_append, List.nil_append]
  after_reads_simp
  rfl
theorem V_b : V m c main_v39 = broadcastInDim S1x1024 ![1] bcast_S1024_S1x1024_1 (shapeCast S1024 (m ((c : Thread nD τ).loc main_arg9)) shapeCasts_S1x1024_S1024) := by
  unfold V hostOps0 hostOps0_1
  simp only [List.flatten_cons, List.flatten_nil, List.append_nil, List.cons_append, List.nil_append]
  after_reads_simp
  rfl
end

theorem x_apply (a : Vec Ideal S16x4096x1024 .f32) (n : Fin 65536) (k : Fin 1024) :
    (shapeCast S65536x1024 a shapeCasts_S16x4096x1024_S65536x1024) (ix2 n k) = a (ix3 ⟨n.val / 4096, by omega⟩ ⟨n.val % 4096, by omega⟩ k) := by
  pointwise []
theorem y_apply (a : Vec Ideal S16x4096x512 .bf16) (n : Fin 65536) (k : Fin 512) :
    (shapeCast S65536x512 a shapeCasts_S16x4096x512_S65536x512) (ix2 n k) = a (ix3 ⟨n.val / 4096, by omega⟩ ⟨n.val % 4096, by omega⟩ k) := by
  pointwise []
theorem wg_apply (a : Vec Ideal S1x1024x4352 .f32) (k : Fin 1024) (j : Fin 2048) :
    (truncf .bf16 (extractStridedSlice S1024x2048 ![0, 2304] (shapeCast S1024x4352 a shapeCasts_S1x1024x4352_S1024x4352) slices_S1024x4352_S1024x2048_0_2304) bitsLt_bf16_f32 : FVec Ideal S1024x2048 .bf16) (ix2 k j) = a (ix3 0 k ⟨2304 + j.val, by omega⟩) := by
  pointwise []
theorem bg_apply (a : Vec Ideal S1x4352 .f32) (j : Fin 2048) :
    (broadcastInDim S1x2048 ![1] bcast_S2048_S1x2048_1 (extractStridedSlice S2048 ![2304] (shapeCast S4352 a shapeCasts_S1x4352_S4352) slices_S4352_S2048_2304)) (ix2 0 j) = a (ix2 0 ⟨2304 + j.val, by omega⟩) := by
  pointwise []
theorem wa_apply (a : Vec Ideal S1x512x1024 .f32) (k : Fin 512) (j : Fin 1024) :
    (truncf .bf16 (shapeCast S512x1024 a shapeCasts_S1x512x1024_S512x1024) bitsLt_bf16_f32 : FVec Ideal S512x1024 .bf16) (ix2 k j) = a (ix3 0 k j) := by
  pointwise []
theorem wb_apply (a : Vec Ideal S1x512x1024 .f32) (k : Fin 512) (j : Fin 1024) :
    (truncf .bf16 (shapeCast S512x1024 a shapeCasts_S1x512x1024_S512x1024) bitsLt_bf16_f32 : FVec Ideal S512x1024 .bf16) (ix2 k j) = a (ix3 0 k j) := by
  pointwise []
theorem wo_apply (a : Vec Ideal S1x1024x1024 .f32) (k : Fin 1024) (j : Fin 1024) :
    (truncf .bf16 (shapeCast S1024x1024 a shapeCasts_S1x1024x1024_S1024x1024) bitsLt_bf16_f32 : FVec Ideal S1024x1024 .bf16) (ix2 k j) = a (ix3 0 k j) := by
  pointwise []
theorem g_apply (a : Vec Ideal S1x1024 .f32) (j : Fin 1024) :
    (broadcastInDim S1x1024 ![1] bcast_S1024_S1x1024_1 (shapeCast S1024 a shapeCasts_S1x1024_S1024)) (ix2 0 j) = a (ix2 0 j) := by
  pointwise []
theorem b_apply (a : Vec Ideal S1x1024 .f32) (j : Fin 1024) :
    (broadcastInDim S1x1024 ![1] bcast_S1024_S1x1024_1 (shapeCast S1024 a shapeCasts_S1x1024_S1024)) (ix2 0 j) = a (ix2 0 j) := by
  pointwise []

section
variable (m : (ℓ : Loc nD τ sig) → Buf (Elt Ideal) ℓ) (c : Dev nD)

theorem V_x_apply (n : Fin 65536) (k : Fin 1024) :
    V m c main_v25 (ix2 n k) = m ((c : Thread nD τ).loc main_arg0) (ix3 ⟨n.val / 4096, by omega⟩ ⟨n.val % 4096, by omega⟩ k) := by
  rw [V_x]; exact x_apply _ ..
theorem V_ya_apply (n : Fin 65536) (k : Fin 512) :
    V m c main_v26 (ix2 n k) = m ((c : Thread nD τ).loc main_arg1) (ix3 ⟨n.val / 4096, by omega⟩ ⟨n.val % 4096, by omega⟩ k) := by
  rw [V_ya]; exact y_apply _ ..
theorem V_yb_apply (n : Fin 65536) (k : Fin 512) :
    V m c main_v27 (ix2 n k) = m ((c : Thread nD τ).loc main_arg2) (ix3 ⟨n.val / 4096, by omega⟩ ⟨n.val % 4096, by omega⟩ k) := by
  rw [V_yb]; exact y_apply _ ..
theorem V_wg_apply (k : Fin 1024) (j : Fin 2048) :
    V m c main_v28 (ix2 k j) = m ((c : Thread nD τ).loc main_arg3) (ix3 0 k ⟨2304 + j.val, by omega⟩) := by
  rw [V_wg]; exact wg_apply _ ..
theorem V_bg_apply (j : Fin 2048) : V m c main_v29 (ix2 0 j) = m ((c : Thread nD τ).loc main_arg4) (ix2 0 ⟨2304 + j.val, by omega⟩) := by
  rw [V_bg]; exact bg_apply _ ..
theorem V_wa_apply (k : Fin 512) (j : Fin 1024) : V m c main_v31 (ix2 k j) = m ((c : Thread nD τ).loc main_arg5) (ix3 0 k j) := by
  rw [V_wa]; exact wa_apply _ ..
theorem V_wb_apply (k : Fin 512) (j : Fin 1024) : V m c main_v33 (ix2 k j) = m ((c : Thread nD τ).loc main_arg6) (ix3 0 k j) := by
  rw [V_wb]; exact wb_apply _ ..
theorem V_wo_apply (k : Fin 1024) (j : Fin 1024) : V m c main_v35 (ix2 k j) = m ((c : Thread nD τ).loc main_arg7) (ix3 0 k j) := by
  rw [V_wo]; exact wo_apply _ ..
theorem V_g_apply (j : Fin 1024) : V m c main_v37 (ix2 0 j) = m ((c : Thread nD τ).loc main_arg8) (ix2 0 j) := by
  rw [V_g]; exact g_apply _ ..
theorem V_b_apply (j : Fin 1024) : V m c main_v39 (ix2 0 j) = m ((c : Thread nD τ).loc main_arg9) (ix2 0 j) := by
  rw [V_b]; exact b_apply _ ..
end

end Cert.KernelIdeal.Merge
-- ==== Proof.Merge.Block.lean ====
/- The block of normed tokens that one grid point leaves, read at a row and a feature, and the whole array after the run. -/
module

public import proofs.«01_k».proof.Proof.Gen.KernelIdeal.Value
public import proofs.«01_k».proof.Proof.Merge.Tile
public import proofs.«01_k».proof.Proof.Merge.Host
public import Idealize.ShloMosaic.Lib.Pipeline.ValueKit.Tiles

@[expose] public section

set_option maxRecDepth 16384

namespace Cert.KernelIdeal.Merge

open Cert.KernelIdeal Cert.KernelIdeal.Gen Cert.Merge
open Idealize.ShloMosaic Idealize.ShloMosaic.TcCoe

section
variable {F : FTy → Type} [FloatOps F] [Named F]
variable (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole)
    (x0 : Vec F S512x1024 .f32) (x1 : Vec F S512x512 .bf16) (x2 : Vec F S512x512 .bf16) (x3 : Vec F S1024x2048 .bf16) (x4 : Vec F S1x2048 .f32) (x5 : Vec F S512x1024 .bf16) (x6 : Vec F S512x1024 .bf16) (x7 : Vec F S1024x1024 .bf16) (x8 : Vec F S1x1024 .f32) (x9 : Vec F S1x1024 .f32)

/-- The normed tokens of the subtile that starts at row `o` of the block. -/
noncomputable def subtile (o : ℕ) (ho : ∀ a, (![o, 0] : Fin 2 → Nat) a + S256x1024.size a ≤ S512x1024.size a) (ho' : ∀ a, (![o, 0] : Fin 2 → Nat) a + S256x512.size a ≤ S512x512.size a) :
    FVec F S256x1024 .f32 :=
  tile (arg1.view.readAt (Elt F) (Rect.unit (s := S512x1024) ![o, 0] S256x1024.size ho).toLoadRect (harg1.unread x0))
    (arg2.view.readAt (Elt F) (Rect.unit (s := S512x512) ![o, 0] S256x512.size ho').toLoadRect (harg2.unread x1))
    (arg3.view.readAt (Elt F) (Rect.unit (s := S512x512) ![o, 0] S256x512.size ho').toLoadRect (harg3.unread x2))
    (arg4.view.readAt (Elt F) (Rect.unit (s := S1024x2048) ![0, 0] S1024x2048.size inb_S1024x2048_S1024x2048_0_0).toLoadRect (harg4.unread x3))
    (arg5.view.readAt (Elt F) (Rect.unit (s := S1x2048) ![0, 0] S1x2048.size inb_S1x2048_S1x2048_0_0).toLoadRect (harg5.unread x4))
    (arg6.view.readAt (Elt F) (Rect.unit (s := S512x1024) ![0, 0] S512x1024.size inb_S512x1024_S512x1024_0_0).toLoadRect (harg6.unread x5))
    (arg7.view.readAt (Elt F) (Rect.unit (s := S512x1024) ![0, 0] S512x1024.size inb_S512x1024_S512x1024_0_0).toLoadRect (harg7.unread x6))
    (arg8.view.readAt (Elt F) (Rect.unit (s := S1024x1024) ![0, 0] S1024x1024.size inb_S1024x1024_S1024x1024_0_0).toLoadRect (harg8.unread x7))
    (arg9.view.readAt (Elt F) (Rect.unit (s := S1x1024) ![0, 0] S1x1024.size inb_S1x1024_S1x1024_0_0).toLoadRect (harg9.unread x8))
    (arg10.view.readAt (Elt F) (Rect.unit (s := S1x1024) ![0, 0] S1x1024.size inb_S1x1024_S1x1024_0_0).toLoadRect (harg10.unread x9))

/-- The two stores that make the block, the last first. -/
noncomputable def pieces : List (View.Piece (Elt F) S512x1024 .f32) :=
  [⟨Rect.unit (s := S512x1024) ![256, 0] S256x1024.size inb_S512x1024_S256x1024_256_0, subtile arg1 harg1 arg2 harg2 arg3 harg3 arg4 harg4 arg5 harg5 arg6 harg6 arg7 harg7 arg8 harg8 arg9 harg9 arg10 harg10 x0 x1 x2 x3 x4 x5 x6 x7 x8 x9 256 inb_S512x1024_S256x1024_256_0 inb_S512x512_S256x512_256_0⟩,
   ⟨Rect.unit (s := S512x1024) ![0, 0] S256x1024.size inb_S512x1024_S256x1024_0_0, subtile arg1 harg1 arg2 harg2 arg3 harg3 arg4 harg4 arg5 harg5 arg6 harg6 arg7 harg7 arg8 harg8 arg9 harg9 arg10 harg10 x0 x1 x2 x3 x4 x5 x6 x7 x8 x9 0 inb_S512x1024_S256x1024_0_0 inb_S512x512_S256x512_0_0⟩]

end

/-- The token at row `r` of a block. -/
def blockTok (x0 : Vec Ideal S512x1024 .f32) (x1 : Vec Ideal S512x512 .bf16) (x2 : Vec Ideal S512x512 .bf16) (x3 : Vec Ideal S1024x2048 .bf16) (x4 : Vec Ideal S1x2048 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) : Tok where
  x k := x0 (ix2 r k)
  ya k := x1 (ix2 r k)
  yb k := x2 (ix2 r k)
  wg k j := x3 (ix2 k j)
  bg j := x4 (ix2 0 j)
  wa k j := x5 (ix2 k j)
  wb k j := x6 (ix2 k j)
  wo k j := x7 (ix2 k j)
  g j := x8 (ix2 0 j)
  b j := x9 (ix2 0 j)

theorem blockTok_eq (x0 : Vec Ideal S512x1024 .f32) (x1 : Vec Ideal S512x512 .bf16) (x2 : Vec Ideal S512x512 .bf16) (x3 : Vec Ideal S1024x2048 .bf16) (x4 : Vec Ideal S1x2048 .f32) (x5 : Vec Ideal S512x1024 .bf16) (x6 : Vec Ideal S512x1024 .bf16) (x7 : Vec Ideal S1024x1024 .bf16) (x8 : Vec Ideal S1x1024 .f32) (x9 : Vec Ideal S1x1024 .f32) (r : Fin 512) (T : Tok)
    (h0 : ∀ k, x0 (ix2 r k) = T.x k) (h1 : ∀ k, x1 (ix2 r k) = T.ya k) (h2 : ∀ k, x2 (ix2 r k) = T.yb k)
    (h3 : ∀ k j, x3 (ix2 k j) = T.wg k j) (h4 : ∀ j, x4 (ix2 0 j) = T.bg j) (h5 : ∀ k j, x5 (ix2 k j) = T.wa k j) (h6 : ∀ k j, x6 (ix2 k j) = T.wb k j)
    (h7 : ∀ k j, x7 (ix2 k j) = T.wo k j) (h8 : ∀ j, x8 (ix2 0 j) = T.g j) (h9 : ∀ j, x9 (ix2 0 j) = T.b j) :
    blockTok x0 x1 x2 x3 x4 x5 x6 x7 x8 x9 r = T :=
  Tok.ext (funext h0) (funext h1) (funext h2) (funext fun k => funext (h3 k)) (funext h4) (funext fun k => funext (h5 k)) (funext fun k => funext (h6 k))
    (funext fun k => funext (h7 k)) (funext h8) (funext h9)

section
variable (arg1 : Memref sig .tc .vmem S512x1024 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S1024x2048 .bf16) (harg4 : arg4.IsWhole) (arg5 : Memref sig .tc .vmem S1x2048 .f32) (harg5 : arg5.IsWhole) (arg6 : Memref sig .tc .vmem S512x1024 .bf16) (harg6 : arg6.IsWhole) (arg7 : Memref sig .tc .vmem S512x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S1x1024 .f32) (harg10 : arg10.IsWhole)
    (x0 : Vec Ideal S512x1024 .f32) (x1 : Vec Ideal S512x512 .bf16) (x2 : Vec Ideal S512x512 .bf16) (x3 : Vec Ideal S1024x2048 .bf16) (x4 : Vec Ideal S1x2048 .f32) (x5 : Vec Ideal S512x1024 .bf16) (x6 : Vec Ideal S512x1024 .bf16) (x7 : Vec Ideal S1024x1024 .bf16) (x8 : Vec Ideal S1x1024 .f32) (x9 : Vec Ideal S1x1024 .f32)

theorem subtile_apply (o : ℕ) (ho ho') (r : Fin 256) (j : Fin 1024) (hr : o + r.val < 512) :
    subtile arg1 harg1 arg2 harg2 arg3 harg3 arg4 harg4 arg5 harg5 arg6 harg6 arg7 harg7 arg8 harg8 arg9 harg9 arg10 harg10 x0 x1 x2 x3 x4 x5 x6 x7 x8 x9 o ho ho' (ix2 r j) = (blockTok x0 x1 x2 x3 x4 x5 x6 x7 x8 x9 ⟨o + r.val, hr⟩).x1 j := by
  unfold subtile
  rw [tile_apply]
  congr 1
  unfold tok blockTok
  congr 1 <;> funext k
  · rw [View.readAt_apply, harg1.read_unread]; pointwise []
  · rw [View.readAt_apply, harg2.read_unread]; pointwise []
  · rw [View.readAt_apply, harg3.read_unread]; pointwise []
  · funext j; rw [View.readAt_apply, harg4.read_unread]; pointwise []
  · rw [View.readAt_apply, harg5.read_unread]; pointwise []
  · funext j; rw [View.readAt_apply, harg6.read_unread]; pointwise []
  · funext j; rw [View.readAt_apply, harg7.read_unread]; pointwise []
  · funext j; rw [View.readAt_apply, harg8.read_unread]; pointwise []
  · rw [View.readAt_apply, harg9.read_unread]; pointwise []
  · rw [View.readAt_apply, harg10.read_unread]; pointwise []

/-- The block at an index, whatever the buffer held: the token of the row, normed. -/
theorem read_pieces (v : View sig .tc .vmem S512x1024 .f32) (f) (L : List (View.Piece (Elt Ideal) S512x1024 .f32))
    (hL : L = pieces arg1 harg1 arg2 harg2 arg3 harg3 arg4 harg4 arg5 harg5 arg6 harg6 arg7 harg7 arg8 harg8 arg9 harg9 arg10 harg10 x0 x1 x2 x3 x4 x5 x6 x7 x8 x9)
    (r : Fin 512) (j : Fin 1024) (hc : ∃ p ∈ L, ix2 r j ∈ p.1.set) :
    v.read (Elt Ideal) (v.writes (Elt Ideal) f L) (ix2 r j) = (blockTok x0 x1 x2 x3 x4 x5 x6 x7 x8 x9 r).x1 j := by
  have key : ∀ p ∈ L, ∀ x : p.1.shape.Idx, p.2 x = (fun y : S512x1024.Idx => (blockTok x0 x1 x2 x3 x4 x5 x6 x7 x8 x9 (y 0)).x1 (y 1)) (p.1.emb x) := by
    have aux (o : ℕ) (ho ho') (x : S256x1024.Idx) : subtile arg1 harg1 arg2 harg2 arg3 harg3 arg4 harg4 arg5 harg5 arg6 harg6 arg7 harg7 arg8 harg8 arg9 harg9 arg10 harg10 x0 x1 x2 x3 x4 x5 x6 x7 x8 x9 o ho ho' x
        = (fun y : S512x1024.Idx => (blockTok x0 x1 x2 x3 x4 x5 x6 x7 x8 x9 (y 0)).x1 (y 1)) ((Rect.unit (s := S512x1024) ![o, 0] S256x1024.size ho).emb x) := by
      obtain ⟨r, j, rfl⟩ : ∃ (r : Fin 256) (j : Fin 1024), x = ix2 r j := ⟨x 0, x 1, eq_ix2 x⟩
      have hr : o + 256 ≤ 512 := ho 0
      rw [subtile_apply _ _ _ _ _ _ _ _ _ _ _ _ _ _ _ _ _ _ _ _ _ _ _ _ _ _ _ _ _ _ o ho ho' r j (by omega)]
      have e0 : ((Rect.unit (s := S512x1024) ![o, 0] S256x1024.size ho).emb (ix2 r j)) 0 = (⟨o + r.val, by omega⟩ : Fin 512) := Fin.ext (Rect.idx_unit_val ..)
      have e1 : ((Rect.unit (s := S512x1024) ![o, 0] S256x1024.size ho).emb (ix2 r j)) 1 = j := Fin.ext ((Rect.idx_unit_val ..).trans (Nat.zero_add _))
      dsimp only
      rw [e0, e1]
    subst hL
    intro p hp
    simp only [pieces, List.mem_cons, List.not_mem_nil, or_false] at hp
    rcases hp with rfl | rfl
    · exact aux 256 _ _
    · exact aux 0 _ _
  exact View.read_writes_apply_of_pieces v f (fun y : S512x1024.Idx => (blockTok x0 x1 x2 x3 x4 x5 x6 x7 x8 x9 (y 0)).x1 (y 1)) L key (ix2 r j) hc

end

end Cert.KernelIdeal.Merge
-- ==== Proof.Merge.Array.lean ====
/- The array of normed tokens after the run: every token is the row formula of the arguments. -/
module

public import proofs.«01_k».proof.Proof.Merge.Block

@[expose] public section

set_option maxRecDepth 16384

namespace Cert.KernelIdeal.Merge

open Cert.KernelIdeal Cert.KernelIdeal.Gen Cert.Merge
open Idealize.ShloMosaic Idealize.ShloMosaic.TcCoe

/-- Which block of its array each window reads or writes at a grid point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx13 : ∀ t : Fin cfg0.N, win0_13.index t (0 : Fin 2) = t.val ∧ win0_13.index t (1 : Fin 2) = 0 :=
  (by decide +kernel : ∀ t : Fin grid0.N, _)

theorem t_lt (t : Fin cfg0.N) : t.val < 64 := t.isLt.trans_eq (by decide +kernel)

theorem emb0 (t : Fin cfg0.N) (r : Fin 512) (k : Fin 1024) :
    ((cfg0.win 0).blk t).view.emb (ix2 r k) = ix2 (⟨t.val * 512 + r.val, by have := t_lt t; omega⟩ : Fin 65536) k := by
  obtain ⟨e0, e1⟩ := idx0 t
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega
theorem emb1 (t : Fin cfg0.N) (r : Fin 512) (k : Fin 512) :
    ((cfg0.win 1).blk t).view.emb (ix2 r k) = ix2 (⟨t.val * 512 + r.val, by have := t_lt t; omega⟩ : Fin 65536) k := by
  obtain ⟨e0, e1⟩ := idx1 t
  funext a; apply Fin.ext
  match a with
  | ⟨0, _⟩ => show win0_1.index t (0 : Fin 2) * 512 + 1 * r.val = t.val * 512 + r.val; omega
  | ⟨1, _⟩ => show win0_1.index t (1 : Fin 2) * 512 + 1 * k.val = k.val; omega
theorem emb2 (t : Fin cfg0.N) (r : Fin 512) (k : Fin 512) :
    ((cfg0.win 2).blk t).view.emb (ix2 r k) = ix2 (⟨t.val * 512 + r.val, by have := t_lt t; omega⟩ : Fin 65536) k := by
  obtain ⟨e0, e1⟩ := idx2 t
  funext a; apply Fin.ext
  match a with
  | ⟨0, _⟩ => show win0_2.index t (0 : Fin 2) * 512 + 1 * r.val = t.val * 512 + r.val; omega
  | ⟨1, _⟩ => show win0_2.index t (1 : Fin 2) * 512 + 1 * k.val = k.val; omega
theorem emb3 (t : Fin cfg0.N) (k : Fin 1024) (j : Fin 2048) : ((cfg0.win 3).blk t).view.emb (ix2 k j) = ix2 k j := by
  obtain ⟨e0, e1⟩ := idx3 t
  funext a; apply Fin.ext
  match a with
  | ⟨0, _⟩ => show win0_3.index t (0 : Fin 2) * 1024 + 1 * k.val = k.val; omega
  | ⟨1, _⟩ => show win0_3.index t (1 : Fin 2) * 2048 + 1 * j.val = j.val; omega
theorem emb4 (t : Fin cfg0.N) (k : Fin 1) (j : Fin 2048) : ((cfg0.win 4).blk t).view.emb (ix2 k j) = ix2 k j := by
  obtain ⟨e0, e1⟩ := idx4 t
  funext a; apply Fin.ext
  match a with
  | ⟨0, _⟩ => show win0_4.index t (0 : Fin 2) * 1 + 1 * k.val = k.val; omega
  | ⟨1, _⟩ => show win0_4.index t (1 : Fin 2) * 2048 + 1 * j.val = j.val; omega
theorem emb5 (t : Fin cfg0.N) (k : Fin 512) (j : Fin 1024) : ((cfg0.win 5).blk t).view.emb (ix2 k j) = ix2 k j := by
  obtain ⟨e0, e1⟩ := idx5 t
  funext a; apply Fin.ext
  match a with
  | ⟨0, _⟩ => show win0_5.index t (0 : Fin 2) * 512 + 1 * k.val = k.val; omega
  | ⟨1, _⟩ => show win0_5.index t (1 : Fin 2) * 1024 + 1 * j.val = j.val; omega
theorem emb6 (t : Fin cfg0.N) (k : Fin 512) (j : Fin 1024) : ((cfg0.win 6).blk t).view.emb (ix2 k j) = ix2 k j := by
  obtain ⟨e0, e1⟩ := idx6 t
  funext a; apply Fin.ext
  match a with
  | ⟨0, _⟩ => show win0_6.index t (0 : Fin 2) * 512 + 1 * k.val = k.val; omega
  | ⟨1, _⟩ => show win0_6.index t (1 : Fin 2) * 1024 + 1 * j.val = j.val; omega
theorem emb7 (t : Fin cfg0.N) (k : Fin 1024) (j : Fin 1024) : ((cfg0.win 7).blk t).view.emb (ix2 k j) = ix2 k j := by
  obtain ⟨e0, e1⟩ := idx7 t
  funext a; apply Fin.ext
  match a with
  | ⟨0, _⟩ => show win0_7.index t (0 : Fin 2) * 1024 + 1 * k.val = k.val; omega
  | ⟨1, _⟩ => show win0_7.index t (1 : Fin 2) * 1024 + 1 * j.val = j.val; omega
theorem emb8 (t : Fin cfg0.N) (k : Fin 1) (j : Fin 1024) : ((cfg0.win 8).blk t).view.emb (ix2 k j) = ix2 k j := by
  obtain ⟨e0, e1⟩ := idx8 t
  funext a; apply Fin.ext
  match a with
  | ⟨0, _⟩ => show win0_8.index t (0 : Fin 2) * 1 + 1 * k.val = k.val; omega
  | ⟨1, _⟩ => show win0_8.index t (1 : Fin 2) * 1024 + 1 * j.val = j.val; omega
theorem emb9 (t : Fin cfg0.N) (k : Fin 1) (j : Fin 1024) : ((cfg0.win 9).blk t).view.emb (ix2 k j) = ix2 k j := by
  obtain ⟨e0, e1⟩ := idx9 t
  funext a; apply Fin.ext
  match a with
  | ⟨0, _⟩ => show win0_9.index t (0 : Fin 2) * 1 + 1 * k.val = k.val; omega
  | ⟨1, _⟩ => show win0_9.index t (1 : Fin 2) * 1024 + 1 * j.val = j.val; omega
theorem emb13 (t : Fin cfg0.N) (r : Fin 512) (k : Fin 1024) :
    ((cfg0.win 13).blk t).view.emb (ix2 r k) = ix2 (⟨t.val * 512 + r.val, by have := t_lt t; omega⟩ : Fin 32768) k := by
  obtain ⟨e0, e1⟩ := idx13 t
  funext a; apply Fin.ext
  match a with
  | ⟨0, _⟩ => show win0_13.index t (0 : Fin 2) * 512 + 1 * r.val = t.val * 512 + r.val; omega
  | ⟨1, _⟩ => show win0_13.index t (1 : Fin 2) * 1024 + 1 * k.val = k.val; omega

/-- The token numbered `n`, from the arguments: row `n % 4096` of sequence `n / 4096`. -/
def argTok (a0 : Vec Ideal S16x4096x1024 .f32) (a1 a2 : Vec Ideal S16x4096x512 .bf16) (a3 : Vec Ideal S1x1024x4352 .f32) (a4 : Vec Ideal S1x4352 .f32)
  (a5 a6 : Vec Ideal S1x512x1024 .f32) (a7 : Vec Ideal S1x1024x1024 .f32) (a8 a9 : Vec Ideal S1x1024 .f32) (n : Fin 32768) : Tok where
  x k := a0 (ix3 ⟨n.val / 4096, by omega⟩ ⟨n.val % 4096, by omega⟩ k)
  ya k := a1 (ix3 ⟨n.val / 4096, by omega⟩ ⟨n.val % 4096, by omega⟩ k)
  yb k := a2 (ix3 ⟨n.val / 4096, by omega⟩ ⟨n.val % 4096, by omega⟩ k)
  wg k j := a3 (ix3 0 k ⟨2304 + j.val, by omega⟩)
  bg j := a4 (ix2 0 ⟨2304 + j.val, by omega⟩)
  wa k j := a5 (ix3 0 k j)
  wb k j := a6 (ix3 0 k j)
  wo k j := a7 (ix3 0 k j)
  g j := a8 (ix2 0 j)
  b j := a9 (ix2 0 j)

variable (m : (ℓ : Loc nD τ sig) → Buf (Elt Ideal) ℓ) (c : Dev nD)

/-- The token numbered `n` of the memory at launch. -/
noncomputable def memTok (n : Fin 32768) : Tok :=
  argTok (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9)) n

/-! Each fetched block at an index, from the arguments. -/

theorem iblk0_apply (t : Fin cfg0.N) (r : Fin 512) (k : Fin 1024) : iblk m c 0 t (ix2 r k) = (memTok m c ⟨t.val * 512 + r.val, by have := t_lt t; omega⟩).x k :=
  (congrArg (V m c main_v25) (emb0 t r k)).trans (V_x_apply m c _ k)
theorem iblk1_apply (t : Fin cfg0.N) (r : Fin 512) (k : Fin 512) : iblk m c 1 t (ix2 r k) = (memTok m c ⟨t.val * 512 + r.val, by have := t_lt t; omega⟩).ya k :=
  (congrArg (V m c main_v26) (emb1 t r k)).trans (V_ya_apply m c _ k)
theorem iblk2_apply (t : Fin cfg0.N) (r : Fin 512) (k : Fin 512) : iblk m c 2 t (ix2 r k) = (memTok m c ⟨t.val * 512 + r.val, by have := t_lt t; omega⟩).yb k :=
  (congrArg (V m c main_v27) (emb2 t r k)).trans (V_yb_apply m c _ k)
theorem iblk3_apply (t : Fin cfg0.N) (n : Fin 32768) (k : Fin 1024) (j : Fin 2048) : iblk m c 3 t (ix2 k j) = (memTok m c n).wg k j :=
  (congrArg (V m c main_v28) (emb3 t k j)).trans (V_wg_apply m c k j)
theorem iblk4_apply (t : Fin cfg0.N) (n : Fin 32768) (j : Fin 2048) : iblk m c 4 t (ix2 0 j) = (memTok m c n).bg j :=
  (congrArg (V m c main_v29) (emb4 t 0 j)).trans (V_bg_apply m c j)
theorem iblk5_apply (t : Fin cfg0.N) (n : Fin 32768) (k : Fin 512) (j : Fin 1024) : iblk m c 5 t (ix2 k j) = (memTok m c n).wa k j :=
  (congrArg (V m c main_v31) (emb5 t k j)).trans (V_wa_apply m c k j)
theorem iblk6_apply (t : Fin cfg0.N) (n : Fin 32768) (k : Fin 512) (j : Fin 1024) : iblk m c 6 t (ix2 k j) = (memTok m c n).wb k j :=
  (congrArg (V m c main_v33) (emb6 t k j)).trans (V_wb_apply m c k j)
theorem iblk7_apply (t : Fin cfg0.N) (n : Fin 32768) (k : Fin 1024) (j : Fin 1024) : iblk m c 7 t (ix2 k j) = (memTok m c n).wo k j :=
  (congrArg (V m c main_v35) (emb7 t k j)).trans (V_wo_apply m c k j)
theorem iblk8_apply (t : Fin cfg0.N) (n : Fin 32768) (j : Fin 1024) : iblk m c 8 t (ix2 0 j) = (memTok m c n).g j :=
  (congrArg (V m c main_v37) (emb8 t 0 j)).trans (V_g_apply m c j)
theorem iblk9_apply (t : Fin cfg0.N) (n : Fin 32768) (j : Fin 1024) : iblk m c 9 t (ix2 0 j) = (memTok m c n).b j :=
  (congrArg (V m c main_v39) (emb9 t 0 j)).trans (V_b_apply m c j)

/-- A row of the blocks that a grid point fetches is a token of the arguments. -/
theorem blockTok_iblk (t : Fin cfg0.N) (r : Fin 512) :
    blockTok (iblk m c 0 t) (iblk m c 1 t) (iblk m c 2 t) (iblk m c 3 t) (iblk m c 4 t) (iblk m c 5 t) (iblk m c 6 t) (iblk m c 7 t) (iblk m c 8 t) (iblk m c 9 t) r
      = memTok m c ⟨t.val * 512 + r.val, by have := t_lt t; omega⟩ :=
  blockTok_eq _ _ _ _ _ _ _ _ _ _ r _ (iblk0_apply m c t r) (iblk1_apply m c t r) (iblk2_apply m c t r)
    (iblk3_apply m c t _) (iblk4_apply m c t _) (iblk5_apply m c t _) (iblk6_apply m c t _) (iblk7_apply m c t _) (iblk8_apply m c t _) (iblk9_apply m c t _)

/-- What a grid point writes back, at a row and a feature. -/
theorem flushed_apply (t : Fin cfg0.N) (r : Fin 512) (j : Fin 1024) :
    (dats m 0 c).flushed 13 t (ix2 r j) = (memTok m c ⟨t.val * 512 + r.val, by have := t_lt t; omega⟩).x1 j := by
  rw [← blockTok_iblk]
  by_cases h : t.val % 64 = 0
  · rw [Value.flushed13_A m c t h]
    exact read_pieces (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ VO0_13 VO0_13.junk _ rfl r j
      (cover0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r j))
  · rw [Value.flushed13_B m c t h]
    exact read_pieces (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _ VO0_13 VO0_13.junk _ rfl r j
      (cover0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (fun h' => h ((hcond0_0 t).mp h')) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2 (ix2 r j))

/-- THE ARRAY OF NORMED TOKENS AFTER THE RUN, at a token and a feature. -/
theorem array_apply (n : Fin 32768) (j : Fin 1024) : (dats m 0 c).arrAt 13 cfg0.N (ix2 n j) = (memTok m c n).x1 j := by
  have hN : cfg0.N = 64 := by decide +kernel
  obtain ⟨t, r, hn⟩ : ∃ (t : Fin cfg0.N) (r : Fin 512), n.val = t.val * 512 + r.val :=
    ⟨⟨n.val / 512, by omega⟩, ⟨n.val % 512, by omega⟩, by dsimp only; omega⟩
  have b := congrFun (Value.blocks13 m c t (flush0_13 t)) (ix2 r j)
  rw [flushed_apply] at b
  have b' : (dats m 0 c).arrAt 13 cfg0.N (((cfg0.win 13).blk t).view.emb (ix2 r j)) = _ := b
  rw [emb13] at b'
  have e : n = ⟨t.val * 512 + r.val, by have := t_lt t; omega⟩ := Fin.ext hn
  rw [e]
  exact b'

end Cert.KernelIdeal.Merge
-- ==== Proof.Inproj.Formula.lean ====
/- One entry of the projection in words of plain sums, free of either program's shapes. -/
module

public import Idealize.ShloMosaic.Lib.Pointwise

@[expose] public section

namespace Cert.Inproj

open Idealize.ShloMosaic

/-- The column of the input weight that column `j` of the queries and keys is made from: the queries and the
    second kind of keys stand at their own columns, each head of the first kind of keys stands twice. -/
def qcol (j : Fin 1792) : Fin 4352 :=
  if j.val < 512 then ⟨j.val, by omega⟩ else if j.val < 768 then ⟨512 + (j.val - 512) / 128 * 64 + (j.val - 512) % 64, by omega⟩ else ⟨j.val, by omega⟩

/-- Whether column `j` is a query's, and so stands scaled. -/
def isQuery (j : Fin 1792) : Prop := j.val < 512 ∨ (768 ≤ j.val ∧ j.val < 1280)

instance (j : Fin 1792) : Decidable (isQuery j) := by unfold isQuery; infer_instance

/-- The column of the input weight that row `j` of the values is made from. -/
def vcol (j : Fin 640) : Fin 4352 := if j.val < 128 then ⟨640 + j.val, by omega⟩ else ⟨1664 + j.val, by omega⟩

theorem qcol_val (j : Fin 1792) : (qcol j).val = if j.val < 512 then j.val else if j.val < 768 then 512 + (j.val - 512) / 128 * 64 + (j.val - 512) % 64 else j.val := by
  unfold qcol; split_ifs <;> rfl
theorem vcol_val (j : Fin 640) : (vcol j).val = if j.val < 128 then 640 + j.val else 1664 + j.val := by
  unfold vcol; split_ifs <;> rfl

/-- A row of the input against a column of the weight, with the bias. -/
noncomputable def entry (x w : Fin 1024 → EReal) (b : EReal) : EReal := (∑ k, x k * w k) + b

/-- A nonnegative real factor goes through a finite sum. -/
theorem sum_mul_real (s : ℝ) (hs : 0 ≤ s) {ι : Type} (I : Finset ι) (f : ι → EReal) : ∑ k ∈ I, f k * (s : EReal) = (∑ k ∈ I, f k) * (s : EReal) := by
  classical
  induction I using Finset.induction_on with
  | empty => simp
  | insert a I ha ih => rw [Finset.sum_insert ha, Finset.sum_insert ha, ih, EReal.right_distrib_of_nonneg_of_ne_top (EReal.coe_nonneg.2 hs) (EReal.coe_ne_top s)]

/-- A column and a bias scaled by a nonnegative real give the entry scaled. -/
theorem entry_scale (x w : Fin 1024 → EReal) (b : EReal) (s : ℝ) (hs : 0 ≤ s) :
    entry x (fun k => w k * (s : EReal)) (b * (s : EReal)) = entry x w b * (s : EReal) := by
  unfold entry
  rw [EReal.right_distrib_of_nonneg_of_ne_top (EReal.coe_nonneg.2 hs) (EReal.coe_ne_top s), ← sum_mul_real s hs]
  simp only [mul_assoc]

/-- The factor of the queries: a pattern that denotes a nonnegative real. -/
noncomputable def factor : EReal := Ideal.ofBits .f32 0x3E38AA3B#32

theorem factor_real : ∃ s : ℝ, 0 ≤ s ∧ factor = (s : EReal) := by
  refine ⟨((8388608 + 3713595 : ℕ) : ℝ) * (2 : ℝ) ^ (-26 : ℤ), by positivity, ?_⟩
  have h1 : ((0x3E38AA3B#32 : BitVec 32).extractLsb' 23 8).toNat = 124 := by decide
  have h2 : ((0x3E38AA3B#32 : BitVec 32).extractLsb' 0 23).toNat = 3713595 := by decide
  have h3 : ((0x3E38AA3B#32 : BitVec 32).extractLsb' (8 + 23) 1 == 1#1) = false := by decide
  show Ideal.ieee 8 23 (0x3E38AA3B#32 : BitVec 32) = _
  unfold Ideal.ieee
  rw [h1, h2, h3]
  norm_num

/-- What stands at column `j` of the queries and keys of a row, from the input weight and bias. -/
noncomputable def qk (x : Fin 1024 → EReal) (w : Fin 1024 → Fin 4352 → EReal) (b : Fin 4352 → EReal) (j : Fin 1792) : EReal :=
  if isQuery j then entry x (fun k => w k (qcol j)) (b (qcol j)) * factor else entry x (fun k => w k (qcol j)) (b (qcol j))

/-- Scaling the columns before the product gives the same. -/
theorem qk_scaled (x : Fin 1024 → EReal) (w : Fin 1024 → Fin 4352 → EReal) (b : Fin 4352 → EReal) (j : Fin 1792) :
    entry x (fun k => if isQuery j then w k (qcol j) * factor else w k (qcol j)) (if isQuery j then b (qcol j) * factor else b (qcol j)) = qk x w b j := by
  obtain ⟨s, hs, e⟩ := factor_real
  unfold qk
  by_cases h : isQuery j
  · simp only [if_pos h, e]
    exact entry_scale _ _ _ s hs
  · simp only [if_neg h]

end Cert.Inproj
-- ==== Proof.Inproj.Block.lean ====
/- What one grid point of the projection leaves, at an index. -/
module

public import proofs.«01_k».proof.Proof.Gen.Kernel2Ideal.Value
public import proofs.«01_k».proof.Proof.Inproj.Formula
public import Idealize.ShloMosaic.Lib.Pipeline.ValueKit.Basic
public import Idealize.ShloMosaic.Lib.Pointwise

@[expose] public section

set_option maxRecDepth 16384

namespace Cert.Kernel2Ideal.Inproj

open Cert.Kernel2Ideal Cert.Kernel2Ideal.Gen Cert.Inproj
open Idealize.ShloMosaic Idealize.ShloMosaic.TcCoe

section
variable (x0 : Vec Ideal S1x512x1024 .f32) (x1 : Vec Ideal S1024x1792 .bf16) (x2 : Vec Ideal S1x1792 .f32) (x3 : Vec Ideal S640x1024 .bf16) (x4 : Vec Ideal S640x1 .f32)
  (x5 x6 : Vec Ideal S1x256x512 .f32) (x7 : Vec Ideal S1x128x1024 .f32)

theorem pay4_apply (r : Fin 512) (j : Fin 1792) : k0_pay4 x0 x1 x2 (ix3 0 r j) = entry (fun k => x0 (ix3 0 r k)) (fun k => x1 (ix2 k j)) (x2 (ix2 0 j)) := by
  pointwise [k0_pay4, k0_pay3, entry]
theorem pay5_apply (j : Fin 640) (r : Fin 512) : k0_pay5 x0 x3 x4 (ix3 0 j r) = entry (fun k => x0 (ix3 0 r k)) (fun k => x3 (ix2 j k)) (x4 (ix2 j 0)) := by
  pointwise [k0_pay5, k0_pay3, entry]
  simp only [mul_comm]
theorem pay6_eq : k0_pay6 x5 = x5 := by
  funext i
  obtain ⟨a, b, c, rfl⟩ : ∃ a b c, i = ix3 a b c := ⟨i 0, i 1, i 2, eq_ix3 i⟩
  pointwise [k0_pay6]
theorem pay1_eq : k0_pay1 x6 = x6 := by
  funext i
  obtain ⟨a, b, c, rfl⟩ : ∃ a b c, i = ix3 a b c := ⟨i 0, i 1, i 2, eq_ix3 i⟩
  pointwise [k0_pay1]
theorem pay2_eq : k0_pay2 x7 = x7 := by
  funext i
  obtain ⟨a, b, c, rfl⟩ : ∃ a b c, i = ix3 a b c := ⟨i 0, i 1, i 2, eq_ix3 i⟩
  pointwise [k0_pay2]

theorem out8_eq : out0_8 x0 x1 x2 x3 x4 x5 x6 x7 = k0_pay4 x0 x1 x2 := by
  unfold out0_8
  rw [View.canon_cons_unit_lit _ _ _ (by decide), View.ld_unit_lit _ _ (by decide), View.ld_unit_lit _ _ (by decide), View.ld_unit_lit _ _ (by decide)]
theorem out9_eq : out0_9 x0 x1 x2 x3 x4 x5 x6 x7 = k0_pay5 x0 x3 x4 := by
  unfold out0_9
  rw [View.canon_cons_unit_lit _ _ _ (by decide), View.ld_unit_lit _ _ (by decide), View.ld_unit_lit _ _ (by decide), View.ld_unit_lit _ _ (by decide)]
theorem out10_eq : out0_10 x0 x1 x2 x3 x4 x5 x6 x7 = x5 := by
  unfold out0_10
  rw [View.canon_cons_unit_lit _ _ _ (by decide), View.ld_unit_lit _ _ (by decide), pay6_eq]
theorem out11_eq : out0_11 x0 x1 x2 x3 x4 x5 x6 x7 = x6 := by
  unfold out0_11
  rw [View.canon_cons_unit_lit _ _ _ (by decide), View.ld_unit_lit _ _ (by decide), pay1_eq]
theorem out12_eq : out0_12 x0 x1 x2 x3 x4 x5 x6 x7 = x7 := by
  unfold out0_12
  rw [View.canon_cons_unit_lit _ _ _ (by decide), View.ld_unit_lit _ _ (by decide), pay2_eq]
end

end Cert.Kernel2Ideal.Inproj
-- ==== Proof.Inproj.Host.lean ====
/- What the host operations before the projection's call leave in the arrays that the call reads. -/
module

public import proofs.«01_k».proof.Proof.Gen.Kernel2Ideal.Frame
public import proofs.«01_k».proof.Proof.Inproj.Formula
public import Idealize.ShloMosaic.Lib.StableHlo.Run
public import Idealize.ShloMosaic.Lib.StableHlo.RunRead
public import Idealize.ShloMosaic.Lib.Pointwise

@[expose] public section

set_option maxRecDepth 16384

namespace Cert.Kernel2Ideal.Inproj

open Cert.Kernel2Ideal Cert.Kernel2Ideal.Gen Cert.Inproj
open Idealize.ShloMosaic Idealize.ShloMosaic.TcCoe Idealize.ShloMosaic.StableHlo

section
variable {F : FTy → Type} [FloatOps F]
variable (m : (ℓ : Loc nD τ sig) → Buf (Elt F) ℓ) (c : Dev nD)

/-- The weight's columns of the queries and keys, the queries' scaled, the first kind of keys doubled. -/
noncomputable def wn (a : Vec F S1x1024x4352 .f32) : FVec F S1024x1792 .bf16 :=
  let w : FVec F S1024x4352 .f32 := shapeCast S1024x4352 a shapeCasts_S1x1024x4352_S1024x4352
  let s : FVec F S1024x512 .f32 := broadcastInDim S1024x512 ![] bcast_S_S1024x512 (constant S_ .f32 0x3E38AA3B#32)
  let k : FVec F S1024x128 .f32 := extractStridedSlice S1024x128 ![0, 512] w slices_S1024x4352_S1024x128_0_512
  let k0 : FVec F S1024x64 .f32 := extractStridedSlice S1024x64 ![0, 0] k slices_S1024x128_S1024x64_0_0
  let k1 : FVec F S1024x64 .f32 := extractStridedSlice S1024x64 ![0, 64] k slices_S1024x128_S1024x64_0_64
  let kk : FVec F S1024x256 .f32 := concatenate S1024x256 1 [⟨S1024x64, k0⟩, ⟨S1024x64, k0⟩, ⟨S1024x64, k1⟩, ⟨S1024x64, k1⟩] concatenates_S1024x64_S1024x64_S1024x64_S1024x64_S1024x256_d1
  truncf .bf16 (concatenate S1024x1792 1
    [⟨S1024x512, (mulf (extractStridedSlice S1024x512 ![0, 0] w slices_S1024x4352_S1024x512_0_0) s : FVec F S1024x512 .f32)⟩, ⟨S1024x256, kk⟩,
     ⟨S1024x512, (mulf (extractStridedSlice S1024x512 ![0, 768] w slices_S1024x4352_S1024x512_0_768) s : FVec F S1024x512 .f32)⟩,
     ⟨S1024x512, (extractStridedSlice S1024x512 ![0, 1280] w slices_S1024x4352_S1024x512_0_1280 : FVec F S1024x512 .f32)⟩] concatenates_S1024x512_S1024x256_S1024x512_S1024x512_S1024x1792_d1) bitsLt_bf16_f32

/-- The bias of those columns. -/
noncomputable def bn (a : Vec F S1x4352 .f32) : FVec F S1x1792 .f32 :=
  let w : FVec F S4352 .f32 := shapeCast S4352 a shapeCasts_S1x4352_S4352
  let s : FVec F S512 .f32 := broadcastInDim S512 ![] bcast_S_S512 (constant S_ .f32 0x3E38AA3B#32)
  let k : FVec F S128 .f32 := extractStridedSlice S128 ![512] w slices_S4352_S128_512
  let k0 : FVec F S64 .f32 := extractStridedSlice S64 ![0] k slices_S128_S64_0
  let k1 : FVec F S64 .f32 := extractStridedSlice S64 ![64] k slices_S128_S64_64
  let kk : FVec F S256 .f32 := concatenate S256 0 [⟨S64, k0⟩, ⟨S64, k0⟩, ⟨S64, k1⟩, ⟨S64, k1⟩] concatenates_S64_S64_S64_S64_S256_d0
  broadcastInDim S1x1792 ![1] bcast_S1792_S1x1792_1 (concatenate S1792 0
    [⟨S512, (mulf (extractStridedSlice S512 ![0] w slices_S4352_S512_0) s : FVec F S512 .f32)⟩, ⟨S256, kk⟩,
     ⟨S512, (mulf (extractStridedSlice S512 ![768] w slices_S4352_S512_768) s : FVec F S512 .f32)⟩,
     ⟨S512, (extractStridedSlice S512 ![1280] w slices_S4352_S512_1280 : FVec F S512 .f32)⟩] concatenates_S512_S256_S512_S512_S1792_d0)

/-- The weight's columns of the values, as rows. -/
noncomputable def wt (a : Vec F S1x1024x4352 .f32) : FVec F S640x1024 .bf16 :=
  let w : FVec F S1024x4352 .f32 := shapeCast S1024x4352 a shapeCasts_S1x1024x4352_S1024x4352
  truncf .bf16 (transpose S640x1024 [1, 0] (concatenate S1024x640 1
    [⟨S1024x128, (extractStridedSlice S1024x128 ![0, 640] w slices_S1024x4352_S1024x128_0_640 : FVec F S1024x128 .f32)⟩,
     ⟨S1024x512, (extractStridedSlice S1024x512 ![0, 1792] w slices_S1024x4352_S1024x512_0_1792 : FVec F S1024x512 .f32)⟩] concatenates_S1024x128_S1024x512_S1024x640_d1)
    transposes_S1024x640_S640x1024_1_0) bitsLt_bf16_f32

/-- The bias of the values, as a column. -/
noncomputable def bt (a : Vec F S1x4352 .f32) : FVec F S640x1 .f32 :=
  let w : FVec F S4352 .f32 := shapeCast S4352 a shapeCasts_S1x4352_S4352
  broadcastInDim S640x1 ![0] bcast_S640_S640x1_0 (concatenate S640 0
    [⟨S128, (extractStridedSlice S128 ![640] w slices_S4352_S128_640 : FVec F S128 .f32)⟩, ⟨S512, (extractStridedSlice S512 ![1792] w slices_S4352_S512_1792 : FVec F S512 .f32)⟩] concatenates_S128_S512_S640_d0)

theorem V_wn : V m c main_v22 = wn (m ((c : Thread nD τ).loc main_arg1)) := by
  unfold V hostOps0
  after_reads_simp
  rfl
theorem V_bn : V m c main_v31 = bn (m ((c : Thread nD τ).loc main_arg2)) := by
  unfold V hostOps0
  after_reads_simp
  rfl
theorem V_wt : V m c main_v34 = wt (m ((c : Thread nD τ).loc main_arg1)) := by
  unfold V hostOps0
  after_reads_simp
  rfl
theorem V_bt : V m c main_v36 = bt (m ((c : Thread nD τ).loc main_arg2)) := by
  unfold V hostOps0
  after_reads_simp
  rfl
theorem V_eg : V m c main_v40 = shapeCast S128x256x512 (shapeCast S32x1024x512 (m ((c : Thread nD τ).loc main_arg3)) shapeCasts_S1x32x1024x512_S32x1024x512) shapeCasts_S32x1024x512_S128x256x512 := by
  unfold V hostOps0
  after_reads_simp
  rfl
theorem V_eu : V m c main_v41 = shapeCast S128x256x512 (shapeCast S32x1024x512 (m ((c : Thread nD τ).loc main_arg4)) shapeCasts_S1x32x1024x512_S32x1024x512) shapeCasts_S32x1024x512_S128x256x512 := by
  unfold V hostOps0
  after_reads_simp
  rfl
theorem V_ed : V m c main_v42 = shapeCast S128x128x1024 (shapeCast S32x512x1024 (m ((c : Thread nD τ).loc main_arg5)) shapeCasts_S1x32x512x1024_S32x512x1024) shapeCasts_S32x512x1024_S128x128x1024 := by
  unfold V hostOps0
  after_reads_simp
  rfl
end
end Cert.Kernel2Ideal.Inproj
-- ==== Proof.Inproj.HostRead.lean ====
/- The arrays that the projection's call reads, at an index. -/
module

public import proofs.«01_k».proof.Proof.Inproj.Host

@[expose] public section

set_option maxRecDepth 16384

namespace Cert.Kernel2Ideal.Inproj

open Cert.Kernel2Ideal Cert.Kernel2Ideal.Gen Cert.Inproj
open Idealize.ShloMosaic Idealize.ShloMosaic.TcCoe Idealize.ShloMosaic.StableHlo

theorem at_col (a : Vec Ideal S1x1024x4352 .f32) (k : Fin 1024) {i j : Fin 4352} (h : i.val = j.val) : a (ix3 0 k i) = a (ix3 0 k j) := by rw [Fin.ext h]
theorem at_bias (a : Vec Ideal S1x4352 .f32) {i j : Fin 4352} (h : i.val = j.val) : a (ix2 0 i) = a (ix2 0 j) := by rw [Fin.ext h]
theorem at_col_mul (a : Vec Ideal S1x1024x4352 .f32) (f : EReal) (k : Fin 1024) {i j : Fin 4352} (h : i.val = j.val) : a (ix3 0 k i) * f = a (ix3 0 k j) * f := by rw [Fin.ext h]
theorem at_bias_mul (a : Vec Ideal S1x4352 .f32) (f : EReal) {i j : Fin 4352} (h : i.val = j.val) : a (ix2 0 i) * f = a (ix2 0 j) * f := by rw [Fin.ext h]

theorem wn_apply (a : Vec Ideal S1x1024x4352 .f32) (k : Fin 1024) (j : Fin 1792) :
    wn a (ix2 k j) = if isQuery j then a (ix3 0 k (qcol j)) * factor else a (ix3 0 k (qcol j)) := by
  have hq := qcol_val j
  have hc : isQuery j ↔ (j.val < 512 ∨ (768 ≤ j.val ∧ j.val < 1280)) := Iff.rfl
  by_cases h : isQuery j
  · rw [if_pos h]
    rw [hc] at h
    generalize qcol j = q at hq ⊢
    unfold wn factor
    pointwise []
    split_ifs at hq <;>
    split_ifs <;> first | (exfalso; omega) | exact at_col a k (by first | (exfalso; omega) | (dsimp only; omega)) | exact at_col_mul a _ k (by first | (exfalso; omega) | (dsimp only; omega))
  · rw [if_neg h]
    rw [hc] at h
    generalize qcol j = q at hq ⊢
    unfold wn
    pointwise []
    split_ifs at hq <;>
    split_ifs <;> first | (exfalso; omega) | exact at_col a k (by first | (exfalso; omega) | (dsimp only; omega)) | exact at_col_mul a _ k (by first | (exfalso; omega) | (dsimp only; omega))
theorem bn_apply (a : Vec Ideal S1x4352 .f32) (j : Fin 1792) :
    bn a (ix2 0 j) = if isQuery j then a (ix2 0 (qcol j)) * factor else a (ix2 0 (qcol j)) := by
  have hq := qcol_val j
  have hc : isQuery j ↔ (j.val < 512 ∨ (768 ≤ j.val ∧ j.val < 1280)) := Iff.rfl
  by_cases h : isQuery j
  · rw [if_pos h]
    rw [hc] at h
    generalize qcol j = q at hq ⊢
    unfold bn factor
    pointwise []
    split_ifs at hq <;>
    split_ifs <;> first | (exfalso; omega) | exact at_bias a (by first | (exfalso; omega) | (dsimp only; omega)) | exact at_bias_mul a _ (by first | (exfalso; omega) | (dsimp only; omega))
  · rw [if_neg h]
    rw [hc] at h
    generalize qcol j = q at hq ⊢
    unfold bn
    pointwise []
    split_ifs at hq <;>
    split_ifs <;> first | (exfalso; omega) | exact at_bias a (by first | (exfalso; omega) | (dsimp only; omega)) | exact at_bias_mul a _ (by first | (exfalso; omega) | (dsimp only; omega))
theorem wt_apply (a : Vec Ideal S1x1024x4352 .f32) (j : Fin 640) (k : Fin 1024) : wt a (ix2 j k) = a (ix3 0 k (vcol j)) := by
  have hq := vcol_val j
  unfold wt
  pointwise []
  split_ifs at hq ⊢ <;> exact at_col a k (by first | omega | (dsimp only; omega))
theorem bt_apply (a : Vec Ideal S1x4352 .f32) (j : Fin 640) : bt a (ix2 j 0) = a (ix2 0 (vcol j)) := by
  have hq := vcol_val j
  unfold bt
  pointwise []
  split_ifs at hq ⊢ <;> exact at_bias a (by first | omega | (dsimp only; omega))

/-- A weight cut in two steps is the weight cut in one. -/
theorem eg_apply (a : Vec Ideal S1x32x1024x512 .f32) (g : Fin 128) (r : Fin 256) (c : Fin 512) :
    (shapeCast S128x256x512 (shapeCast S32x1024x512 a shapeCasts_S1x32x1024x512_S32x1024x512) shapeCasts_S32x1024x512_S128x256x512) (ix3 g r c)
      = a (ix4 0 ⟨g.val / 4, by omega⟩ ⟨g.val % 4 * 256 + r.val, by omega⟩ c) := by
  pointwise []
theorem ed_apply (a : Vec Ideal S1x32x512x1024 .f32) (g : Fin 128) (r : Fin 128) (c : Fin 1024) :
    (shapeCast S128x128x1024 (shapeCast S32x512x1024 a shapeCasts_S1x32x512x1024_S32x512x1024) shapeCasts_S32x512x1024_S128x128x1024) (ix3 g r c)
      = a (ix4 0 ⟨g.val / 4, by omega⟩ ⟨g.val % 4 * 128 + r.val, by omega⟩ c) := by
  pointwise []

end Cert.Kernel2Ideal.Inproj
-- ==== Proof.Inproj.Array.lean ====
/- The arrays after the projection's run, at an index, from the arguments. -/
module

public import proofs.«01_k».proof.Proof.Inproj.Block
public import proofs.«01_k».proof.Proof.Inproj.HostRead

@[expose] public section

set_option maxRecDepth 16384

namespace Cert.Kernel2Ideal.Inproj

open Cert.Kernel2Ideal Cert.Kernel2Ideal.Gen Cert.Inproj
open Idealize.ShloMosaic Idealize.ShloMosaic.TcCoe

/-- Which block of its array each window reads or writes at a grid point. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val ∧ win0_5.index t (1 : Fin 3) = 0 ∧ win0_5.index t (2 : Fin 3) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)
theorem idx8 : ∀ t : Fin cfg0.N, win0_8.index t (0 : Fin 3) = t.val / 8 ∧ win0_8.index t (1 : Fin 3) = t.val % 8 ∧ win0_8.index t (2 : Fin 3) = 0 :=
  (by decide +kernel : ∀ t : Fin grid0.N, _)
theorem idx9 : ∀ t : Fin cfg0.N, win0_9.index t (0 : Fin 3) = t.val / 8 ∧ win0_9.index t (1 : Fin 3) = 0 ∧ win0_9.index t (2 : Fin 3) = t.val % 8 :=
  (by decide +kernel : ∀ t : Fin grid0.N, _)
theorem idx10 : ∀ t : Fin cfg0.N, win0_10.index t (0 : Fin 3) = t.val ∧ win0_10.index t (1 : Fin 3) = 0 ∧ win0_10.index t (2 : Fin 3) = 0 :=
  (by decide +kernel : ∀ t : Fin grid0.N, _)
theorem idx11 : ∀ t : Fin cfg0.N, win0_11.index t (0 : Fin 3) = t.val ∧ win0_11.index t (1 : Fin 3) = 0 ∧ win0_11.index t (2 : Fin 3) = 0 :=
  (by decide +kernel : ∀ t : Fin grid0.N, _)
theorem idx12 : ∀ t : Fin cfg0.N, win0_12.index t (0 : Fin 3) = t.val ∧ win0_12.index t (1 : Fin 3) = 0 ∧ win0_12.index t (2 : Fin 3) = 0 :=
  (by decide +kernel : ∀ t : Fin grid0.N, _)

theorem t_lt (t : Fin cfg0.N) : t.val < 128 := t.isLt.trans_eq (by decide +kernel)

theorem emb0 (t : Fin cfg0.N) (i : Fin 1) (r : Fin 512) (k : Fin 1024) :
    ((cfg0.win 0).blk t).view.emb (ix3 i r k) = ix3 (⟨t.val / 8, by have := t_lt t; omega⟩ : Fin 16) (⟨t.val % 8 * 512 + r.val, by omega⟩ : Fin 4096) k := by
  obtain ⟨e0, e1, e2⟩ := idx0 t
  funext a; apply Fin.ext
  match a with
  | ⟨0, _⟩ => show win0_0.index t (0 : Fin 3) * 1 + 1 * i.val = t.val / 8; omega
  | ⟨1, _⟩ => show win0_0.index t (1 : Fin 3) * 512 + 1 * r.val = t.val % 8 * 512 + r.val; omega
  | ⟨2, _⟩ => show win0_0.index t (2 : Fin 3) * 1024 + 1 * k.val = k.val; omega
theorem emb1 (t : Fin cfg0.N) (i : Fin 1024) (r : Fin 1792) :
    ((cfg0.win 1).blk t).view.emb (ix2 i r) = ix2 i r := by
  obtain ⟨e0, e1⟩ := idx1 t
  funext a; apply Fin.ext
  match a with
  | ⟨0, _⟩ => show win0_1.index t (0 : Fin 2) * 1024 + 1 * i.val = i.val; omega
  | ⟨1, _⟩ => show win0_1.index t (1 : Fin 2) * 1792 + 1 * r.val = r.val; omega
theorem emb2 (t : Fin cfg0.N) (i : Fin 1) (r : Fin 1792) :
    ((cfg0.win 2).blk t).view.emb (ix2 i r) = ix2 i r := by
  obtain ⟨e0, e1⟩ := idx2 t
  funext a; apply Fin.ext
  match a with
  | ⟨0, _⟩ => show win0_2.index t (0 : Fin 2) * 1 + 1 * i.val = i.val; omega
  | ⟨1, _⟩ => show win0_2.index t (1 : Fin 2) * 1792 + 1 * r.val = r.val; omega
theorem emb3 (t : Fin cfg0.N) (i : Fin 640) (r : Fin 1024) :
    ((cfg0.win 3).blk t).view.emb (ix2 i r) = ix2 i r := by
  obtain ⟨e0, e1⟩ := idx3 t
  funext a; apply Fin.ext
  match a with
  | ⟨0, _⟩ => show win0_3.index t (0 : Fin 2) * 640 + 1 * i.val = i.val; omega
  | ⟨1, _⟩ => show win0_3.index t (1 : Fin 2) * 1024 + 1 * r.val = r.val; omega
theorem emb4 (t : Fin cfg0.N) (i : Fin 640) (r : Fin 1) :
    ((cfg0.win 4).blk t).view.emb (ix2 i r) = ix2 i r := by
  obtain ⟨e0, e1⟩ := idx4 t
  funext a; apply Fin.ext
  match a with
  | ⟨0, _⟩ => show win0_4.index t (0 : Fin 2) * 640 + 1 * i.val = i.val; omega
  | ⟨1, _⟩ => show win0_4.index t (1 : Fin 2) * 1 + 1 * r.val = r.val; omega
theorem emb5 (t : Fin cfg0.N) (i : Fin 1) (r : Fin 256) (k : Fin 512) :
    ((cfg0.win 5).blk t).view.emb (ix3 i r k) = ix3 (⟨t.val, by have := t_lt t; omega⟩ : Fin 128) r k := by
  obtain ⟨e0, e1, e2⟩ := idx5 t
  funext a; apply Fin.ext
  match a with
  | ⟨0, _⟩ => show win0_5.index t (0 : Fin 3) * 1 + 1 * i.val = t.val; omega
  | ⟨1, _⟩ => show win0_5.index t (1 : Fin 3) * 256 + 1 * r.val = r.val; omega
  | ⟨2, _⟩ => show win0_5.index t (2 : Fin 3) * 512 + 1 * k.val = k.val; omega
theorem emb6 (t : Fin cfg0.N) (i : Fin 1) (r : Fin 256) (k : Fin 512) :
    ((cfg0.win 6).blk t).view.emb (ix3 i r k) = ix3 (⟨t.val, by have := t_lt t; omega⟩ : Fin 128) r k := by
  obtain ⟨e0, e1, e2⟩ := idx6 t
  funext a; apply Fin.ext
  match a with
  | ⟨0, _⟩ => show win0_6.index t (0 : Fin 3) * 1 + 1 * i.val = t.val; omega
  | ⟨1, _⟩ => show win0_6.index t (1 : Fin 3) * 256 + 1 * r.val = r.val; omega
  | ⟨2, _⟩ => show win0_6.index t (2 : Fin 3) * 512 + 1 * k.val = k.val; omega
theorem emb7 (t : Fin cfg0.N) (i : Fin 1) (r : Fin 128) (k : Fin 1024) :
    ((cfg0.win 7).blk t).view.emb (ix3 i r k) = ix3 (⟨t.val, by have := t_lt t; omega⟩ : Fin 128) r k := by
  obtain ⟨e0, e1, e2⟩ := idx7 t
  funext a; apply Fin.ext
  match a with
  | ⟨0, _⟩ => show win0_7.index t (0 : Fin 3) * 1 + 1 * i.val = t.val; omega
  | ⟨1, _⟩ => show win0_7.index t (1 : Fin 3) * 128 + 1 * r.val = r.val; omega
  | ⟨2, _⟩ => show win0_7.index t (2 : Fin 3) * 1024 + 1 * k.val = k.val; omega
theorem emb8 (t : Fin cfg0.N) (i : Fin 1) (r : Fin 512) (k : Fin 1792) :
    ((cfg0.win 8).blk t).view.emb (ix3 i r k) = ix3 (⟨t.val / 8, by have := t_lt t; omega⟩ : Fin 16) (⟨t.val % 8 * 512 + r.val, by omega⟩ : Fin 4096) k := by
  obtain ⟨e0, e1, e2⟩ := idx8 t
  funext a; apply Fin.ext
  match a with
  | ⟨0, _⟩ => show win0_8.index t (0 : Fin 3) * 1 + 1 * i.val = t.val / 8; omega
  | ⟨1, _⟩ => show win0_8.index t (1 : Fin 3) * 512 + 1 * r.val = t.val % 8 * 512 + r.val; omega
  | ⟨2, _⟩ => show win0_8.index t (2 : Fin 3) * 1792 + 1 * k.val = k.val; omega
theorem emb9 (t : Fin cfg0.N) (i : Fin 1) (r : Fin 640) (k : Fin 512) :
    ((cfg0.win 9).blk t).view.emb (ix3 i r k) = ix3 (⟨t.val / 8, by have := t_lt t; omega⟩ : Fin 16) r (⟨t.val % 8 * 512 + k.val, by omega⟩ : Fin 4096) := by
  obtain ⟨e0, e1, e2⟩ := idx9 t
  funext a; apply Fin.ext
  match a with
  | ⟨0, _⟩ => show win0_9.index t (0 : Fin 3) * 1 + 1 * i.val = t.val / 8; omega
  | ⟨1, _⟩ => show win0_9.index t (1 : Fin 3) * 640 + 1 * r.val = r.val; omega
  | ⟨2, _⟩ => show win0_9.index t (2 : Fin 3) * 512 + 1 * k.val = t.val % 8 * 512 + k.val; omega
theorem emb10 (t : Fin cfg0.N) (i : Fin 1) (r : Fin 256) (k : Fin 512) :
    ((cfg0.win 10).blk t).view.emb (ix3 i r k) = ix3 (⟨t.val, by have := t_lt t; omega⟩ : Fin 128) r k := by
  obtain ⟨e0, e1, e2⟩ := idx10 t
  funext a; apply Fin.ext
  match a with
  | ⟨0, _⟩ => show win0_10.index t (0 : Fin 3) * 1 + 1 * i.val = t.val; omega
  | ⟨1, _⟩ => show win0_10.index t (1 : Fin 3) * 256 + 1 * r.val = r.val; omega
  | ⟨2, _⟩ => show win0_10.index t (2 : Fin 3) * 512 + 1 * k.val = k.val; omega
theorem emb11 (t : Fin cfg0.N) (i : Fin 1) (r : Fin 256) (k : Fin 512) :
    ((cfg0.win 11).blk t).view.emb (ix3 i r k) = ix3 (⟨t.val, by have := t_lt t; omega⟩ : Fin 128) r k := by
  obtain ⟨e0, e1, e2⟩ := idx11 t
  funext a; apply Fin.ext
  match a with
  | ⟨0, _⟩ => show win0_11.index t (0 : Fin 3) * 1 + 1 * i.val = t.val; omega
  | ⟨1, _⟩ => show win0_11.index t (1 : Fin 3) * 256 + 1 * r.val = r.val; omega
  | ⟨2, _⟩ => show win0_11.index t (2 : Fin 3) * 512 + 1 * k.val = k.val; omega
theorem emb12 (t : Fin cfg0.N) (i : Fin 1) (r : Fin 128) (k : Fin 1024) :
    ((cfg0.win 12).blk t).view.emb (ix3 i r k) = ix3 (⟨t.val, by have := t_lt t; omega⟩ : Fin 128) r k := by
  obtain ⟨e0, e1, e2⟩ := idx12 t
  funext a; apply Fin.ext
  match a with
  | ⟨0, _⟩ => show win0_12.index t (0 : Fin 3) * 1 + 1 * i.val = t.val; omega
  | ⟨1, _⟩ => show win0_12.index t (1 : Fin 3) * 128 + 1 * r.val = r.val; omega
  | ⟨2, _⟩ => show win0_12.index t (2 : Fin 3) * 1024 + 1 * k.val = k.val; omega

variable (m : (ℓ : Loc nD τ sig) → Buf (Elt Ideal) ℓ) (c : Dev nD)

/-! Each fetched block at an index, from the arguments. -/

theorem iblk0_apply (t : Fin cfg0.N) (r : Fin 512) (k : Fin 1024) :
    iblk m c 0 t (ix3 0 r k) = m ((c : Thread nD τ).loc main_arg0) (ix3 ⟨t.val / 8, by have := t_lt t; omega⟩ ⟨t.val % 8 * 512 + r.val, by omega⟩ k) :=
  (congrArg (V m c main_arg0) (emb0 t 0 r k)).trans (congrFun (V_main_arg0 m c) _)
theorem iblk1_apply (t : Fin cfg0.N) (k : Fin 1024) (j : Fin 1792) : iblk m c 1 t (ix2 k j) = wn (m ((c : Thread nD τ).loc main_arg1)) (ix2 k j) :=
  (congrArg (V m c main_v22) (emb1 t k j)).trans (congrFun (V_wn m c) _)
theorem iblk2_apply (t : Fin cfg0.N) (j : Fin 1792) : iblk m c 2 t (ix2 0 j) = bn (m ((c : Thread nD τ).loc main_arg2)) (ix2 0 j) :=
  (congrArg (V m c main_v31) (emb2 t 0 j)).trans (congrFun (V_bn m c) _)
theorem iblk3_apply (t : Fin cfg0.N) (j : Fin 640) (k : Fin 1024) : iblk m c 3 t (ix2 j k) = wt (m ((c : Thread nD τ).loc main_arg1)) (ix2 j k) :=
  (congrArg (V m c main_v34) (emb3 t j k)).trans (congrFun (V_wt m c) _)
theorem iblk4_apply (t : Fin cfg0.N) (j : Fin 640) : iblk m c 4 t (ix2 j 0) = bt (m ((c : Thread nD τ).loc main_arg2)) (ix2 j 0) :=
  (congrArg (V m c main_v36) (emb4 t j 0)).trans (congrFun (V_bt m c) _)

/-- The queries and keys at a row of a grid point's block. -/
theorem flushed8_apply (t : Fin cfg0.N) (r : Fin 512) (j : Fin 1792) :
    (dats m 0 c).flushed 8 t (ix3 0 r j) = qk (fun k => m ((c : Thread nD τ).loc main_arg0) (ix3 ⟨t.val / 8, by have := t_lt t; omega⟩ ⟨t.val % 8 * 512 + r.val, by omega⟩ k))
      (fun k i => m ((c : Thread nD τ).loc main_arg1) (ix3 0 k i)) (fun i => m ((c : Thread nD τ).loc main_arg2) (ix2 0 i)) j := by
  rw [Value.flushed8]
  show out0_8 _ _ _ _ _ _ _ _ (ix3 0 r j) = _
  rw [out8_eq, pay4_apply]
  simp only [iblk0_apply, iblk1_apply, iblk2_apply, wn_apply, bn_apply]
  exact qk_scaled _ (fun k i => m ((c : Thread nD τ).loc main_arg1) (ix3 0 k i)) (fun i => m ((c : Thread nD τ).loc main_arg2) (ix2 0 i)) j
/-- The values at a row of a grid point's block. -/
theorem flushed9_apply (t : Fin cfg0.N) (j : Fin 640) (r : Fin 512) :
    (dats m 0 c).flushed 9 t (ix3 0 j r) = entry (fun k => m ((c : Thread nD τ).loc main_arg0) (ix3 ⟨t.val / 8, by have := t_lt t; omega⟩ ⟨t.val % 8 * 512 + r.val, by omega⟩ k))
      (fun k => m ((c : Thread nD τ).loc main_arg1) (ix3 0 k (vcol j))) (m ((c : Thread nD τ).loc main_arg2) (ix2 0 (vcol j))) := by
  rw [Value.flushed9]
  show out0_9 _ _ _ _ _ _ _ _ (ix3 0 j r) = _
  rw [out9_eq, pay5_apply]
  simp only [iblk0_apply, iblk3_apply, iblk4_apply, wt_apply, bt_apply]
theorem flushed10_apply (t : Fin cfg0.N) (r : Fin 256) (k : Fin 512) : (dats m 0 c).flushed 10 t (ix3 0 r k) = V m c main_v40 (ix3 ⟨t.val, t_lt t⟩ r k) := by
  rw [Value.flushed10]
  show out0_10 _ _ _ _ _ _ _ _ (ix3 0 r k) = _
  rw [out10_eq]
  exact congrArg (V m c main_v40) (emb5 t 0 r k)
theorem flushed11_apply (t : Fin cfg0.N) (r : Fin 256) (k : Fin 512) : (dats m 0 c).flushed 11 t (ix3 0 r k) = V m c main_v41 (ix3 ⟨t.val, t_lt t⟩ r k) := by
  rw [Value.flushed11]
  show out0_11 _ _ _ _ _ _ _ _ (ix3 0 r k) = _
  rw [out11_eq]
  exact congrArg (V m c main_v41) (emb6 t 0 r k)
theorem flushed12_apply (t : Fin cfg0.N) (r : Fin 128) (k : Fin 1024) : (dats m 0 c).flushed 12 t (ix3 0 r k) = V m c main_v42 (ix3 ⟨t.val, t_lt t⟩ r k) := by
  rw [Value.flushed12]
  show out0_12 _ _ _ _ _ _ _ _ (ix3 0 r k) = _
  rw [out12_eq]
  exact congrArg (V m c main_v42) (emb7 t 0 r k)

theorem N_eq : cfg0.N = 128 := by decide +kernel

/-- THE QUERIES AND KEYS AFTER THE RUN. -/
theorem array8_apply (b : Fin 16) (n : Fin 4096) (j : Fin 1792) :
    (dats m 0 c).arrAt 8 cfg0.N (ix3 b n j) = qk (fun k => m ((c : Thread nD τ).loc main_arg0) (ix3 b n k))
      (fun k i => m ((c : Thread nD τ).loc main_arg1) (ix3 0 k i)) (fun i => m ((c : Thread nD τ).loc main_arg2) (ix2 0 i)) j := by
  have hN := N_eq
  obtain ⟨t, r, hb, hn⟩ : ∃ (t : Fin cfg0.N) (r : Fin 512), b.val = t.val / 8 ∧ n.val = t.val % 8 * 512 + r.val :=
    ⟨⟨b.val * 8 + n.val / 512, by omega⟩, ⟨n.val % 512, by omega⟩, by dsimp only; omega, by dsimp only; omega⟩
  have e := congrFun (Value.blocks8 m c t (flush0_8 t)) (ix3 0 r j)
  rw [flushed8_apply] at e
  have e' : (dats m 0 c).arrAt 8 cfg0.N (((cfg0.win 8).blk t).view.emb (ix3 0 r j)) = _ := e
  rw [emb8] at e'
  have eb : b = ⟨t.val / 8, by have := t_lt t; omega⟩ := Fin.ext hb
  have en : n = ⟨t.val % 8 * 512 + r.val, by omega⟩ := Fin.ext hn
  rw [eb, en]
  exact e'
/-- THE VALUES AFTER THE RUN. -/
theorem array9_apply (b : Fin 16) (j : Fin 640) (n : Fin 4096) :
    (dats m 0 c).arrAt 9 cfg0.N (ix3 b j n) = entry (fun k => m ((c : Thread nD τ).loc main_arg0) (ix3 b n k))
      (fun k => m ((c : Thread nD τ).loc main_arg1) (ix3 0 k (vcol j))) (m ((c : Thread nD τ).loc main_arg2) (ix2 0 (vcol j))) := by
  have hN := N_eq
  obtain ⟨t, r, hb, hn⟩ : ∃ (t : Fin cfg0.N) (r : Fin 512), b.val = t.val / 8 ∧ n.val = t.val % 8 * 512 + r.val :=
    ⟨⟨b.val * 8 + n.val / 512, by omega⟩, ⟨n.val % 512, by omega⟩, by dsimp only; omega, by dsimp only; omega⟩
  have e := congrFun (Value.blocks9 m c t (flush0_9 t)) (ix3 0 j r)
  rw [flushed9_apply] at e
  have e' : (dats m 0 c).arrAt 9 cfg0.N (((cfg0.win 9).blk t).view.emb (ix3 0 j r)) = _ := e
  rw [emb9] at e'
  have eb : b = ⟨t.val / 8, by have := t_lt t; omega⟩ := Fin.ext hb
  have en : n = ⟨t.val % 8 * 512 + r.val, by omega⟩ := Fin.ext hn
  rw [eb, en]
  exact e'
/-- The slices of an expert weight after the run. -/
theorem array10_apply (g : Fin 128) (r : Fin 256) (k : Fin 512) :
    (dats m 0 c).arrAt 10 cfg0.N (ix3 g r k) = m ((c : Thread nD τ).loc main_arg3) (ix4 0 ⟨g.val / 4, by omega⟩ ⟨g.val % 4 * 256 + r.val, by omega⟩ k) := by
  have hN := N_eq
  obtain ⟨t, ht⟩ : ∃ t : Fin cfg0.N, g.val = t.val := ⟨⟨g.val, by omega⟩, rfl⟩
  have e := congrFun (Value.blocks10 m c t (flush0_10 t)) (ix3 0 r k)
  rw [flushed10_apply] at e
  have e' : (dats m 0 c).arrAt 10 cfg0.N (((cfg0.win 10).blk t).view.emb (ix3 0 r k)) = _ := e
  rw [emb10] at e'
  obtain rfl : g = ⟨t.val, t_lt t⟩ := Fin.ext ht
  refine e'.trans ((congrFun (V_eg m c) _).trans ?_)
  exact eg_apply _ _ r k
/-- The slices of an expert weight after the run. -/
theorem array11_apply (g : Fin 128) (r : Fin 256) (k : Fin 512) :
    (dats m 0 c).arrAt 11 cfg0.N (ix3 g r k) = m ((c : Thread nD τ).loc main_arg4) (ix4 0 ⟨g.val / 4, by omega⟩ ⟨g.val % 4 * 256 + r.val, by omega⟩ k) := by
  have hN := N_eq
  obtain ⟨t, ht⟩ : ∃ t : Fin cfg0.N, g.val = t.val := ⟨⟨g.val, by omega⟩, rfl⟩
  have e := congrFun (Value.blocks11 m c t (flush0_11 t)) (ix3 0 r k)
  rw [flushed11_apply] at e
  have e' : (dats m 0 c).arrAt 11 cfg0.N (((cfg0.win 11).blk t).view.emb (ix3 0 r k)) = _ := e
  rw [emb11] at e'
  obtain rfl : g = ⟨t.val, t_lt t⟩ := Fin.ext ht
  refine e'.trans ((congrFun (V_eu m c) _).trans ?_)
  exact eg_apply _ _ r k
/-- The slices of an expert weight after the run. -/
theorem array12_apply (g : Fin 128) (r : Fin 128) (k : Fin 1024) :
    (dats m 0 c).arrAt 12 cfg0.N (ix3 g r k) = m ((c : Thread nD τ).loc main_arg5) (ix4 0 ⟨g.val / 4, by omega⟩ ⟨g.val % 4 * 128 + r.val, by omega⟩ k) := by
  have hN := N_eq
  obtain ⟨t, ht⟩ : ∃ t : Fin cfg0.N, g.val = t.val := ⟨⟨g.val, by omega⟩, rfl⟩
  have e := congrFun (Value.blocks12 m c t (flush0_12 t)) (ix3 0 r k)
  rw [flushed12_apply] at e
  have e' : (dats m 0 c).arrAt 12 cfg0.N (((cfg0.win 12).blk t).view.emb (ix3 0 r k)) = _ := e
  rw [emb12] at e'
  obtain rfl : g = ⟨t.val, t_lt t⟩ := Fin.ext ht
  refine e'.trans ((congrFun (V_ed m c) _).trans ?_)
  exact ed_apply _ _ r k

end Cert.Kernel2Ideal.Inproj
-- ==== Proof.Inproj.Ref.lean ====
/- The reference of the projection, read at an index. -/
module

public import proofs.«01_k».proof.Proof.Gen.Reference2Ideal.Run
public import proofs.«01_k».proof.Proof.Inproj.Formula
public import Idealize.ShloMosaic.Lib.Pointwise

@[expose] public section

set_option maxRecDepth 16384

namespace Cert.Reference2Ideal.Inproj

open Cert.Reference2Ideal Cert.Reference2Ideal.Gen Cert.Inproj
open Idealize.ShloMosaic Idealize.ShloMosaic.TcCoe

section
variable (a0 : Vec Ideal S16x4096x1024 .f32) (a1 : Vec Ideal S1x1024x4352 .f32) (a2 : Vec Ideal S1x4352 .f32)

/-- The projection of every token. -/
noncomputable def proj : FVec Ideal S16x4096x2304 .f32 :=
  addf (Host.dotGeneral (φ₁ := .f32) (φ₂ := .f32) dot_S16x4096x1024_S1024x2304_S16x4096x2304_2_0_01_1_n_n none a0 (extractStridedSlice S1024x2304 ![0, 0] (shapeCast _ a1 shapeCasts_S1x1024x4352_S1024x4352) slices_S1024x4352_S1024x2304_0_0))
    (broadcastInDim S16x4096x2304 ![0, 1, 2] bcast_S1x1x2304_S16x4096x2304_0_1_2 (broadcastInDim S1x1x2304 ![2] bcast_S2304_S1x1x2304_2 (extractStridedSlice S2304 ![0] (shapeCast _ a2 shapeCasts_S1x4352_S4352) slices_S4352_S2304_0)))

/-- The common factor of the queries. -/
noncomputable def scale : FVec Ideal S16x4096x512 .f32 := broadcastInDim S16x4096x512 ![] bcast_S_S16x4096x512 (constant S_ .f32 0x3E38AA3B#32)

/-- The first kind of keys, each head standing twice. -/
noncomputable def doubled (p : FVec Ideal S16x4096x2304 .f32) : FVec Ideal S16x4096x256 .f32 :=
  shapeCast _ (shapeCast _ (broadcastInDim S1x16x1x4096x1x2x2x64 ![0, 1, 2, 3, 4, 5, 6, 7] bcast_S1x16x1x4096x1x2x1x64_S1x16x1x4096x1x2x2x64_0_1_2_3_4_5_6_7
    (shapeCast _ (shapeCast _ (extractStridedSlice S16x4096x128 ![0, 0, 512] p slices_S16x4096x2304_S16x4096x128_0_0_512) shapeCasts_S16x4096x128_S16x4096x2x64) shapeCasts_S16x4096x2x64_S1x16x1x4096x1x2x1x64))
    shapeCasts_S1x16x1x4096x1x2x2x64_S16x4096x2x128) shapeCasts_S16x4096x2x128_S16x4096x256

/-- The queries and keys. -/
noncomputable def queriesKeys (p : FVec Ideal S16x4096x2304 .f32) : FVec Ideal S16x4096x1792 .bf16 :=
  truncf .bf16 (concatenate S16x4096x1792 2
    [⟨S16x4096x512, (mulf (extractStridedSlice S16x4096x512 ![0, 0, 0] p slices_S16x4096x2304_S16x4096x512_0_0_0) scale : FVec Ideal S16x4096x512 .f32)⟩,
     ⟨S16x4096x256, doubled p⟩,
     ⟨S16x4096x512, (mulf (extractStridedSlice S16x4096x512 ![0, 0, 768] p slices_S16x4096x2304_S16x4096x512_0_0_768) scale : FVec Ideal S16x4096x512 .f32)⟩,
     ⟨S16x4096x512, (extractStridedSlice S16x4096x512 ![0, 0, 1280] p slices_S16x4096x2304_S16x4096x512_0_0_1280 : FVec Ideal S16x4096x512 .f32)⟩]
    concatenates_S16x4096x512_S16x4096x256_S16x4096x512_S16x4096x512_S16x4096x1792_d2) bitsLt_bf16_f32

/-- The values, features first. -/
noncomputable def values (p : FVec Ideal S16x4096x2304 .f32) : FVec Ideal S16x640x4096 .bf16 :=
  truncf .bf16 (transpose S16x640x4096 [0, 2, 1] (concatenate S16x4096x640 2
    [⟨S16x4096x128, (extractStridedSlice S16x4096x128 ![0, 0, 640] p slices_S16x4096x2304_S16x4096x128_0_0_640 : FVec Ideal S16x4096x128 .f32)⟩,
     ⟨S16x4096x512, (extractStridedSlice S16x4096x512 ![0, 0, 1792] p slices_S16x4096x2304_S16x4096x512_0_0_1792 : FVec Ideal S16x4096x512 .f32)⟩]
    concatenates_S16x4096x128_S16x4096x512_S16x4096x640_d2) transposes_S16x4096x640_S16x640x4096_0_2_1) bitsLt_bf16_f32

theorem proj_apply (b : Fin 16) (n : Fin 4096) (j : Fin 2304) :
    proj a0 a1 a2 (ix3 b n j) = entry (fun k => a0 (ix3 b n k)) (fun k => a1 (ix3 0 k ⟨j.val, by omega⟩)) (a2 (ix2 0 ⟨j.val, by omega⟩)) := by
  pointwise [proj, entry]

theorem doubled_apply (p : FVec Ideal S16x4096x2304 .f32) (b : Fin 16) (n : Fin 4096) (j : Fin 256) :
    doubled p (ix3 b n j) = p (ix3 b n ⟨512 + (j.val / 128 * 64 + j.val % 64), by omega⟩) := by
  pointwise [doubled]

/-- What stands at a column of the queries and keys. -/
theorem queriesKeys_apply (p : FVec Ideal S16x4096x2304 .f32) (b : Fin 16) (n : Fin 4096) (j : Fin 1792) (q : Fin 2304) (hq : q.val = (qcol j).val) :
    queriesKeys p (ix3 b n j) = if isQuery j then p (ix3 b n q) * factor else p (ix3 b n q) := by
  have hj := qcol_val j
  rw [← hq] at hj
  have hc : isQuery j ↔ (j.val < 512 ∨ (768 ≤ j.val ∧ j.val < 1280)) := Iff.rfl
  have at_p {i k : Fin 2304} (h : i.val = k.val) : p (ix3 b n i) = p (ix3 b n k) := by rw [Fin.ext h]
  have at_pm {i k : Fin 2304} (f : EReal) (h : i.val = k.val) : p (ix3 b n i) * f = p (ix3 b n k) * f := by rw [Fin.ext h]
  by_cases h : isQuery j
  · rw [if_pos h]
    rw [hc] at h
    unfold queriesKeys scale factor
    pointwise []
    simp only [doubled_apply]
    split_ifs at hj <;> split_ifs <;> first | (exfalso; omega) | exact at_p (by first | omega | (dsimp only; omega)) | exact at_pm _ (by first | omega | (dsimp only; omega))
  · rw [if_neg h]
    rw [hc] at h
    unfold queriesKeys scale
    pointwise []
    simp only [doubled_apply]
    split_ifs at hj <;> split_ifs <;> first | (exfalso; omega) | exact at_p (by first | omega | (dsimp only; omega)) | exact at_pm _ (by first | omega | (dsimp only; omega))

/-- What stands at a row of the values. -/
theorem values_apply (p : FVec Ideal S16x4096x2304 .f32) (b : Fin 16) (j : Fin 640) (n : Fin 4096) (q : Fin 2304) (hq : q.val = (vcol j).val) :
    values p (ix3 b j n) = p (ix3 b n q) := by
  have hj := vcol_val j
  rw [← hq] at hj
  have at_p {i k : Fin 2304} (h : i.val = k.val) : p (ix3 b n i) = p (ix3 b n k) := by rw [Fin.ext h]
  unfold values
  pointwise []
  split_ifs at hj <;> split_ifs <;> first | (exfalso; omega) | exact at_p (by first | omega | (dsimp only; omega))

/-- THE REFERENCE'S QUERIES AND KEYS. -/
theorem qk_apply (b : Fin 16) (n : Fin 4096) (j : Fin 1792) :
    queriesKeys (proj a0 a1 a2) (ix3 b n j) = qk (fun k => a0 (ix3 b n k)) (fun k i => a1 (ix3 0 k i)) (fun i => a2 (ix2 0 i)) j := by
  have hv := qcol_val j
  have hl : (qcol j).val < 2304 := by rw [hv]; split_ifs <;> omega
  rw [queriesKeys_apply _ b n j ⟨(qcol j).val, hl⟩ rfl, proj_apply]
  rfl
/-- THE REFERENCE'S VALUES. -/
theorem v_apply (b : Fin 16) (j : Fin 640) (n : Fin 4096) :
    values (proj a0 a1 a2) (ix3 b j n) = entry (fun k => a0 (ix3 b n k)) (fun k => a1 (ix3 0 k (vcol j))) (a2 (ix2 0 (vcol j))) := by
  have hv := vcol_val j
  have hl : (vcol j).val < 2304 := by rw [hv]; split_ifs <;> omega
  rw [values_apply _ b j n ⟨(vcol j).val, hl⟩ rfl, proj_apply]
end

/-- The slices of an expert weight. -/
theorem eg_apply (a : Vec Ideal S1x32x1024x512 .f32) (g : Fin 128) (r : Fin 256) (c : Fin 512) :
    (truncf .bf16 (shapeCast _ a shapeCasts_S1x32x1024x512_S128x256x512) bitsLt_bf16_f32 : FVec Ideal S128x256x512 .bf16) (ix3 g r c)
      = a (ix4 0 ⟨g.val / 4, by omega⟩ ⟨g.val % 4 * 256 + r.val, by omega⟩ c) := by
  pointwise []
theorem ed_apply (a : Vec Ideal S1x32x512x1024 .f32) (g : Fin 128) (r : Fin 128) (c : Fin 1024) :
    (truncf .bf16 (shapeCast _ a shapeCasts_S1x32x512x1024_S128x128x1024) bitsLt_bf16_f32 : FVec Ideal S128x128x1024 .bf16) (ix3 g r c)
      = a (ix4 0 ⟨g.val / 4, by omega⟩ ⟨g.val % 4 * 128 + r.val, by omega⟩ c) := by
  pointwise []

end Cert.Reference2Ideal.Inproj
-- ==== Proof.Inproj.Claim.lean ====
/- The claims on the projection: the reference's frame and the value claim. -/
module

public import proofs.«01_k».proof.Defs
public import proofs.«01_k».proof.Proof.Inproj.Array
public import proofs.«01_k».proof.Proof.Inproj.Ref
public import Idealize.ShloMosaic.Lib.Quiescent

@[expose] public section

set_option maxRecDepth 16384

noncomputable section

namespace Cert.Inproj

open Idealize.ShloMosaic Idealize.SL.Sem

/-- The reference of the projection terminates, keeps its arguments and leaves no semaphore raised. -/
theorem frame_ri : quiescent_Reference2Ideal (hReference2Ideal := Cert.Reference2Ideal.Gen.facts) := fun m ρ _ =>
  (θ_run Cert.Reference2Ideal.defs _ _).mono (fun r h => ⟨fun c => (h c).2.2.2.2.2, sem_eq_zero_of_no_sems (by decide) r.2⟩)
    (Cert.Reference2Ideal.Value.run (F := Ideal) m ρ)

/-- THE VALUE CLAIM ON THE PROJECTION: both programs leave the queries and keys (`qk`), the values (`entry` at `vcol`) and
    the slices of the three expert weights. -/
theorem algebraic : algebraic_Kernel2Ideal_Reference2Ideal (hKernel2Ideal := Cert.Kernel2Ideal.Gen.facts) (hReference2Ideal := Cert.Reference2Ideal.Gen.facts) := by
  intro m g m' g' _ hargs
  refine ⟨fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, fun c => (Cert.Kernel2Ideal.Gen.dats m 0 c).arrAt 11 Cert.Kernel2Ideal.cfg0.N,
    fun c => (Cert.Kernel2Ideal.Gen.dats m 0 c).arrAt 12 Cert.Kernel2Ideal.cfg0.N, Cert.Kernel2Ideal.Value.run_blocks m g, ?_⟩
  refine (θ_run _ _ _).mono (fun r h c => ?_) (Cert.Reference2Ideal.Value.run m' g')
  obtain ⟨h0, h1, h2, h3, h4, hk⟩ := h c
  obtain ⟨e0, e1, e2, e3, e4, e5⟩ := hargs c
  rw [e0, e1, e2] at h0 h1
  rw [e3] at h2
  rw [e4] at h3
  rw [e5] at h4
  refine ⟨h0.trans (funext fun (y : Cert.Kernel2Ideal.S16x4096x1792.Idx) => ?_), h1.trans (funext fun (y : Cert.Kernel2Ideal.S16x640x4096.Idx) => ?_),
    h2.trans (funext fun (y : Cert.Kernel2Ideal.S128x256x512.Idx) => ?_), h3.trans (funext fun (y : Cert.Kernel2Ideal.S128x256x512.Idx) => ?_),
    h4.trans (funext fun (y : Cert.Kernel2Ideal.S128x128x1024.Idx) => ?_), hk⟩
  · obtain ⟨b, n, j, rfl⟩ : ∃ (b : Fin 16) (n : Fin 4096) (j : Fin 1792), y = ix3 b n j := ⟨y 0, y 1, y 2, eq_ix3 y⟩
    exact (Cert.Reference2Ideal.Inproj.qk_apply _ _ _ b n j).trans (Cert.Kernel2Ideal.Inproj.array8_apply m c b n j).symm
  · obtain ⟨b, j, n, rfl⟩ : ∃ (b : Fin 16) (j : Fin 640) (n : Fin 4096), y = ix3 b j n := ⟨y 0, y 1, y 2, eq_ix3 y⟩
    exact (Cert.Reference2Ideal.Inproj.v_apply _ _ _ b j n).trans (Cert.Kernel2Ideal.Inproj.array9_apply m c b j n).symm
  · obtain ⟨a, b, j, rfl⟩ : ∃ (a : Fin 128) (b : Fin 256) (j : Fin 512), y = ix3 a b j := ⟨y 0, y 1, y 2, eq_ix3 y⟩
    exact (Cert.Reference2Ideal.Inproj.eg_apply _ a b j).trans (Cert.Kernel2Ideal.Inproj.array10_apply m c a b j).symm
  · obtain ⟨a, b, j, rfl⟩ : ∃ (a : Fin 128) (b : Fin 256) (j : Fin 512), y = ix3 a b j := ⟨y 0, y 1, y 2, eq_ix3 y⟩
    exact (Cert.Reference2Ideal.Inproj.eg_apply _ a b j).trans (Cert.Kernel2Ideal.Inproj.array11_apply m c a b j).symm
  · obtain ⟨a, b, j, rfl⟩ : ∃ (a : Fin 128) (b : Fin 128) (j : Fin 1024), y = ix3 a b j := ⟨y 0, y 1, y 2, eq_ix3 y⟩
    exact (Cert.Reference2Ideal.Inproj.ed_apply _ a b j).trans (Cert.Kernel2Ideal.Inproj.array12_apply m c a b j).symm

end Cert.Inproj

end
-- ==== Proof.Experts.IdealKit.lean ====
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.Kit
public import Idealize.ShloMosaic.Lib.Claim
public import Idealize.ShloMosaic.Lib.Ring
public import Idealize.ShloMosaic.Lib.Tactic
public import Idealize.ShloMosaic.Lib.WordCmp

/-! # The expert call's pipeline at the tables it is launched with

The call reads two tables: which expert a block of rows goes to, and how many of its rows are live. What each window
holds at a grid point is stated here over the tables found in the launch memory. -/

@[expose] public section

set_option maxRecDepth 16384

noncomputable section

namespace Cert.Experts.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources the call's proof is written over. -/
abbrev World (F : FTy → Type) : Type := MT nD τ sig Unit (Elt F) ℕ (UR sig nD τ) ℕ

variable (m : (ℓ : Loc nD τ sig) → Buf (Elt F) ℓ)

/-- A device's buffer when the call starts: as launched, for the program is the call alone. -/
abbrev start (c : Dev nD) (b : Ref sig .tc) : Buf (Elt F) ((c : Thread nD τ).loc b) := m ((c : Thread nD τ).loc b)

/-- The program runs the one call. -/
theorem one_call (𝒱₀ : Variants) : Pipeline.HMainP (Ix := Unit) (Name := ℕ) (U := UR sig nD τ) (Lvl := ℕ) pcfgs 0 defs₀ 𝒱₀ m
    (main (F := F)) (start m) :=
  Pipeline.hmainP_region pcfgs 0 defs₀ 𝒱₀ m main fun c => (main_chain c).trans rfl

/-- The two tables' contents at launch. -/
def tables : pre0.Contents (Elt F) := fun j => start m (0 : Dev nD) (pre0.ref j)

/-- Every device (there is one) holds those tables. -/
theorem tables_eq (c : Dev nD) (j : Fin 2) : start m c (pre0.ref j) = tables m j := by
  obtain rfl : c = 0 := Subsingleton.elim _ _
  rfl

/-- Every expert number in the table names a slab of the weight arrays. -/
abbrev Named : Prop := ok0 (F := F) (tables m)

/-- The tables as contents the pipeline may run with. -/
abbrev admitted (h : Named m) : (pcfg0 (F := F)).Adm := ⟨tables m, h⟩

/-- The pipeline at those tables. -/
abbrev pipe (h : Named m) : Pipeline.Cfg sig Λ₀ := cfg0 (admitted m h)

/-- The expert table, as the body is handed it. -/
abbrev expertTab : Memref sig .tc .smem S160 .i32 := Memref.whole main_arg0
/-- The table of live rows, as the body is handed it. -/
abbrev liveTab : Memref sig .tc .smem S160 .i32 := Memref.whole main_arg1

/-- What a table's buffer holds on a device. -/
abbrev TabBuf (c : Dev nD) (M : Memref sig .tc .smem S160 .i32) : Type := Buf (Elt F) (M.view.loc (c : Thread nD τ))
/-- Reading rights to a table. -/
abbrev tabAt (c : Dev nD) (M : Memref sig .tc .smem S160 .i32) (f : TabBuf (F := F) c M) : sProp (World F) :=
  M.view.loc (c : Thread nD τ) ↦{fullShare.right} f

/-- What the call lends the body of its tables is reading rights to each of the two. -/
theorem lent_eq (c : Dev nD) : (Pipeline.ΦT pre0 (tables m) c : sProp (World F))
    = iprop(tabAt c expertTab (tables m 0) ∗ tabAt c liveTab (tables m 1)) := by
  unfold Pipeline.ΦT Pipeline.prefHeld
  rw [show (Finset.univ : Finset (Fin 2)) = insert (0 : Fin 2) {(1 : Fin 2)} from by decide,
    bigSep_insert (by decide), bigSep_singleton]
  rfl

/-- The block of a window's array that a grid point works on. -/
def blockAt (h : Named m) (c : Dev nD) (w : Fin (pipe m h).W) (t : Fin (pipe m h).N) :
    (((pipe m h).win w).xblock ((pipe m h).grid.coords t)).Idx → Elt F ((pipe m h).win w).elt :=
  (((pipe m h).win w).blk t).view.read (Elt F) (start m c (Pipeline.arrRef spec0 w))

/-- The staged words of the rows at a point. -/
abbrev stage0 (h : Named m) (t : Fin (pipe m h).N) : Memref sig .tc .vmem S512x512 .i32 := spec0_0.stage ((pipe m h).slots t 0)
/-- The staged gate weights at a point. -/
abbrev stage1 (h : Named m) (t : Fin (pipe m h).N) : Memref sig .tc .vmem S1x1024x512 .bf16 := spec0_1.stage ((pipe m h).slots t 1)
/-- The staged up weights at a point. -/
abbrev stage2 (h : Named m) (t : Fin (pipe m h).N) : Memref sig .tc .vmem S1x1024x512 .bf16 := spec0_2.stage ((pipe m h).slots t 2)
/-- The staged down weights at a point. -/
abbrev stage3 (h : Named m) (t : Fin (pipe m h).N) : Memref sig .tc .vmem S1x512x1024 .bf16 := spec0_3.stage ((pipe m h).slots t 3)
/-- The staged result at a point. -/
abbrev stage4 (h : Named m) (t : Fin (pipe m h).N) : Memref sig .tc .vmem S512x1024 .bf16 := spec0_4.stage ((pipe m h).slots t 4)

/-- The body at a point, as the pipeline calls it. -/
abbrev bodyAt (h : Named m) (t : Fin (pipe m h).N) : Prog (TpuEff nD τ sig (Elt F) Λ₀ .tc) PUnit :=
  cc0_experts (grid0.coords t) expertTab (Memref.isWhole_whole _) liveTab (Memref.isWhole_whole _)
    (stage0 m h t) (hstage0_0 (((pipe m h).slots t 0).cast nbuf0_0))
    (stage1 m h t) (hstage0_1 (((pipe m h).slots t 1).cast nbuf0_1))
    (stage2 m h t) (hstage0_2 (((pipe m h).slots t 2).cast nbuf0_2))
    (stage3 m h t) (hstage0_3 (((pipe m h).slots t 3).cast nbuf0_3))
    (stage4 m h t) (hstage0_4 (((pipe m h).slots t 4).cast nbuf0_4))

end Cert.Experts.Kernel3Ideal

end
-- ==== Proof.Experts.IdealRun.lean ====
module

public import proofs.«01_k».proof.Proof.Experts.IdealKit

/-! # The expert body on one block of rows, by how many of its rows are live -/

@[expose] public section

set_option maxRecDepth 16384

noncomputable section

namespace Cert.Experts.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The whole block of rows: its words, -/
abbrev rWords : Rect S512x512 := Rect.unit (s := S512x512) ![0, 0] S512x512.size inb_S512x512_S512x512_0_0
/-- the words of its first half, -/
abbrev rHalf : Rect S512x512 := Rect.unit (s := S512x512) ![0, 0] S256x512.size inb_S512x512_S256x512_0_0
/-- an expert's gate or up weights, -/
abbrev rUp : Rect S1x1024x512 := Rect.unit (s := S1x1024x512) ![0, 0, 0] S1x1024x512.size inb_S1x1024x512_S1x1024x512_0_0_0
/-- its down weights, -/
abbrev rDown : Rect S1x512x1024 := Rect.unit (s := S1x512x1024) ![0, 0, 0] S1x512x1024.size inb_S1x512x1024_S1x512x1024_0_0_0
/-- the block of the result, -/
abbrev rOut : Rect S512x1024 := Rect.unit (s := S512x1024) ![0, 0] S512x1024.size inb_S512x1024_S512x1024_0_0
/-- and the two halves of that. -/
abbrev rTop : Rect S512x1024 := Rect.unit (s := S512x1024) ![0, 0] S256x1024.size inb_S512x1024_S256x1024_0_0
/-- The second half of the block of the result. -/
abbrev rBot : Rect S512x1024 := Rect.unit (s := S512x1024) ![256, 0] S256x1024.size inb_S512x1024_S256x1024_256_0

/-- The number of live rows of the block a grid point works on, as the body reads it. -/
def liveWord (c : Dev nD) (i : grid0.Coords) (xt1 : TabBuf (F := F) c liveTab) : BitVec 32 :=
  View.readAt (Elt F) liveTab.view (Rect.unit (s := S160) (k0_off1 i) S1.size (k0_off1_inb i)).toLoadRect xt1
    (Shape.Idx.first (numel1_S1.symm ▸ Nat.one_pos))

/-- What the body leaves in the result's block: all rows computed where more than half of them are live, the first half
    computed and zeros below where at most half are, and zeros where none is. -/
def outBlock (v : BitVec 32) (x0 : Vec F S512x512 .i32) (x1 : Vec F S1x1024x512 .bf16) (x2 : Vec F S1x1024x512 .bf16)
    (x3 : Vec F S1x512x1024 .bf16) : Vec F S512x1024 .bf16 :=
  if 256 < v.toInt then View.canon [⟨rOut, k0_pay1 v (View.ld x0 rWords) (View.ld x1 rUp) (View.ld x2 rUp) (View.ld x3 rDown)⟩]
  else if 0 < v.toInt then
    View.canon [⟨rBot, k0_pay4⟩, ⟨rTop, k0_pay3 v (View.ld x0 rHalf) (View.ld x1 rUp) (View.ld x2 rUp) (View.ld x3 rDown)⟩]
  else View.canon [⟨rOut, k0_pay2⟩]

/-- One store of the whole block covers it, -/
theorem cover_whole (p : Vec F S512x1024 .bf16) (y : S512x1024.Idx) :
    ∃ pc ∈ ([⟨rOut, p⟩] : List (View.Piece (Elt F) S512x1024 .bf16)), y ∈ pc.1.set :=
  View.cover_of_tiled [⟨rOut, p⟩] S512x1024.size (by rfl) y

/-- and so do the stores of its two halves. -/
theorem cover_halves (p q : Vec F S256x1024 .bf16) (y : S512x1024.Idx) :
    ∃ pc ∈ ([⟨rBot, p⟩, ⟨rTop, q⟩] : List (View.Piece (Elt F) S512x1024 .bf16)), y ∈ pc.1.set :=
  View.cover_of_tiled [⟨rBot, p⟩, ⟨rTop, q⟩] S256x1024.size (by rfl) y

/-- The body's first branch is taken where more than half of the rows are live, -/
theorem first_iff (v : BitVec 32) : k0_cond1 v = 1#1 ↔ 256 < v.toInt := by
  have e : k0_cond1 v = BitVec.ofBool (decide ((256#32 : BitVec 32).toInt < v.toInt)) := by
    have h : k0_cond1 v = BitVec.ofBool (!(BitVec.setWidth 32 (BitVec.ofBool (decide ((256#32 : BitVec 32).toInt < v.toInt))) == 0#32)) := rfl
    rw [h]; cases decide ((256#32 : BitVec 32).toInt < v.toInt) <;> rfl
  have e256 : (256#32 : BitVec 32).toInt = 256 := by decide
  rw [e, e256]
  by_cases h : 256 < v.toInt <;> simp [h]

/-- its second where some but at most half of them are, -/
theorem second_iff (v : BitVec 32) : k0_cond2 v = 1#1 ↔ 0 < v.toInt ∧ v.toInt ≤ 256 := by
  have e : k0_cond2 v = BitVec.ofBool (decide ((0#32 : BitVec 32).toInt < v.toInt) && decide (v.toInt ≤ (256#32 : BitVec 32).toInt)) := by
    have h : k0_cond2 v = BitVec.ofBool (!(BitVec.setWidth 32 (BitVec.ofBool (decide ((0#32 : BitVec 32).toInt < v.toInt)) &&& BitVec.ofBool (decide (v.toInt ≤ (256#32 : BitVec 32).toInt))) == 0#32)) := rfl
    rw [h]; cases decide ((0#32 : BitVec 32).toInt < v.toInt) <;> cases decide (v.toInt ≤ (256#32 : BitVec 32).toInt) <;> rfl
  have e256 : (256#32 : BitVec 32).toInt = 256 := by decide
  have e0 : (0#32 : BitVec 32).toInt = 0 := by decide
  rw [e, e256, e0]
  by_cases h : 0 < v.toInt <;> by_cases h' : v.toInt ≤ 256 <;> simp [h, h']

/-- and its third where none is. -/
theorem third_iff (v : BitVec 32) : k0_cond3 v = 1#1 ↔ v.toInt ≤ 0 := by
  have e : k0_cond3 v = BitVec.ofBool (decide (v.toInt ≤ (0#32 : BitVec 32).toInt)) := by
    have h : k0_cond3 v = BitVec.ofBool (!(BitVec.setWidth 32 (BitVec.ofBool (decide (v.toInt ≤ (0#32 : BitVec 32).toInt))) == 0#32)) := rfl
    rw [h]; cases decide (v.toInt ≤ (0#32 : BitVec 32).toInt) <;> rfl
  have e0 : (0#32 : BitVec 32).toInt = 0 := by decide
  rw [e, e0]
  by_cases h : v.toInt ≤ 0 <;> simp [h]

set_option maxHeartbeats 2000000 in
/-- THE BODY on any block of rows: it leaves its operands and tables as they were and the result's block at `outBlock`. -/
theorem body_run (c : Dev nD) (i : grid0.Coords)
    (arg3 : Memref sig .tc .vmem S512x512 .i32) (harg3 : arg3.IsWhole) (arg4 : Memref sig .tc .vmem S1x1024x512 .bf16) (harg4 : arg4.IsWhole)
    (arg5 : Memref sig .tc .vmem S1x1024x512 .bf16) (harg5 : arg5.IsWhole) (arg6 : Memref sig .tc .vmem S1x512x1024 .bf16) (harg6 : arg6.IsWhole)
    (arg7 : Memref sig .tc .vmem S512x1024 .bf16) (harg7 : arg7.IsWhole)
    (x0 : Vec F S512x512 .i32) (x1 : Vec F S1x1024x512 .bf16) (x2 : Vec F S1x1024x512 .bf16) (x3 : Vec F S1x512x1024 .bf16)
    (xt0 : TabBuf (F := F) c expertTab) (xt1 : TabBuf (F := F) c liveTab) (E : Set ℕ) (K : PUnit → sProp (World F)) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ tabAt c expertTab xt0 ∗ tabAt c liveTab xt1
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outBlock (liveWord c i xt1) x0 x1 x2 x3)
            ∗ tabAt c expertTab xt0 ∗ tabAt c liveTab xt1) -∗ K ⟨⟩))
      ⊢ wp frame (wpE (defs₀ (F := F)) Variants.none c none) E
          (cc0_experts i expertTab (Memref.isWhole_whole _) liveTab (Memref.isWhole_whole _) arg3 harg3 arg4 harg4 arg5 harg5 arg6 harg6 arg7 harg7) K := by
  simp only [cc0_experts_eq_skeleton]; unfold cc0_experts_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, HT0, HT1, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    have hw : body_run.sl.r c i xt1 = liveWord c i xt1 := rfl
    generalize body_run.sl.r c i xt1 = v at hw ⊢
    rw [← hw]
    unfold outBlock
    by_cases h1 : 256 < v.toInt
    · rw [if_pos h1, dif_neg fun h => by have := (third_iff v).mp h; omega, dif_neg fun h => by have := (second_iff v).mp h; omega,
        dif_pos ((first_iff v).mpr h1)]
      exact View.read_writes_eq_canon _ _ _ (cover_whole _)
    · by_cases h2 : 0 < v.toInt
      · rw [if_neg h1, if_pos h2, dif_neg fun h => by have := (third_iff v).mp h; omega, dif_pos ((second_iff v).mpr ⟨h2, by omega⟩)]
        exact View.read_writes_eq_canon _ _ _ (cover_halves _ _)
      · rw [if_neg h1, if_neg h2, dif_pos ((third_iff v).mpr (by omega))]
        exact View.read_writes_eq_canon _ _ _ (cover_whole _)
  isplitl [HT0]; · iexact HT0
  iexact HT1

end Cert.Experts.Kernel3Ideal

end
-- ==== Proof.Experts.Formula.lean ====
module

public import Idealize.ShloMosaic.Lib.Pointwise
public import Idealize.ShloMosaic.PureOps.Ideal.Laws
public import Idealize.ShloMosaic.Lib.IdealHost

/-! # What an expert computes of a token, as a formula over the extended reals

A token's 1024 features come as 512 words of 32 bits: a word's low half is feature `k`, its high half feature `512 + k`. -/

@[expose] public section

noncomputable section

namespace Cert.Experts

open Idealize.ShloMosaic

/-- The number in a word's low half. -/
def lowHalf (w : BitVec 32) : EReal := Ideal.ofBits .bf16 (w.extractLsb' 0 16)

/-- The number in a word's high half. -/
def highHalf (w : BitVec 32) : EReal := Ideal.ofBits .bf16 (w.extractLsb' 16 16)

/-- A token's features, out of its words. -/
def feature (w : Fin 512 → BitVec 32) (k : Fin 1024) : EReal :=
  if h : k.val < 512 then lowHalf (w ⟨k.val, h⟩) else highHalf (w ⟨k.val - 512, by omega⟩)

/-- The gated linear unit: entry `f` of `silu (x · gate) * (x · up)`. -/
def glu (x : Fin 1024 → EReal) (g u : Fin 1024 → Fin 512 → EReal) (f : Fin 512) : EReal :=
  ((∑ k, x k * g k f) * Ideal.div 1 (1 + Ideal.exp (-(∑ k, x k * g k f)))) * (∑ k, x k * u k f)

/-- The expert's output: the hidden entries through the down projection. -/
def expert (x : Fin 1024 → EReal) (g u : Fin 1024 → Fin 512 → EReal) (d : Fin 512 → Fin 1024 → EReal) (j : Fin 1024) : EReal :=
  ∑ f, glu x g u f * d f j

/-- A zero token gives zero. -/
theorem expert_zero (g u : Fin 1024 → Fin 512 → EReal) (d : Fin 512 → Fin 1024 → EReal) (j : Fin 1024) : expert (fun _ => 0) g u d j = 0 := by
  unfold expert glu
  simp

/-- A pattern of 16 bits followed by 16 zeros denotes as a binary32 number what the 16 bits denote as a bfloat16 one:
    a wider fraction, its new digits zero. -/
theorem widen_ieee (v : BitVec 32) (w : BitVec 16) (h : v.toNat = w.toNat * 65536) : Ideal.ieee 8 23 v = Ideal.ieee 8 7 w := by
  have lw := w.isLt
  have hs : v.extractLsb' (8 + 23) 1 = w.extractLsb' (8 + 7) 1 := by
    apply BitVec.eq_of_toNat_eq
    simp only [BitVec.extractLsb'_toNat, Nat.shiftRight_eq_div_pow]
    omega
  have he : (v.extractLsb' 23 8).toNat = (w.extractLsb' 7 8).toNat := by
    simp only [BitVec.extractLsb'_toNat, Nat.shiftRight_eq_div_pow]
    omega
  have hf : (v.extractLsb' 0 23).toNat = (w.extractLsb' 0 7).toNat * 65536 := by
    simp only [BitVec.extractLsb'_toNat, Nat.shiftRight_eq_div_pow]
    omega
  unfold Ideal.ieee
  rw [hs, he, hf]
  generalize (w.extractLsb' 7 8).toNat = e
  generalize (w.extractLsb' 0 7).toNat = f
  have hf0 : f * 65536 = 0 ↔ f = 0 := by omega
  have p1 : (2 : ℝ) ^ (1 - (2 ^ (8 - 1) - 1 : Int) - (7 : ℕ) : Int) = (2 : ℝ) ^ (1 - (2 ^ (8 - 1) - 1 : Int) - (23 : ℕ) : Int) * 65536 := by
    norm_num
  have p2 : (2 : ℝ) ^ ((e : Int) - (2 ^ (8 - 1) - 1 : Int) - (7 : ℕ) : Int) = (2 : ℝ) ^ ((e : Int) - (2 ^ (8 - 1) - 1 : Int) - (23 : ℕ) : Int) * 65536 := by
    rw [show ((e : Int) - (2 ^ (8 - 1) - 1 : Int) - (7 : ℕ) : Int) = ((e : Int) - (2 ^ (8 - 1) - 1 : Int) - (23 : ℕ) : Int) + 16 by push_cast; ring,
      zpow_add₀ (by norm_num)]
    norm_num
  simp only [hf0, p1, p2]
  split_ifs <;> first | rfl | (congr 1; push_cast; ring)

/-- The low half moved up reads as the low half's number, -/
theorem low_moved (w : BitVec 32) : Ideal.ofBits .f32 (w <<< 16) = lowHalf w := by
  refine widen_ieee (w <<< 16) (w.extractLsb' 0 16) ?_
  have lw := w.isLt
  simp only [BitVec.extractLsb'_toNat, BitVec.toNat_shiftLeft, Nat.shiftRight_eq_div_pow, Nat.shiftLeft_eq]
  omega

/-- and the high half with the low one cleared as the high half's. -/
theorem high_kept (w : BitVec 32) : Ideal.ofBits .f32 (w &&& 4294901760#32) = highHalf w := by
  refine widen_ieee (w &&& 4294901760#32) (w.extractLsb' 16 16) ?_
  have lw := w.isLt
  have e : w &&& 4294901760#32 = (w >>> 16) <<< 16 := by
    ext i hi
    simp only [BitVec.getElem_and, BitVec.getElem_shiftLeft, BitVec.getLsbD_ushiftRight]
    interval_cases i <;> simp
  rw [e]
  simp only [BitVec.extractLsb'_toNat, BitVec.toNat_shiftLeft, BitVec.toNat_ushiftRight, Nat.shiftRight_eq_div_pow, Nat.shiftLeft_eq]
  omega

/-- Choosing by a signed comparison of a row number with a word. -/
theorem choose_live {R : Nat} (hR : R ≤ 512) (r : Fin R) (v : BitVec 32) (a b : EReal) :
    Scalar.select (IntOp.cmpi .slt (BitVec.ofNat 32 r.val) v) a b = if (r.val : Int) < v.toInt then a else b := by
  have h : (BitVec.ofNat 32 r.val).toNat = r.val := by rw [BitVec.toNat_ofNat]; exact Nat.mod_eq_of_lt (by omega)
  have ht : (BitVec.ofNat 32 r.val).toInt = r.val := by
    have := BitVec.toInt_eq_toNat_cond (BitVec.ofNat 32 r.val)
    rw [h] at this
    split at this <;> omega
  have e : IntOp.cmpi .slt (BitVec.ofNat 32 r.val) v = BitVec.ofBool (decide ((BitVec.ofNat 32 r.val).toInt < v.toInt)) := rfl
  rw [e, ht]
  by_cases hl : (r.val : Int) < v.toInt
  · rw [if_pos hl, decide_eq_true hl]; rfl
  · rw [if_neg hl, decide_eq_false hl]; rfl

/-- The weight slab a table word names. -/
def slab (v : BitVec 32) : Fin 32 := ⟨v.toNat % 32, by omega⟩

section
variable (a0 a1 : (⟨1, ![160]⟩ : Shape).Idx → BitVec 32) (a2 : (⟨2, ![81920, 512]⟩ : Shape).Idx → BitVec 32)
  (a3 a4 : (⟨3, ![32, 1024, 512]⟩ : Shape).Idx → EReal) (a5 : (⟨3, ![32, 512, 1024]⟩ : Shape).Idx → EReal)

/-- Row `r` of block `t`, feature `j` of the result: the block's expert at the row, zero past the block's live rows. -/
def answer (t : Fin 160) (r : Fin 512) (j : Fin 1024) : EReal :=
  if (r.val : Int) < (a1 (ix1 t)).toInt then
    expert (feature fun k => a2 (ix2 ⟨t.val * 512 + r.val, by omega⟩ k)) (fun k f => a3 (ix3 (slab (a0 (ix1 t))) k f))
      (fun k f => a4 (ix3 (slab (a0 (ix1 t))) k f)) (fun f j => a5 (ix3 (slab (a0 (ix1 t))) f j)) j
  else 0
end

/-- An exponential is not negative. -/
theorem exp_at_least (x : EReal) : 0 ≤ Ideal.exp x := by
  induction x with
  | bot => exact le_refl _
  | top => exact le_top
  | coe r => exact EReal.coe_nonneg.2 (Real.exp_nonneg r)

/-- A number over one plus an exponential is that number times the reciprocal. -/
theorem over_one_add (g : EReal) : Ideal.div g (1 + Ideal.exp (0 - g)) = g * Ideal.div 1 (1 + Ideal.exp (-g)) := by
  have e : 0 - g = -g := zero_sub g
  rw [e]
  have h : 0 ≤ Ideal.exp (-g) := exp_at_least _
  have h1 : (1 + Ideal.exp (-g)) ≠ 0 := by
    have : (0 : EReal) < 1 + Ideal.exp (-g) := lt_of_lt_of_le zero_lt_one (le_add_of_nonneg_right h)
    exact this.ne'
  unfold Ideal.div
  rw [if_neg h1, if_neg h1, one_mul]

end Cert.Experts

end
-- ==== Proof.Experts.Block.lean ====
module

public import proofs.«01_k».proof.Proof.Experts.IdealRun
public import proofs.«01_k».proof.Proof.Experts.Formula
public import Idealize.ShloMosaic.Lib.Pipeline.ValueKit.Basic
public import Idealize.ShloMosaic.Lib.Pipeline.ValueKit.Tiles
public import Idealize.ShloMosaic.Lib.Pointwise

/-! # What one grid point of the expert call leaves, at a row and a feature -/

@[expose] public section

set_option maxRecDepth 16384

noncomputable section

namespace Cert.Experts.Kernel3Ideal

open Cert.Kernel3Ideal Cert.Kernel3Ideal.Gen Cert.Experts
open Idealize.ShloMosaic Idealize.ShloMosaic.TcCoe

section
variable (v : BitVec 32) (w : Vec Ideal S512x512 .i32) (g u : Vec Ideal S1x1024x512 .bf16) (d : Vec Ideal S1x512x1024 .bf16)

/-- The 512 rows' features. -/
def features512 : FVec Ideal S512x1024 .bf16 :=
  concatenate S512x1024 1 [⟨S512x512, truncf .bf16 (bitcastToFloat .f32 (shli w (broadcast S512x512 16#32)) : FVec Ideal S512x512 .f32) bitsLt_bf16_f32⟩,
    ⟨S512x512, truncf .bf16 (bitcastToFloat .f32 (andi w (broadcast S512x512 4294901760#32)) : FVec Ideal S512x512 .f32) bitsLt_bf16_f32⟩]
    concatenates_S512x512_S512x512_S512x1024_d1

/-- The 512 rows, zero past the live ones. -/
def masked512 : FVec Ideal S512x1024 .bf16 :=
  select (cmpi .slt (iota .tc S512x1024 32 [0] iota_S512x1024_d0_w32) (broadcast S512x1024 v)) (features512 w)
    (broadcast S512x1024 (Scalar.ofBits .bf16 0x0000#16 : Ideal .bf16))

/-- The 512 rows through a weight slab. -/
def through512 (g : Vec Ideal S1x1024x512 .bf16) : FVec Ideal S512x512 .f32 :=
  matmul dot_S512x1024_S1024x512_S512x512_1_0_0_1_n_n none (masked512 v w) (shapeCast S1024x512 g shapeCasts_S1x1024x512_S1024x512 : FVec Ideal S1024x512 .bf16)
    (constant S512x512 .f32 0x00000000#32 : FVec Ideal S512x512 .f32)

/-- Their gated linear unit. -/
def glu512 : FVec Ideal S512x512 .bf16 :=
  truncf .bf16 (mulf (divf (through512 v w g) (addf (broadcast S512x512 (Scalar.ofBits .f32 0x3F800000#32 : Ideal .f32))
    (exp (subf (broadcast S512x512 (Scalar.ofBits .f32 0x00000000#32 : Ideal .f32)) (through512 v w g))))) (through512 v w u)) bitsLt_bf16_f32

/-- A row's features are its words' halves. -/
theorem features512_apply (r : Fin 512) (k : Fin 1024) : features512 w (ix2 r k) = feature (fun k => w (ix2 r k)) k := by
  unfold feature
  by_cases h : k.val < 512
  · rw [dif_pos h, ← low_moved]
    pointwise [features512]
    rw [dif_pos h]
    rfl
  · rw [dif_neg h, ← high_kept]
    pointwise [features512]
    rw [dif_neg h]
    rfl

/-- A row past the live ones is zero. -/
theorem masked512_apply (r : Fin 512) (k : Fin 1024) :
    masked512 v w (ix2 r k) = if (r.val : Int) < v.toInt then feature (fun k => w (ix2 r k)) k else 0 := by
  rw [← features512_apply]
  unfold masked512
  pointwise []
  rw [choose_live (by decide)]

/-- The rows through a weight slab, at an entry. -/
theorem through512_apply (g : Vec Ideal S1x1024x512 .bf16) (r : Fin 512) (f : Fin 512) :
    through512 v w g (ix2 r f) = ∑ k, (if (r.val : Int) < v.toInt then feature (fun k => w (ix2 r k)) k else 0) * g (ix3 0 k f) := by
  unfold through512
  pointwise []
  simp only [masked512_apply]

/-- The gated linear unit, at an entry. -/
theorem glu512_apply (r : Fin 512) (f : Fin 512) :
    glu512 v w g u (ix2 r f) = glu (fun k => if (r.val : Int) < v.toInt then feature (fun k => w (ix2 r k)) k else 0)
      (fun k f => g (ix3 0 k f)) (fun k f => u (ix3 0 k f)) f := by
  unfold glu512 glu
  pointwise []
  simp only [through512_apply]
  rw [over_one_add]

/-- What the body computes of 512 rows, at a row and a feature: its expert at a live row, zero past those. -/
theorem pay512_apply (r : Fin 512) (j : Fin 1024) :
    k0_pay1 (F := Ideal) v w g u d (ix2 r j) = if (r.val : Int) < v.toInt then
      expert (feature fun k => w (ix2 r k)) (fun k f => g (ix3 0 k f)) (fun k f => u (ix3 0 k f)) (fun f j => d (ix3 0 f j)) j else 0 := by
  have e : k0_pay1 (F := Ideal) v w g u d (ix2 r j) = expert (fun k => if (r.val : Int) < v.toInt then feature (fun k => w (ix2 r k)) k else 0)
      (fun k f => g (ix3 0 k f)) (fun k f => u (ix3 0 k f)) (fun f j => d (ix3 0 f j)) j := by
    rw [show k0_pay1 (F := Ideal) v w g u d = truncf .bf16 (matmul dot_S512x512_S512x1024_S512x1024_1_0_0_1_n_n none (glu512 v w g u)
      (shapeCast S512x1024 d shapeCasts_S1x512x1024_S512x1024 : FVec Ideal S512x1024 .bf16) (constant S512x1024 .f32 0x00000000#32 : FVec Ideal S512x1024 .f32)) bitsLt_bf16_f32 from rfl]
    unfold expert
    pointwise []
    simp only [glu512_apply]
  rw [e]
  by_cases hl : (r.val : Int) < v.toInt
  · simp only [if_pos hl]
  · simp only [if_neg hl, expert_zero]

end

section
variable (v : BitVec 32) (w : Vec Ideal S256x512 .i32) (g u : Vec Ideal S1x1024x512 .bf16) (d : Vec Ideal S1x512x1024 .bf16)

/-- The 256 rows' features. -/
def features256 : FVec Ideal S256x1024 .bf16 :=
  concatenate S256x1024 1 [⟨S256x512, truncf .bf16 (bitcastToFloat .f32 (shli w (broadcast S256x512 16#32)) : FVec Ideal S256x512 .f32) bitsLt_bf16_f32⟩,
    ⟨S256x512, truncf .bf16 (bitcastToFloat .f32 (andi w (broadcast S256x512 4294901760#32)) : FVec Ideal S256x512 .f32) bitsLt_bf16_f32⟩]
    concatenates_S256x512_S256x512_S256x1024_d1

/-- The 256 rows, zero past the live ones. -/
def masked256 : FVec Ideal S256x1024 .bf16 :=
  select (cmpi .slt (iota .tc S256x1024 32 [0] iota_S256x1024_d0_w32) (broadcast S256x1024 v)) (features256 w)
    (broadcast S256x1024 (Scalar.ofBits .bf16 0x0000#16 : Ideal .bf16))

/-- The 256 rows through a weight slab. -/
def through256 (g : Vec Ideal S1x1024x512 .bf16) : FVec Ideal S256x512 .f32 :=
  matmul dot_S256x1024_S1024x512_S256x512_1_0_0_1_n_n none (masked256 v w) (shapeCast S1024x512 g shapeCasts_S1x1024x512_S1024x512 : FVec Ideal S1024x512 .bf16)
    (constant S256x512 .f32 0x00000000#32 : FVec Ideal S256x512 .f32)

/-- Their gated linear unit. -/
def glu256 : FVec Ideal S256x512 .bf16 :=
  truncf .bf16 (mulf (divf (through256 v w g) (addf (broadcast S256x512 (Scalar.ofBits .f32 0x3F800000#32 : Ideal .f32))
    (exp (subf (broadcast S256x512 (Scalar.ofBits .f32 0x00000000#32 : Ideal .f32)) (through256 v w g))))) (through256 v w u)) bitsLt_bf16_f32

/-- A row's features are its words' halves. -/
theorem features256_apply (r : Fin 256) (k : Fin 1024) : features256 w (ix2 r k) = feature (fun k => w (ix2 r k)) k := by
  unfold feature
  by_cases h : k.val < 512
  · rw [dif_pos h, ← low_moved]
    pointwise [features256]
    rw [dif_pos h]
    rfl
  · rw [dif_neg h, ← high_kept]
    pointwise [features256]
    rw [dif_neg h]
    rfl

/-- A row past the live ones is zero. -/
theorem masked256_apply (r : Fin 256) (k : Fin 1024) :
    masked256 v w (ix2 r k) = if (r.val : Int) < v.toInt then feature (fun k => w (ix2 r k)) k else 0 := by
  rw [← features256_apply]
  unfold masked256
  pointwise []
  rw [choose_live (by decide)]

/-- The rows through a weight slab, at an entry. -/
theorem through256_apply (g : Vec Ideal S1x1024x512 .bf16) (r : Fin 256) (f : Fin 512) :
    through256 v w g (ix2 r f) = ∑ k, (if (r.val : Int) < v.toInt then feature (fun k => w (ix2 r k)) k else 0) * g (ix3 0 k f) := by
  unfold through256
  pointwise []
  simp only [masked256_apply]

/-- The gated linear unit, at an entry. -/
theorem glu256_apply (r : Fin 256) (f : Fin 512) :
    glu256 v w g u (ix2 r f) = glu (fun k => if (r.val : Int) < v.toInt then feature (fun k => w (ix2 r k)) k else 0)
      (fun k f => g (ix3 0 k f)) (fun k f => u (ix3 0 k f)) f := by
  unfold glu256 glu
  pointwise []
  simp only [through256_apply]
  rw [over_one_add]

/-- What the body computes of 256 rows, at a row and a feature: its expert at a live row, zero past those. -/
theorem pay256_apply (r : Fin 256) (j : Fin 1024) :
    k0_pay3 (F := Ideal) v w g u d (ix2 r j) = if (r.val : Int) < v.toInt then
      expert (feature fun k => w (ix2 r k)) (fun k f => g (ix3 0 k f)) (fun k f => u (ix3 0 k f)) (fun f j => d (ix3 0 f j)) j else 0 := by
  have e : k0_pay3 (F := Ideal) v w g u d (ix2 r j) = expert (fun k => if (r.val : Int) < v.toInt then feature (fun k => w (ix2 r k)) k else 0)
      (fun k f => g (ix3 0 k f)) (fun k f => u (ix3 0 k f)) (fun f j => d (ix3 0 f j)) j := by
    rw [show k0_pay3 (F := Ideal) v w g u d = truncf .bf16 (matmul dot_S256x512_S512x1024_S256x1024_1_0_0_1_n_n none (glu256 v w g u)
      (shapeCast S512x1024 d shapeCasts_S1x512x1024_S512x1024 : FVec Ideal S512x1024 .bf16) (constant S256x1024 .f32 0x00000000#32 : FVec Ideal S256x1024 .f32)) bitsLt_bf16_f32 from rfl]
    unfold expert
    pointwise []
    simp only [glu256_apply]
  rw [e]
  by_cases hl : (r.val : Int) < v.toInt
  · simp only [if_pos hl]
  · simp only [if_neg hl, expert_zero]

end

/-- No row is live. -/
theorem pay2_apply (y : S512x1024.Idx) : k0_pay2 (F := Ideal) y = 0 := by
  unfold k0_pay2
  pointwise []

/-- No row of the lower half is live. -/
theorem pay4_apply (y : S256x1024.Idx) : k0_pay4 (F := Ideal) y = 0 := by
  unfold k0_pay4
  pointwise []

section
variable (v : BitVec 32) (x0 : Vec Ideal S512x512 .i32) (x1 x2 : Vec Ideal S1x1024x512 .bf16) (x3 : Vec Ideal S1x512x1024 .bf16)

/-- What a grid point is to leave at a row and a feature. -/
def wanted (r : Fin 512) (j : Fin 1024) : EReal :=
  if (r.val : Int) < v.toInt then
    expert (feature fun k => x0 (ix2 r k)) (fun k f => x1 (ix3 0 k f)) (fun k f => x2 (ix3 0 k f)) (fun f j => x3 (ix3 0 f j)) j else 0

/-- The upper half as the body loads it. -/
theorem half_apply (r : Fin 256) (k : Fin 512) : View.ld x0 rHalf (ix2 r k) = x0 (ix2 ⟨r.val, by omega⟩ k) := by
  refine View.ld_unit_apply_of x0 _ _ _ (ix2 r k) (ix2 ⟨r.val, by omega⟩ k) fun a => ?_
  match a with
  | ⟨0, _⟩ => exact (Nat.zero_add _).symm
  | ⟨1, _⟩ => exact (Nat.zero_add _).symm

/-- Where a half of the block stands in it. -/
theorem place_half (o : ℕ) (ho : ∀ a, (![o, 0] : Fin 2 → Nat) a + S256x1024.size a ≤ S512x1024.size a) (x : S256x1024.Idx) (r : Fin 512) (j : Fin 1024)
    (hx : (Rect.unit (s := S512x1024) ![o, 0] S256x1024.size ho).emb x = ix2 r j) : o + (x 0).val = r.val ∧ (x 1).val = j.val := by
  have e0 : (((Rect.unit (s := S512x1024) ![o, 0] S256x1024.size ho).emb x) 0).val = o + (x 0).val := Rect.idx_unit_val ..
  have e1 : (((Rect.unit (s := S512x1024) ![o, 0] S256x1024.size ho).emb x) 1).val = (x 1).val := (Rect.idx_unit_val ..).trans (Nat.zero_add _)
  rw [hx] at e0 e1
  exact ⟨e0.symm, e1.symm⟩

/-- THE BLOCK A GRID POINT LEAVES, at a row and a feature: the live rows through the expert, zeros elsewhere. -/
theorem outBlock_apply (r : Fin 512) (j : Fin 1024) : outBlock v x0 x1 x2 x3 (ix2 r j) = wanted v x0 x1 x2 x3 r j := by
  have e1 : View.ld x1 rUp = x1 := View.ld_unit_lit _ _ (by decide)
  have e2 : View.ld x2 rUp = x2 := View.ld_unit_lit _ _ (by decide)
  have e3 : View.ld x3 rDown = x3 := View.ld_unit_lit _ _ (by decide)
  have e0 : View.ld x0 rWords = x0 := View.ld_unit_lit _ _ (by decide)
  unfold outBlock wanted
  rw [e0, e1, e2, e3]
  by_cases h1 : 256 < v.toInt
  · rw [if_pos h1, View.canon_cons_unit_lit _ _ _ (by decide), pay512_apply]
  · rw [if_neg h1]
    by_cases h2 : 0 < v.toInt
    · rw [if_pos h2]
      refine View.canon_eq_of_allAt _ (ix2 r j) _ (cover_halves _ _ _) ?_
      intro p hp x hx
      simp only [List.mem_cons, List.not_mem_nil, or_false] at hp
      rcases hp with rfl | rfl
      · have e : 256 + (x 0).val = r.val := (place_half 256 inb_S512x1024_S256x1024_256_0 x r j hx).1
        have hr : ¬ (r.val : Int) < v.toInt := by omega
        rw [if_neg hr]
        exact pay4_apply x
      · have e := place_half 0 inb_S512x1024_S256x1024_0_0 x r j hx
        obtain ⟨r', j', rfl⟩ : ∃ (r' : Fin 256) (j' : Fin 1024), x = ix2 r' j' := ⟨x 0, x 1, eq_ix2 x⟩
        have hr' : r'.val < 512 := Nat.lt_trans r'.isLt (by decide)
        have er : r = ⟨r'.val, hr'⟩ := Fin.ext (e.1.symm.trans (Nat.zero_add _))
        have ej : j = j' := Fin.ext e.2.symm
        subst er ej
        show k0_pay3 _ _ _ _ _ (ix2 r' j) = _
        rw [pay256_apply]
        have eh : (fun k => View.ld x0 rHalf (ix2 r' k)) = fun k => x0 (ix2 ⟨r'.val, hr'⟩ k) := funext fun k => half_apply x0 r' k
        rw [eh]
    · rw [if_neg h2, View.canon_cons_unit_lit _ _ _ (by decide), pay2_apply, if_neg (by omega)]

end

end Cert.Experts.Kernel3Ideal

end
-- ==== Proof.Experts.IdealFrame.lean ====
module

public import proofs.«01_k».proof.Proof.Experts.IdealRun

/-! # The expert call runs: what it leaves in the result, its arguments unchanged -/

@[expose] public section

set_option maxRecDepth 16384

noncomputable section

namespace Cert.Experts.Kernel3Ideal

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- What a grid point leaves in the result's staged block. -/
def leftAt (h : Named m) (c : Dev nD) (t : Fin (pipe m h).N) : Vec F S512x1024 .bf16 :=
  outBlock (liveWord c (grid0.coords t) (tables m 1)) (blockAt m h c 0 t) (blockAt m h c 1 t) (blockAt m h c 2 t) (blockAt m h c 3 t)

/-- The call's proof data: the arrays as launched, each operand's block left in place, the result's at `leftAt`. -/
def story (h : Named m) (_ : Fin 1) (c : Dev nD) : Dat τ (Elt F) Unit ℕ (UR sig nD τ) ℕ (pipe m h) c where
  A w := start m c (Pipeline.arrRef spec0 w)
  after w t := match w with
    | ⟨0, _⟩ => blockAt m h c 0 t
    | ⟨1, _⟩ => blockAt m h c 1 t
    | ⟨2, _⟩ => blockAt m h c 2 t
    | ⟨3, _⟩ => blockAt m h c 3 t
    | ⟨4, _⟩ => leftAt m h c t
  Φ _ := iprop(Pipeline.ΦA spec0 c ∗ Pipeline.ΦT pre0 (tables m) c)
  q _ := fullShare
  owed _ := 0

/-- The arrays start as launched. -/
theorem story_A (h : Named m) (c : Dev nD) (w : Fin (pipe m h).W) : (story m h 0 c).A w = start m c (Pipeline.arrRef spec0 w) := by
  dsimp only [story]

/-- The operands' blocks are left in place, -/
theorem after_0 (h : Named m) (c : Dev nD) (t : Fin (pipe m h).N) : (story m h 0 c).after 0 t = blockAt m h c 0 t := by dsimp only [story]; rfl
/-- (the gate weights) -/
theorem after_1 (h : Named m) (c : Dev nD) (t : Fin (pipe m h).N) : (story m h 0 c).after 1 t = blockAt m h c 1 t := by dsimp only [story]; rfl
/-- (the up weights) -/
theorem after_2 (h : Named m) (c : Dev nD) (t : Fin (pipe m h).N) : (story m h 0 c).after 2 t = blockAt m h c 2 t := by dsimp only [story]; rfl
/-- (the down weights) -/
theorem after_3 (h : Named m) (c : Dev nD) (t : Fin (pipe m h).N) : (story m h 0 c).after 3 t = blockAt m h c 3 t := by dsimp only [story]; rfl
/-- and the result's is what the body computes. -/
theorem after_4 (h : Named m) (c : Dev nD) (t : Fin (pipe m h).N) : (story m h 0 c).after 4 t = leftAt m h c t := by dsimp only [story]; rfl

/-- A point finds the words of its rows staged, -/
theorem before_0 (h : Named m) (c : Dev nD) (t : Fin (pipe m h).N) (d) : (story m h 0 c).before 0 t d = blockAt m h c 0 t :=
  ((story m h 0 c).before_in_eq_fetched 0 rfl (fun _ => rfl) (fun _ _ _ => rfl)
    (fun t => by rw [after_0]; unfold Dat.blockOf blockAt; rw [story_A]) t d).trans
    (by unfold Dat.fetched Dat.blockOf blockAt; rw [story_A]; rfl)
/-- its expert's gate weights, -/
theorem before_1 (h : Named m) (c : Dev nD) (t : Fin (pipe m h).N) (d) : (story m h 0 c).before 1 t d = blockAt m h c 1 t :=
  ((story m h 0 c).before_in_eq_fetched 1 rfl (fun _ => rfl) (fun _ _ _ => rfl)
    (fun t => by rw [after_1]; unfold Dat.blockOf blockAt; rw [story_A]) t d).trans
    (by unfold Dat.fetched Dat.blockOf blockAt; rw [story_A]; rfl)
/-- up weights, -/
theorem before_2 (h : Named m) (c : Dev nD) (t : Fin (pipe m h).N) (d) : (story m h 0 c).before 2 t d = blockAt m h c 2 t :=
  ((story m h 0 c).before_in_eq_fetched 2 rfl (fun _ => rfl) (fun _ _ _ => rfl)
    (fun t => by rw [after_2]; unfold Dat.blockOf blockAt; rw [story_A]) t d).trans
    (by unfold Dat.fetched Dat.blockOf blockAt; rw [story_A]; rfl)
/-- and down weights. -/
theorem before_3 (h : Named m) (c : Dev nD) (t : Fin (pipe m h).N) (d) : (story m h 0 c).before 3 t d = blockAt m h c 3 t :=
  ((story m h 0 c).before_in_eq_fetched 3 rfl (fun _ => rfl) (fun _ _ _ => rfl)
    (fun t => by rw [after_3]; unfold Dat.blockOf blockAt; rw [story_A]) t d).trans
    (by unfold Dat.fetched Dat.blockOf blockAt; rw [story_A]; rfl)

/-- What the body is called with at a point, -/
def given (h : Named m) (c : Dev nD) (t : Fin (pipe m h).N) : sProp (World F) :=
  iprop((story m h 0 c).Φ t.castSucc ∗ (story m h 0 c).owesAt () t.castSucc
    ∗ (∃ d, owns (c : Thread nD τ) (stage0 m h t) fullShare ((story m h 0 c).before 0 t d))
    ∗ (∃ d, owns (c : Thread nD τ) (stage1 m h t) fullShare ((story m h 0 c).before 1 t d))
    ∗ (∃ d, owns (c : Thread nD τ) (stage2 m h t) fullShare ((story m h 0 c).before 2 t d))
    ∗ (∃ d, owns (c : Thread nD τ) (stage3 m h t) fullShare ((story m h 0 c).before 3 t d))
    ∗ (∃ d, owns (c : Thread nD τ) (stage4 m h t) fullShare ((story m h 0 c).before 4 t d)))

/-- and what it gives back. -/
def givenBack (h : Named m) (c : Dev nD) (t : Fin (pipe m h).N) : sProp (World F) :=
  iprop((story m h 0 c).Φ t.succ ∗ (story m h 0 c).owesAt () t.succ
    ∗ owns (c : Thread nD τ) (stage0 m h t) fullShare ((story m h 0 c).after 0 t)
    ∗ owns (c : Thread nD τ) (stage1 m h t) fullShare ((story m h 0 c).after 1 t)
    ∗ owns (c : Thread nD τ) (stage2 m h t) fullShare ((story m h 0 c).after 2 t)
    ∗ owns (c : Thread nD τ) (stage3 m h t) fullShare ((story m h 0 c).after 3 t)
    ∗ owns (c : Thread nD τ) (stage4 m h t) fullShare ((story m h 0 c).after 4 t))

/-- The body at any point does so. -/
theorem body_at (h : Named m) (c : Dev nD) (t : Fin (pipe m h).N) :
    given m h c t ⊢ wp frame (wpE (defs₀ (F := F)) Variants.none c none) Set.univ (bodyAt m h t) (fun _ => givenBack m h c t) := by
  unfold given givenBack bodyAt
  simp only [before_0, before_1, before_2, before_3]
  rw [show (story m h 0 c).Φ t.succ = (story m h 0 c).Φ t.castSucc from rfl,
    show (story m h 0 c).owesAt () t.succ = (story m h 0 c).owesAt () t.castSucc from rfl,
    after_0, after_1, after_2, after_3, after_4]
  rw [show (story m h 0 c).Φ t.castSucc = iprop(Pipeline.ΦA spec0 c ∗ Pipeline.ΦT pre0 (tables m) c) from rfl, lent_eq]
  unfold leftAt
  iintro ⟨⟨HΦ, ⟨HT0, HT1⟩⟩, Ho, ⟨%d0, H0⟩, ⟨%d1, H1⟩, ⟨%d2, H2⟩, ⟨%d3, H3⟩, ⟨%d4, H4⟩⟩
  iapply (body_run c (grid0.coords t) _ _ _ _ _ _ _ _ _ _ (blockAt m h c 0 t) (blockAt m h c 1 t) (blockAt m h c 2 t) (blockAt m h c 3 t)
    (tables m 0) (tables m 1) Set.univ _)
  isplitl [H0]; · iexact H0
  isplitl [H1]; · iexact H1
  isplitl [H2]; · iexact H2
  isplitl [H3]; · iexact H3
  isplitl [H4]; · iexists _; iexact H4
  isplitl [HT0]; · iexact HT0
  isplitl [HT1]; · iexact HT1
  iintro ⟨H0, H1, H2, H3, H4, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- The body table's row at a point is the body there. -/
theorem row_at (h : Named m) (t : Fin (pipe m h).N) :
    defs₀ (F := F) .tc (pipe m h).body ((pipe m h).bodyArgs t ((pipe m h).slots t)) = bodyAt m h t := by
  unfold defs₀; rw [Defs.onTc_tc]

/-- Whatever a block's number of live rows, one of the body's three branches stores the result. -/
theorem some_branch (v : BitVec 32) : (!(k0_cond1 v == 1#1) && !(k0_cond2 v == 1#1) && !(k0_cond3 v == 1#1)) = false := by
  by_cases h1 : 256 < v.toInt
  · rw [(first_iff v).mpr h1]; rfl
  · by_cases h2 : 0 < v.toInt
    · rw [(second_iff v).mpr ⟨h2, by omega⟩]; cases k0_cond1 v == 1#1 <;> rfl
    · rw [(third_iff v).mpr (by omega)]; cases k0_cond1 v == 1#1 <;> cases k0_cond2 v == 1#1 <;> rfl

/-- So no point leaves the result's block alone. -/
theorem never_idle (i : grid0.Coords) : idle0 (tables (F := F) m) 4 i = false := some_branch ((tables m).atD 1 (k0_off1 i))

/-- The body keeps its side of the call at every point. -/
theorem obligation (h : Named m) (c : Dev nD) : BodyObligation (story (F := F) m h 0 c) (defs₀ (F := F)) Variants.none () Set.univ := fun t => by
  rw [bigSep_W0, bigSep_W0, row_at m h]
  dsimp only
  rw [show idle0 (tables m) 4 ((pcfg0.gridAt (tables m)).coords t) = false from never_idle m (grid0.coords t)]
  exact triple_restated (body_at m h c t) rfl .rfl fun _ => .rfl

set_option backward.isDefEq.respectTransparency.types false in
/-- THE RUN: from any memory whose expert table names experts, every fair execution ends, each array of the call as its
    proof data has it, every other buffer as launched and every semaphore counter at zero. -/
theorem call_runs (h : Named m) : θ_run defs (onTc (τ := τ) (main (F := F))) (s₀ m ρ)
    (fun r => (Pipeline.FramePost (Pipeline.pin pcfgs fun _ => admitted m h) (story m h) 0 (start m)) r ∧ r.2.sem = fun _ => 0) :=
  Pipeline.θ_run_frameP (Q' := _) pcfgs (fun _ => admitted m h) (story m h) (0 : Fin 1) launch0 defs₀ Variants.none m ρ main
    (hbody := fun c => (obligation m h c).loose) (hshare := fun c => (story m h 0 c).share_full fun _ => rfl)
    (howed := fun _ _ => rfl) (V := start m) (hmain := one_call m Variants.none) (hA := story_A m h) (hpf := tables_eq m) (hΦ := fun _ _ => rfl)

/-- The result after the run. -/
def result (h : Named m) (c : Dev nD) : Buf (Elt F) ((c : Thread nD τ).loc main_v0) := (story m h 0 c).arrAt 4 (pipe m h).N

/-- The run with its result named, its arguments unchanged. -/
theorem run_named (h : Named m) : θ_run defs (onTc (τ := τ) (main (F := F))) ⟨m, fun _ => 0, ρ⟩ (fun r => ∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ e c => ⟨(e.1 c).1 4,
      ((e.1 c).2 main_arg0 (by decide : main_arg0 ∈ Pipeline.restRefs sig spec0)),
      ((e.1 c).2 main_arg1 (by decide : main_arg1 ∈ Pipeline.restRefs sig spec0)),
      ((e.1 c).1 0).trans (((story m h 0 c).arrAt_in 0 rfl _).trans (story_A m h c 0)),
      ((e.1 c).1 1).trans (((story m h 0 c).arrAt_in 1 rfl _).trans (story_A m h c 1)),
      ((e.1 c).1 2).trans (((story m h 0 c).arrAt_in 2 rfl _).trans (story_A m h c 2)),
      ((e.1 c).1 3).trans (((story m h 0 c).arrAt_in 3 rfl _).trans (story_A m h c 3))⟩) (call_runs m ρ h)

/-- THE FRAME: the run leaves its arguments unchanged and every semaphore counter at zero. -/
theorem quiet (h : Named m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ e c => (e c).2) (run_named m ρ h)) ((θ_run defs _ _).mono (fun _ e => e.2) (call_runs m ρ h))

end Cert.Experts.Kernel3Ideal

end
-- ==== Proof.Experts.IdealNamed.lean ====
module

public import proofs.«01_k».proof.Proof.Experts.IdealKit
public import proofs.«01_k».proof.Pre_experts_exist
public import Idealize.ShloMosaic.Lib.PairWhole

/-! # Under the precondition every block's expert is one of the 32 -/

@[expose] public section

set_option maxRecDepth 16384

noncomputable section

namespace Cert.Experts.Kernel3Ideal

open Cert.Kernel3Ideal Cert.Kernel3Ideal.Gen
open Idealize.ShloMosaic Idealize.ShloMosaic.TcCoe

variable {F : FTy → Type} [FloatOps F]

variable (m : (ℓ : Loc nD τ sig) → Buf (Elt F) ℓ)

/-- A grid point's place in the tables. -/
def place (i : grid0.Coords) : S160.Idx := fun | 0 => (i 0 : Fin 160)

/-- The word of the expert table at a grid point. -/
def expertWord (i : grid0.Coords) : BitVec 32 := m ((0 : Dev nD).tc.loc main_arg0) (place i)

/-- What an index map reads of the expert table is that word. -/
theorem at_eq (i : grid0.Coords) (h : ∀ a, (k0_off1 i) a + S1.size a ≤ S160.size a) (h1) :
    (tables m).at 0 (Rect.unit (s := S160) (k0_off1 i) S1.size h) h1 = expertWord m i := by
  unfold expertWord
  refine congrArg (m ((0 : Dev nD).tc.loc main_arg0)) (funext fun a => Fin.ext ?_)
  obtain ⟨a, ha⟩ := a
  obtain rfl : a = 0 := Nat.lt_one_iff.mp ha
  show (k0_off1 i) 0 + 1 * 0 = (i 0).val
  rw [k0_off1_eq]
  rfl

/-- A word between 0 and 32 as a signed number is below 32 as a natural one. -/
theorem small_of_signed {e : BitVec 32} (h : BitVec.ofBool ((0#32 : BitVec 32).sle e) &&& BitVec.ofBool (e.slt 32#32) = 1#1) : e.toNat < 32 := by
  have a : (0#32 : BitVec 32).sle e = true ∧ e.slt 32#32 = true := by
    cases h0 : (0#32 : BitVec 32).sle e <;> cases h1 : e.slt 32#32 <;> simp_all
  have h0 : (0#32 : BitVec 32).toInt ≤ e.toInt := by simpa [BitVec.sle] using a.1
  have h1 : e.toInt < (32#32 : BitVec 32).toInt := by simpa [BitVec.slt] using a.2
  have e0 : (0#32 : BitVec 32).toInt = 0 := by decide
  have e32 : (32#32 : BitVec 32).toInt = 32 := by decide
  rw [e0] at h0; rw [e32] at h1
  have := BitVec.toInt_eq_toNat_cond e
  split at this <;> omega

/-- So every word of the table is below 32. -/
theorem word_lt [Cert.Pre_experts_exist.Facts]
    (hp : Cert.Pre_experts_exist.fn (F := F) (m ((0 : Dev nD).tc.loc main_arg0)) (m ((0 : Dev nD).tc.loc main_arg1))
      (m ((0 : Dev nD).tc.loc main_arg2)) (m ((0 : Dev nD).tc.loc main_arg3)) (m ((0 : Dev nD).tc.loc main_arg4))
      (m ((0 : Dev nD).tc.loc main_arg5)) = fun _ => 1#1) (i : grid0.Coords) : (expertWord m i).toNat < 32 :=
  small_of_signed (congrFun hp (place i))

/-- The blocks the index maps name lie inside the weight arrays. -/
theorem named_of (hlt : ∀ i : grid0.Coords, (expertWord m i).toNat < 32) : Named m := by
  have e1 : ∀ i, cc0_transform_1 k0_off1_inb numel1_S1 (tables m) i = ![(expertWord m i).toNat, 0, 0] := fun i => by
    rw [← at_eq m i (k0_off1_inb i) numel1_S1]; rfl
  have e2 : ∀ i, cc0_transform_2 k0_off1_inb numel1_S1 (tables m) i = ![(expertWord m i).toNat, 0, 0] := fun i => by
    rw [← at_eq m i (k0_off1_inb i) numel1_S1]; rfl
  have e3 : ∀ i, cc0_transform_3 k0_off1_inb numel1_S1 (tables m) i = ![(expertWord m i).toNat, 0, 0] := fun i => by
    rw [← at_eq m i (k0_off1_inb i) numel1_S1]; rfl
  refine ⟨fun i => ?_, fun i => ?_, fun i => ?_⟩
  · rw [e1]
    refine ⟨fun a => ?_, .inr (.inl (.inr ⟨by decide, rfl, .inl ⟨⟨0, rfl⟩, ⟨512, rfl⟩⟩⟩))⟩
    have := hlt i
    match a with
    | 0 => show ((expertWord m i).toNat + 1) * 1 ≤ 32; omega
    | 1 => exact (by decide : (0 + 1) * 1024 ≤ 1024)
    | 2 => exact (by decide : (0 + 1) * 512 ≤ 512)
  · rw [e2]
    refine ⟨fun a => ?_, .inr (.inl (.inr ⟨by decide, rfl, .inl ⟨⟨0, rfl⟩, ⟨512, rfl⟩⟩⟩))⟩
    have := hlt i
    match a with
    | 0 => show ((expertWord m i).toNat + 1) * 1 ≤ 32; omega
    | 1 => exact (by decide : (0 + 1) * 1024 ≤ 1024)
    | 2 => exact (by decide : (0 + 1) * 512 ≤ 512)
  · rw [e3]
    refine ⟨fun a => ?_, .inr (.inl (.inr ⟨by decide, rfl, .inl ⟨⟨0, rfl⟩, ⟨256, rfl⟩⟩⟩))⟩
    have := hlt i
    match a with
    | 0 => show ((expertWord m i).toNat + 1) * 1 ≤ 32; omega
    | 1 => exact (by decide : (0 + 1) * 512 ≤ 512)
    | 2 => exact (by decide : (0 + 1) * 1024 ≤ 1024)

end Cert.Experts.Kernel3Ideal

end
-- ==== Proof.Experts.Array.lean ====
module

public import proofs.«01_k».proof.Proof.Experts.Block
public import proofs.«01_k».proof.Proof.Experts.IdealFrame
public import proofs.«01_k».proof.Proof.Experts.IdealNamed

/-! # The experts' array after the run, at a row and a feature, from the arguments -/

@[expose] public section

set_option maxRecDepth 16384

noncomputable section

namespace Cert.Experts.Kernel3Ideal

open Cert.Kernel3Ideal Cert.Kernel3Ideal.Gen Cert.Experts
open Idealize.ShloMosaic Idealize.ShloMosaic.TcCoe

/-! Which block of its array each window reads or writes at a grid point. -/

/-- A grid point's coordinate is its number. -/
theorem coord : ∀ t : Fin grid0.N, (grid0.coords t 0).val = t.val := by decide +kernel

theorem map0 (i : grid0.Coords) : cc0_transform_0 i = ![(i 0).val, 0] := by
  have hi : (i 0).val < 160 := (i 0).isLt
  have e : (BitVec.ofNat 32 (i 0).val).toNat = (i 0).val := (BitVec.toNat_ofNat ..).trans (Nat.mod_eq_of_lt (by omega))
  show ![(BitVec.ofNat 32 (i 0).val).toNat, (0#32 : BitVec 32).toNat] = _
  rw [e]
  rfl
theorem map4 (i : grid0.Coords) : cc0_transform_4 i = ![(i 0).val, 0] := map0 i

variable (m : (ℓ : Loc nD τ sig) → Buf (Elt Ideal) ℓ) (h : Named m) (c : Dev nD)

theorem map1 (i : grid0.Coords) : cc0_transform_1 k0_off1_inb numel1_S1 (tables m) i = ![(expertWord m i).toNat, 0, 0] := by
  rw [← at_eq m i (k0_off1_inb i) numel1_S1]; rfl
theorem map2 (i : grid0.Coords) : cc0_transform_2 k0_off1_inb numel1_S1 (tables m) i = ![(expertWord m i).toNat, 0, 0] := by
  rw [← at_eq m i (k0_off1_inb i) numel1_S1]; rfl
theorem map3 (i : grid0.Coords) : cc0_transform_3 k0_off1_inb numel1_S1 (tables m) i = ![(expertWord m i).toNat, 0, 0] := by
  rw [← at_eq m i (k0_off1_inb i) numel1_S1]; rfl

theorem t_lt (t : Fin (pipe m h).N) : t.val < 160 := t.isLt.trans_eq (by decide +kernel : grid0.N = 160)

theorem idx0 (t : Fin (pipe m h).N) : ((pipe m h).win 0).index t (0 : Fin 2) = t.val ∧ ((pipe m h).win 0).index t (1 : Fin 2) = 0 := by
  have e : ((pipe m h).win 0).index t = ![(grid0.coords t 0).val, 0] := map0 (grid0.coords t)
  rw [e, coord]; exact ⟨rfl, rfl⟩
theorem idx4 (t : Fin (pipe m h).N) : ((pipe m h).win 4).index t (0 : Fin 2) = t.val ∧ ((pipe m h).win 4).index t (1 : Fin 2) = 0 := by
  have e : ((pipe m h).win 4).index t = ![(grid0.coords t 0).val, 0] := map4 (grid0.coords t)
  rw [e, coord]; exact ⟨rfl, rfl⟩
theorem idx1 (t : Fin (pipe m h).N) : ((pipe m h).win 1).index t (0 : Fin 3) = (expertWord m (grid0.coords t)).toNat ∧ ((pipe m h).win 1).index t (1 : Fin 3) = 0
    ∧ ((pipe m h).win 1).index t (2 : Fin 3) = 0 := by
  have e : ((pipe m h).win 1).index t = ![(expertWord m (grid0.coords t)).toNat, 0, 0] := map1 m (grid0.coords t)
  rw [e]; exact ⟨rfl, rfl, rfl⟩
theorem idx2 (t : Fin (pipe m h).N) : ((pipe m h).win 2).index t (0 : Fin 3) = (expertWord m (grid0.coords t)).toNat ∧ ((pipe m h).win 2).index t (1 : Fin 3) = 0
    ∧ ((pipe m h).win 2).index t (2 : Fin 3) = 0 := by
  have e : ((pipe m h).win 2).index t = ![(expertWord m (grid0.coords t)).toNat, 0, 0] := map2 m (grid0.coords t)
  rw [e]; exact ⟨rfl, rfl, rfl⟩
theorem idx3 (t : Fin (pipe m h).N) : ((pipe m h).win 3).index t (0 : Fin 3) = (expertWord m (grid0.coords t)).toNat ∧ ((pipe m h).win 3).index t (1 : Fin 3) = 0
    ∧ ((pipe m h).win 3).index t (2 : Fin 3) = 0 := by
  have e : ((pipe m h).win 3).index t = ![(expertWord m (grid0.coords t)).toNat, 0, 0] := map3 m (grid0.coords t)
  rw [e]; exact ⟨rfl, rfl, rfl⟩

theorem emb0 (t : Fin (pipe m h).N) (r k : Fin 512) :
    (((pipe m h).win 0).blk t).view.emb (ix2 r k) = ix2 (⟨t.val * 512 + r.val, by have := t_lt m h t; omega⟩ : Fin 81920) k := by
  obtain ⟨e0, e1⟩ := idx0 m h t
  funext a; apply Fin.ext
  match a with
  | ⟨0, _⟩ => show ((pipe m h).win 0).index t (0 : Fin 2) * 512 + 1 * r.val = t.val * 512 + r.val; omega
  | ⟨1, _⟩ => show ((pipe m h).win 0).index t (1 : Fin 2) * 512 + 1 * k.val = k.val; omega
theorem emb4 (t : Fin (pipe m h).N) (r : Fin 512) (j : Fin 1024) :
    (((pipe m h).win 4).blk t).view.emb (ix2 r j) = ix2 (⟨t.val * 512 + r.val, by have := t_lt m h t; omega⟩ : Fin 81920) j := by
  obtain ⟨e0, e1⟩ := idx4 m h t
  funext a; apply Fin.ext
  match a with
  | ⟨0, _⟩ => show ((pipe m h).win 4).index t (0 : Fin 2) * 512 + 1 * r.val = t.val * 512 + r.val; omega
  | ⟨1, _⟩ => show ((pipe m h).win 4).index t (1 : Fin 2) * 1024 + 1 * j.val = j.val; omega

section
variable (hlt : ∀ i : grid0.Coords, (expertWord m i).toNat < 32)

theorem slab_val {v : BitVec 32} (hv : v.toNat < 32) : (slab v).val = v.toNat := Nat.mod_eq_of_lt hv

include hlt
theorem emb1 (t : Fin (pipe m h).N) (k : Fin 1024) (f : Fin 512) :
    (((pipe m h).win 1).blk t).view.emb (ix3 0 k f) = ix3 (slab (expertWord m (grid0.coords t))) k f := by
  obtain ⟨e0, e1, e2⟩ := idx1 m h t
  have es := slab_val (hlt (grid0.coords t))
  funext a; apply Fin.ext
  match a with
  | ⟨0, _⟩ => show ((pipe m h).win 1).index t (0 : Fin 3) * 1 + 1 * 0 = (slab (expertWord m (grid0.coords t))).val; omega
  | ⟨1, _⟩ => show ((pipe m h).win 1).index t (1 : Fin 3) * 1024 + 1 * k.val = k.val; omega
  | ⟨2, _⟩ => show ((pipe m h).win 1).index t (2 : Fin 3) * 512 + 1 * f.val = f.val; omega
theorem emb2 (t : Fin (pipe m h).N) (k : Fin 1024) (f : Fin 512) :
    (((pipe m h).win 2).blk t).view.emb (ix3 0 k f) = ix3 (slab (expertWord m (grid0.coords t))) k f := by
  obtain ⟨e0, e1, e2⟩ := idx2 m h t
  have es := slab_val (hlt (grid0.coords t))
  funext a; apply Fin.ext
  match a with
  | ⟨0, _⟩ => show ((pipe m h).win 2).index t (0 : Fin 3) * 1 + 1 * 0 = (slab (expertWord m (grid0.coords t))).val; omega
  | ⟨1, _⟩ => show ((pipe m h).win 2).index t (1 : Fin 3) * 1024 + 1 * k.val = k.val; omega
  | ⟨2, _⟩ => show ((pipe m h).win 2).index t (2 : Fin 3) * 512 + 1 * f.val = f.val; omega
theorem emb3 (t : Fin (pipe m h).N) (f : Fin 512) (j : Fin 1024) :
    (((pipe m h).win 3).blk t).view.emb (ix3 0 f j) = ix3 (slab (expertWord m (grid0.coords t))) f j := by
  obtain ⟨e0, e1, e2⟩ := idx3 m h t
  have es := slab_val (hlt (grid0.coords t))
  funext a; apply Fin.ext
  match a with
  | ⟨0, _⟩ => show ((pipe m h).win 3).index t (0 : Fin 3) * 1 + 1 * 0 = (slab (expertWord m (grid0.coords t))).val; omega
  | ⟨1, _⟩ => show ((pipe m h).win 3).index t (1 : Fin 3) * 512 + 1 * f.val = f.val; omega
  | ⟨2, _⟩ => show ((pipe m h).win 3).index t (2 : Fin 3) * 1024 + 1 * j.val = j.val; omega
omit hlt

/-! Each fetched block at an index, from the arguments. -/

theorem block0_apply (t : Fin (pipe m h).N) (r k : Fin 512) :
    (blockAt m h c 0 t : Vec Ideal S512x512 .i32) (ix2 r k)
      = (m ((c.tc : Thread nD τ).loc main_arg2) : S81920x512.Idx → BitVec 32) (ix2 ⟨t.val * 512 + r.val, by have := t_lt m h t; omega⟩ k) :=
  congrArg (start m c (Pipeline.arrRef spec0 0)) (emb0 m h t r k)
include hlt
theorem block1_apply (t : Fin (pipe m h).N) (k : Fin 1024) (f : Fin 512) :
    (blockAt m h c 1 t : Vec Ideal S1x1024x512 .bf16) (ix3 0 k f)
      = (m ((c.tc : Thread nD τ).loc main_arg3) : S32x1024x512.Idx → EReal) (ix3 (slab (expertWord m (grid0.coords t))) k f) :=
  congrArg (start m c (Pipeline.arrRef spec0 1)) (emb1 m h hlt t k f)
theorem block2_apply (t : Fin (pipe m h).N) (k : Fin 1024) (f : Fin 512) :
    (blockAt m h c 2 t : Vec Ideal S1x1024x512 .bf16) (ix3 0 k f)
      = (m ((c.tc : Thread nD τ).loc main_arg4) : S32x1024x512.Idx → EReal) (ix3 (slab (expertWord m (grid0.coords t))) k f) :=
  congrArg (start m c (Pipeline.arrRef spec0 2)) (emb2 m h hlt t k f)
theorem block3_apply (t : Fin (pipe m h).N) (f : Fin 512) (j : Fin 1024) :
    (blockAt m h c 3 t : Vec Ideal S1x512x1024 .bf16) (ix3 0 f j)
      = (m ((c.tc : Thread nD τ).loc main_arg5) : S32x512x1024.Idx → EReal) (ix3 (slab (expertWord m (grid0.coords t))) f j) :=
  congrArg (start m c (Pipeline.arrRef spec0 3)) (emb3 m h hlt t f j)
omit hlt

/-- There is one device. -/
theorem dev_eq : c = 0 := Subsingleton.elim _ _

/-- A grid point's number as a place in the tables. -/
theorem place_eq (t : Fin (pipe m h).N) : place (grid0.coords t) = ix1 (⟨t.val, t_lt m h t⟩ : Fin 160) := by
  funext a
  obtain ⟨a, ha⟩ := a
  obtain rfl : a = 0 := Nat.lt_one_iff.mp ha
  exact Fin.ext (coord t)

/-- The expert of a grid point's block. -/
theorem expertWord_eq (t : Fin (pipe m h).N) :
    expertWord m (grid0.coords t) = (m ((c.tc : Thread nD τ).loc main_arg0) : S160.Idx → BitVec 32) (ix1 ⟨t.val, t_lt m h t⟩) := by
  obtain rfl := dev_eq c
  unfold expertWord
  rw [place_eq m h t]

/-- The live rows of a grid point's block. -/
theorem liveWord_eq (t : Fin (pipe m h).N) :
    liveWord c (grid0.coords t) (tables m 1) = (m ((c.tc : Thread nD τ).loc main_arg1) : S160.Idx → BitVec 32) (ix1 ⟨t.val, t_lt m h t⟩) := by
  obtain rfl := dev_eq c
  rw [← place_eq m h t]
  refine congrArg (m ((0 : Dev nD).tc.loc main_arg1)) (funext fun a => Fin.ext ?_)
  obtain ⟨a, ha⟩ := a
  obtain rfl : a = 0 := Nat.lt_one_iff.mp ha
  show (k0_off1 (grid0.coords t)) 0 + 1 * 0 = (grid0.coords t 0).val
  rw [k0_off1_eq]
  rfl

/-- What the experts' call is to leave at a row and a feature. -/
def wantedAt (t : Fin 160) (r : Fin 512) (j : Fin 1024) : EReal :=
  answer (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) t r j

/-- The block wanted of a grid point is the experts' formula at its rows, once the blocks it reads are those of the arguments. -/
theorem wanted_answer (v : BitVec 32) (x0 : Vec Ideal S512x512 .i32) (x1 x2 : Vec Ideal S1x1024x512 .bf16) (x3 : Vec Ideal S1x512x1024 .bf16)
    (a0 a1 : S160.Idx → BitVec 32) (a2 : S81920x512.Idx → BitVec 32) (a3 a4 : S32x1024x512.Idx → EReal) (a5 : S32x512x1024.Idx → EReal)
    (t : Fin 160) (r : Fin 512) (j : Fin 1024) (hv : v = a1 (ix1 t)) (h0 : ∀ k, x0 (ix2 r k) = a2 (ix2 ⟨t.val * 512 + r.val, by omega⟩ k))
    (h1 : ∀ k f, x1 (ix3 0 k f) = a3 (ix3 (slab (a0 (ix1 t))) k f)) (h2 : ∀ k f, x2 (ix3 0 k f) = a4 (ix3 (slab (a0 (ix1 t))) k f))
    (h3 : ∀ f j, x3 (ix3 0 f j) = a5 (ix3 (slab (a0 (ix1 t))) f j)) : wanted v x0 x1 x2 x3 r j = answer a0 a1 a2 a3 a4 a5 t r j := by
  subst hv
  unfold wanted answer
  simp only [h0, h1, h2, h3]

include hlt
/-- What a grid point leaves, from the arguments. -/
theorem leftAt_apply (t : Fin (pipe m h).N) (r : Fin 512) (j : Fin 1024) :
    leftAt m h c t (ix2 r j) = wantedAt m c ⟨t.val, t_lt m h t⟩ r j :=
  (outBlock_apply _ _ _ _ _ r j).trans (wanted_answer _ _ _ _ _ _ _ _ _ _ _ ⟨t.val, t_lt m h t⟩ r j (liveWord_eq m h c t)
    (fun k => block0_apply m h c t r k)
    (fun k f => (block1_apply m h c hlt t k f).trans (by rw [expertWord_eq m h c t]))
    (fun k f => (block2_apply m h c hlt t k f).trans (by rw [expertWord_eq m h c t]))
    (fun f j => (block3_apply m h c hlt t f j).trans (by rw [expertWord_eq m h c t])))
omit hlt

/-! The write-backs: every grid point's, to blocks of their own. -/

theorem idx_inj (t t' : Fin (pipe m h).N) (e : ((pipe m h).win 4).index t = ((pipe m h).win 4).index t') : t = t' := by
  have := congrFun e (0 : Fin 2)
  rw [(idx4 m h t).1, (idx4 m h t').1] at this
  exact Fin.ext this

theorem disjoint : ∀ t t' : Fin (pipe m h).N, ((pipe m h).win 4).flush t = true → ((pipe m h).win 4).flush t' = true → t ≠ t' →
    Disjoint (((pipe m h).win 4).blk t).view.set (((pipe m h).win 4).blk t').view.set :=
  fun t t' _ _ hne => ((pipe m h).win 4).disjoint_blk fun e => hne (idx_inj m h t t' e)

theorem flush4 (t : Fin (pipe m h).N) : ((pipe m h).win 4).flush t = true :=
  (fun t => (Pipeline.Window.flushOf_reads cc0_transform_4 reads0_4 hreads0_4 0 (by decide) (by decide)
    (Pipeline.Window.sep_of_coord cc0_transform_4 0 0 (fun _ => rfl) (by decide)) (P := 1) (m := 0) (by decide) rfl t).mpr (Nat.mod_one _) :
      ∀ t : Fin grid0.N, Pipeline.Window.flushOf grid0 true cc0_transform_4 t = true) t

theorem flushed4 (t : Fin (pipe m h).N) : (story m h 0 c).flushed 4 t = ((pipe m h).win 4).cut (grid0.coords t) (leftAt m h c t) := by
  show ((pipe m h).win 4).cut (grid0.coords t) ((story m h 0 c).after 4 t) = _
  rw [after_4]

theorem blocks4 (t : Fin (pipe m h).N) :
    (((pipe m h).win 4).blk t).view.read (Elt Ideal) ((story m h 0 c).arrAt 4 (pipe m h).N) = (story m h 0 c).flushed 4 t :=
  (story m h 0 c).read_blk_arrAt_eq_flushed 4 (disjoint m h) (pipe m h).N t t.isLt (flush4 m h t)

theorem cut4_apply (t : Fin (pipe m h).N) (f : Vec Ideal S512x1024 .bf16) (r : Fin 512) (j : Fin 1024) :
    ((pipe m h).win 4).cut (grid0.coords t) f (ix2 r j) = f (ix2 r j) := rfl

/-- Block `t` of an array read at an index is the array where the block stands. -/
theorem read_at (t : Fin (pipe m h).N) (A : Buf (Elt Ideal) ((c : Thread nD τ).loc main_v0)) (r : Fin 512) (j : Fin 1024) :
    ((((pipe m h).win 4).blk t).view.read (Elt Ideal) A : Vec Ideal S512x1024 .bf16) (ix2 r j) = A ((((pipe m h).win 4).blk t).view.emb (ix2 r j)) := rfl

/-- An array whose blocks are given, at an index of a block. -/
theorem at_block (t : Fin (pipe m h).N) (A : Buf (Elt Ideal) ((c : Thread nD τ).loc main_v0)) (f : Vec Ideal S512x1024 .bf16)
    (e : (((pipe m h).win 4).blk t).view.read (Elt Ideal) A = ((pipe m h).win 4).cut (grid0.coords t) f) (r : Fin 512) (j : Fin 1024) :
    A (ix2 (⟨t.val * 512 + r.val, by have := t_lt m h t; omega⟩ : Fin 81920) j) = f (ix2 r j) := by
  have q : A ((((pipe m h).win 4).blk t).view.emb (ix2 r j)) = f (ix2 r j) :=
    ((read_at m h c t A r j).symm.trans (congrFun e (ix2 r j))).trans (cut4_apply m h t f r j)
  rw [emb4] at q
  exact q

theorem blocks_left (t : Fin (pipe m h).N) :
    (((pipe m h).win 4).blk t).view.read (Elt Ideal) (result m h c) = ((pipe m h).win 4).cut (grid0.coords t) (leftAt m h c t) := by
  unfold result
  exact (blocks4 m h c t).trans (flushed4 m h c t)

include hlt
/-- THE EXPERTS' ARRAY AFTER THE RUN, at a row and a feature. -/
theorem result_apply (n : Fin 81920) (t : Fin 160) (r : Fin 512) (hn : n.val = t.val * 512 + r.val) (j : Fin 1024) :
    (result m h c : S81920x1024.Idx → EReal) (ix2 n j) = wantedAt m c t r j := by
  have hN : (pipe m h).N = 160 := (by decide +kernel : grid0.N = 160)
  obtain ⟨t, rfl⟩ : ∃ s : Fin (pipe m h).N, t = ⟨s.val, t_lt m h s⟩ := ⟨⟨t.val, by omega⟩, rfl⟩
  have en : n = ⟨t.val * 512 + r.val, by have := t_lt m h t; omega⟩ := Fin.ext hn
  rw [en]
  exact (at_block m h c t (result m h c) (leftAt m h c t) (blocks_left m h c t) r j).trans (leftAt_apply m h c hlt t r j)
omit hlt
end

end Cert.Experts.Kernel3Ideal

end
-- ==== Proof.Experts.Ref.lean ====
module

public import proofs.«01_k».proof.Proof.Gen.Reference3Ideal.Run
public import proofs.«01_k».proof.Proof.Experts.Formula
public import Idealize.ShloMosaic.Lib.Pointwise
public import Idealize.ShloMosaic.Lib.BitcastConvert
public import Idealize.ShloMosaic.Lib.Routing.OpsPair

/-! # The reference's result read at a row and a feature -/

@[expose] public section

set_option maxRecDepth 16384

noncomputable section

namespace Cert.Reference3Ideal.Experts

open Cert.Reference3Ideal Cert.Reference3Ideal.Gen Cert.Experts
open Idealize.ShloMosaic Idealize.ShloMosaic.TcCoe

section
variable {F : FTy → Type} [FloatOps F]
  (a0 a1 : Vec F S160 .i32) (a2 : Vec F S81920x512 .i32) (a3 a4 : Vec F S32x1024x512 .bf16) (a5 : Vec F S32x512x1024 .bf16)

/-- The words' halves as numbers. -/
def halves : FVec F S81920x512x2 .bf16 :=
  bitcastToFloat (F := F) .bf16 (Host.bitcastConvertNarrow S81920x512x2 16 a2 splits_S81920x512_w32_S81920x512x2_w16)

/-- The tokens' features. -/
def rows : FVec F S81920x1024 .bf16 :=
  concatenate S81920x1024 1 [⟨S81920x512, (shapeCast _ (extractStridedSlice S81920x512x1 ![0, 0, 0] (halves a2) slices_S81920x512x2_S81920x512x1_0_0_0) shapeCasts_S81920x512x1_S81920x512)⟩, ⟨S81920x512, (shapeCast _ (extractStridedSlice S81920x512x1 ![0, 0, 1] (halves a2) slices_S81920x512x2_S81920x512x1_0_0_1) shapeCasts_S81920x512x1_S81920x512)⟩] concatenates_S81920x512_S81920x512_S81920x1024_d1

/-- The tokens by blocks. -/
def blocks : FVec F S160x512x1024 .f32 :=
  shapeCast _ (extf .f32 (rows a2) bitsLt_bf16_f32) shapeCasts_S81920x1024_S160x512x1024

/-- The column of the blocks' expert numbers. -/
def pick : IVec S160x1 32 :=
  broadcastInDim S160x1 ![0] bcast_S160_S160x1_0 (select (cmpi .slt a0 (broadcastInDim S160 ![] bcast_S_S160 (constantI S_ 32 0#32))) (addi a0 (broadcastInDim S160 ![] bcast_S_S160 (constantI S_ 32 32#32))) a0)

/-- A weight array's slabs, one for each block. -/
def slabs (w : Vec F S32x1024x512 .bf16) : FVec F S160x1024x512 .f32 :=
  extf .f32 (Host.gather gather_S32x1024x512_S160x1_S160x1024x512_12_0_n_n_0_1_11024512 w (pick (F := F) a0)) bitsLt_bf16_f32

/-- The down weights' slabs, one for each block. -/
def slabsDown : FVec F S160x512x1024 .f32 :=
  extf .f32 (Host.gather gather_S32x512x1024_S160x1_S160x512x1024_12_0_n_n_0_1_15121024 a5 (pick (F := F) a0)) bitsLt_bf16_f32

/-- The blocks through a weight array. -/
def through (w : Vec F S32x1024x512 .bf16) : FVec F S160x512x512 .f32 :=
  Host.dotGeneral (φ₁ := .f32) (φ₂ := .f32) dot_S160x512x1024_S160x1024x512_S160x512x512_2_1_1_2_0_0 none (blocks a2) (slabs a0 w)

/-- The gated linear unit. -/
def gated : FVec F S160x512x512 .f32 :=
  mulf (mulf (through a0 a2 a3) (Host.divf (broadcastInDim S160x512x512 ![] bcast_S_S160x512x512 (constant S_ .f32 0x3F800000#32)) (addf (broadcastInDim S160x512x512 ![] bcast_S_S160x512x512 (constant S_ .f32 0x3F800000#32)) (Host.exp (Host.negf (through a0 a2 a3)))))) (through a0 a2 a4)

/-- The experts' outputs. -/
def outs : FVec F S160x512x1024 .f32 :=
  Host.dotGeneral (φ₁ := .f32) (φ₂ := .f32) dot_S160x512x512_S160x512x1024_S160x512x1024_2_1_1_2_0_0 none (gated a0 a2 a3 a4) (slabsDown a0 a5)

/-- Whether a row is live. -/
def live : IVec S160x512x1 1 :=
  cmpi .slt (broadcastInDim S160x512x1 ![0, 1, 2] bcast_S1x512x1_S160x512x1_0_1_2 (broadcastInDim S1x512x1 ![1] bcast_S512_S1x512x1_1 (iotaInDim S512 32 0))) (broadcastInDim S160x512x1 ![0, 1, 2] bcast_S160x1x1_S160x512x1_0_1_2 (broadcastInDim S160x1x1 ![0] bcast_S160_S160x1x1_0 a1))

/-- The outputs, zero past the live rows. -/
def kept : FVec F S160x512x1024 .f32 :=
  select (broadcastInDim S160x512x1024 ![0, 1, 2] bcast_S160x512x1_S160x512x1024_0_1_2 (live (F := F) a1)) (outs a0 a2 a3 a4 a5) (broadcastInDim S160x512x1024 ![] bcast_S_S160x512x1024 (id (constant S_ .f32 0x00000000#32)))

/-- The result. -/
def total : FVec F S81920x1024 .bf16 :=
  truncf .bf16 (shapeCast S81920x1024 (kept a0 a1 a2 a3 a4 a5) shapeCasts_S160x512x1024_S81920x1024) bitsLt_bf16_f32

end

section
variable (a0 a1 : Vec Ideal S160 .i32) (a2 : Vec Ideal S81920x512 .i32) (a3 a4 : Vec Ideal S32x1024x512 .bf16) (a5 : Vec Ideal S32x512x1024 .bf16)

/-- The word a half came from. -/
theorem drop_eq (n : Fin 81920) (k : Fin 512) (b : Fin 2) : splits_S81920x512_w32_S81920x512x2_w16.drop (ix3 n k b) = ix2 n k := by
  funext a
  match a with
  | 0 => rfl
  | 1 => rfl

/-- A token's features are its words' halves. -/
theorem rows_apply (n : Fin 81920) (k : Fin 1024) : rows (F := Ideal) a2 (ix2 n k) = feature (fun k => a2 (ix2 n k)) k := by
  unfold feature
  by_cases h : k.val < 512
  · rw [dif_pos h]
    pointwise [rows, halves, lowHalf]
    rw [dif_pos h, drop_eq]
  · rw [dif_neg h]
    pointwise [rows, halves, highHalf]
    rw [dif_neg h, drop_eq]

/-- The same, the token found by its block. -/
theorem blocks_apply (t : Fin 160) (r : Fin 512) (k : Fin 1024) :
    blocks (F := Ideal) a2 (ix3 t r k) = feature (fun k => a2 (ix2 ⟨t.val * 512 + r.val, by omega⟩ k)) k := by
  rw [← rows_apply]
  pointwise [blocks]

/-- A block's expert number is its table word. -/
theorem pick_apply (t : Fin 160) (h : (a0 (ix1 t)).toNat < 32) : pick (F := Ideal) a0 (ix2 t 0) = a0 (ix1 t) := by
  pointwise [pick]
  exact Routing.wrap_of_lt _ _ (by omega)

/-- A small word's clamped signed reading is the word. -/
theorem clamp_eq (v : BitVec 32) (h : v.toNat < 32) : min v.toInt.toNat 31 = v.toNat % 32 := by
  have := BitVec.toInt_eq_toNat_cond v
  split at this <;> omega

/-- A block's slab of a weight array is its expert's, -/
theorem slabs_apply (w : Vec Ideal S32x1024x512 .bf16) (t : Fin 160) (h : (a0 (ix1 t)).toNat < 32) (k : Fin 1024) (f : Fin 512) :
    slabs (F := Ideal) a0 w (ix3 t k f) = w (ix3 (slab (a0 (ix1 t))) k f) := by
  show w (gather_S32x1024x512_S160x1_S160x1024x512_12_0_n_n_0_1_11024512.operandIdx (ix3 t k f) (pick (F := Ideal) a0)) = _
  refine congrArg w (funext fun a => Fin.ext ?_)
  match a with
  | 0 =>
    refine Eq.trans ?_ (clamp_eq _ h)
    rw [← pick_apply a0 t h]
    show min (pick (F := Ideal) a0 (gather_S32x1024x512_S160x1_S160x1024x512_12_0_n_n_0_1_11024512.siIdx (ix3 t k f) ⟨0, Nat.one_pos⟩)).toInt.toNat 31 + 0 + 0 = _
    rw [show gather_S32x1024x512_S160x1_S160x1024x512_12_0_n_n_0_1_11024512.siIdx (ix3 t k f) ⟨0, Nat.one_pos⟩ = ix2 t 0 from
      funext fun b => match b with | 0 => rfl | 1 => rfl]
    rfl
  | 1 => exact (Nat.zero_add _ : 0 + k.val = k.val)
  | 2 => exact (Nat.zero_add _ : 0 + f.val = f.val)

/-- and of the down weights. -/
theorem slabsDown_apply (t : Fin 160) (h : (a0 (ix1 t)).toNat < 32) (k : Fin 512) (f : Fin 1024) :
    slabsDown (F := Ideal) a0 a5 (ix3 t k f) = a5 (ix3 (slab (a0 (ix1 t))) k f) := by
  show a5 (gather_S32x512x1024_S160x1_S160x512x1024_12_0_n_n_0_1_15121024.operandIdx (ix3 t k f) (pick (F := Ideal) a0)) = _
  refine congrArg a5 (funext fun a => Fin.ext ?_)
  match a with
  | 0 =>
    refine Eq.trans ?_ (clamp_eq _ h)
    rw [← pick_apply a0 t h]
    show min (pick (F := Ideal) a0 (gather_S32x512x1024_S160x1_S160x512x1024_12_0_n_n_0_1_15121024.siIdx (ix3 t k f) ⟨0, Nat.one_pos⟩)).toInt.toNat 31 + 0 + 0 = _
    rw [show gather_S32x512x1024_S160x1_S160x512x1024_12_0_n_n_0_1_15121024.siIdx (ix3 t k f) ⟨0, Nat.one_pos⟩ = ix2 t 0 from
      funext fun b => match b with | 0 => rfl | 1 => rfl]
    rfl
  | 1 => exact (Nat.zero_add _ : 0 + k.val = k.val)
  | 2 => exact (Nat.zero_add _ : 0 + f.val = f.val)

/-- A block's rows through its expert's slab. -/
theorem through_apply (w : Vec Ideal S32x1024x512 .bf16) (t : Fin 160) (h : (a0 (ix1 t)).toNat < 32) (r f : Fin 512) :
    through (F := Ideal) a0 a2 w (ix3 t r f)
      = ∑ k, feature (fun k => a2 (ix2 ⟨t.val * 512 + r.val, by omega⟩ k)) k * w (ix3 (slab (a0 (ix1 t))) k f) := by
  unfold through
  pointwise []
  simp only [blocks_apply, slabs_apply a0 w t h]

/-- The gated linear unit at a row and a hidden entry. -/
theorem gated_apply (t : Fin 160) (h : (a0 (ix1 t)).toNat < 32) (r f : Fin 512) :
    gated (F := Ideal) a0 a2 a3 a4 (ix3 t r f)
      = glu (feature fun k => a2 (ix2 ⟨t.val * 512 + r.val, by omega⟩ k)) (fun k f => a3 (ix3 (slab (a0 (ix1 t))) k f))
          (fun k f => a4 (ix3 (slab (a0 (ix1 t))) k f)) f := by
  unfold gated glu
  pointwise []
  simp only [through_apply a0 a2 _ t h]

/-- The expert's output at a row and a feature. -/
theorem outs_apply (t : Fin 160) (h : (a0 (ix1 t)).toNat < 32) (r : Fin 512) (j : Fin 1024) :
    outs (F := Ideal) a0 a2 a3 a4 a5 (ix3 t r j)
      = expert (feature fun k => a2 (ix2 ⟨t.val * 512 + r.val, by omega⟩ k)) (fun k f => a3 (ix3 (slab (a0 (ix1 t))) k f))
          (fun k f => a4 (ix3 (slab (a0 (ix1 t))) k f)) (fun f j => a5 (ix3 (slab (a0 (ix1 t))) f j)) j := by
  unfold outs expert
  pointwise []
  simp only [gated_apply a0 a2 a3 a4 t h, slabsDown_apply a0 a5 t h]

/-- THE REFERENCE'S FORMULA at a row and a feature. -/
theorem total_apply (n : Fin 81920) (t : Fin 160) (r : Fin 512) (hn : n.val = t.val * 512 + r.val) (h : (a0 (ix1 t)).toNat < 32) (j : Fin 1024) :
    total (F := Ideal) a0 a1 a2 a3 a4 a5 (ix2 n j) = answer a0 a1 a2 a3 a4 a5 t r j := by
  have hk : kept (F := Ideal) a0 a1 a2 a3 a4 a5 (ix3 t r j) = answer a0 a1 a2 a3 a4 a5 t r j := by
    unfold answer
    rw [← outs_apply a0 a2 a3 a4 a5 t h]
    unfold kept live
    pointwise []
    rw [choose_live le_rfl]
    refine congrArg (fun z => if (r.val : Int) < (a1 (ix1 t)).toInt then outs (F := Ideal) a0 a2 a3 a4 a5 (ix3 t r j) else z) ?_
    exact Ideal.ofBits_zero_f32
  rw [← hk]
  have et : t = ⟨n.val / 512, by omega⟩ := Fin.ext (by show t.val = n.val / 512; omega)
  have er : r = ⟨n.val % 512, by omega⟩ := Fin.ext (by show r.val = n.val % 512; omega)
  simp only [et, er]
  unfold total
  pointwise []

end

/-- THE REFERENCE'S RESULT at a row and a feature. -/
theorem result_apply (m : (ℓ : Loc nD τ sig) → Buf (Elt Ideal) ℓ) (c : Dev nD) (n : Fin 81920) (t : Fin 160) (r : Fin 512)
    (hn : n.val = t.val * 512 + r.val)
    (h : ((m ((c.tc : Thread nD τ).loc main_arg0) : S160.Idx → BitVec 32) (ix1 t)).toNat < 32) (j : Fin 1024) :
    Value.res_out0 m c (ix2 n j)
      = answer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) t r j :=
  Eq.trans (congrFun (show Value.res_out0 m c = total (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) from rfl) _)
    (total_apply _ _ _ _ _ _ n t r hn h j)

end Cert.Reference3Ideal.Experts
-- ==== Proof.Experts.Claim.lean ====
/- The claims on the experts' call: the frames, under the precondition that every expert named exists, and the value claim. -/
module

public import proofs.«01_k».proof.Defs
public import proofs.«01_k».proof.Proof.Experts.Array
public import proofs.«01_k».proof.Proof.Experts.Ref
public import proofs.«01_k».proof.Proof.Experts.BitsFrame
public import proofs.«01_k».proof.Proof.Experts.BitsNamed
public import proofs.«01_k».proof.Proof.Gen.Pre_experts_exist
public import Idealize.ShloMosaic.Lib.Quiescent

@[expose] public section

set_option maxRecDepth 16384

noncomputable section

namespace Cert.Experts

open Idealize.ShloMosaic Idealize.SL.Sem

/-- The experts' call on bit patterns runs, keeps its arguments and leaves no semaphore raised, where every expert named exists. -/
theorem frame_p : quiescent_Kernel3 (hKernel3 := Cert.Kernel3.Gen.facts) (hPre_experts_exist := Cert.Pre_experts_exist.Gen.facts) := fun m ρ hp =>
  Cert.Experts.Kernel3.quiet m ρ (Cert.Experts.Kernel3.named_of m fun i => Cert.Experts.Kernel3.word_lt m (hp 0) i)

/-- So does the experts' call on extended reals. -/
theorem frame_pi : quiescent_Kernel3Ideal (hKernel3Ideal := Cert.Kernel3Ideal.Gen.facts) (hPre_experts_exist := Cert.Pre_experts_exist.Gen.facts) := fun m ρ hp =>
  Cert.Experts.Kernel3Ideal.quiet m ρ (Cert.Experts.Kernel3Ideal.named_of m fun i => Cert.Experts.Kernel3Ideal.word_lt m (hp 0) i)

/-- The reference of the experts runs, keeps its arguments and leaves no semaphore raised, whatever its arguments are. -/
theorem frame_ri : quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- In particular where every expert named exists. -/
theorem frame_ri_pre : quiescent_Reference3Ideal_pre_experts_exist (hReference3Ideal := Cert.Reference3Ideal.Gen.facts)
    (hPre_experts_exist := Cert.Pre_experts_exist.Gen.facts) := fun m ρ _ => frame_ri m ρ trivial

/-- The word that a row block's expert is read from is below 32. -/
theorem row_expert (m : (ℓ : Loc Cert.Kernel3Ideal.nD Cert.Kernel3Ideal.τ Cert.Kernel3Ideal.sig) → Buf (Elt Ideal) ℓ)
    (hlt : ∀ i, (Cert.Experts.Kernel3Ideal.expertWord m i).toNat < 32) (h : Cert.Experts.Kernel3Ideal.Named m) (c : Dev Cert.Kernel3Ideal.nD) (t : Fin 160) :
    ((m ((c.tc : Thread Cert.Kernel3Ideal.nD Cert.Kernel3Ideal.τ).loc Cert.Kernel3Ideal.main_arg0) : Cert.Kernel3Ideal.S160.Idx → BitVec 32) (ix1 t)).toNat < 32 := by
  have hN : (Cert.Experts.Kernel3Ideal.pipe m h).N = 160 := (by decide +kernel : Cert.Kernel3Ideal.grid0.N = 160)
  have e := Cert.Experts.Kernel3Ideal.expertWord_eq m h c ⟨t.val, by omega⟩
  have := hlt (Cert.Kernel3Ideal.grid0.coords ⟨t.val, (by omega : t.val < (Cert.Experts.Kernel3Ideal.pipe m h).N)⟩)
  rw [e] at this
  exact this

/-- THE VALUE CLAIM ON THE EXPERTS: where every expert named exists, both programs leave, at every row and feature, the row through its
    block's expert where the row is live and zero where it is not (`answer`). -/
theorem algebraic : algebraic_Kernel3Ideal_Reference3Ideal (hKernel3Ideal := Cert.Kernel3Ideal.Gen.facts)
    (hReference3Ideal := Cert.Reference3Ideal.Gen.facts) (hPre_experts_exist := Cert.Pre_experts_exist.Gen.facts) := by
  intro m g m' g' hp hargs
  have hlt : ∀ i, (Cert.Experts.Kernel3Ideal.expertWord m i).toNat < 32 := fun i => Cert.Experts.Kernel3Ideal.word_lt m (hp 0) i
  have h := Cert.Experts.Kernel3Ideal.named_of m hlt
  refine ⟨fun c => Cert.Experts.Kernel3Ideal.result m h c, Cert.Experts.Kernel3Ideal.run_named m g h, ?_⟩
  refine (θ_run _ _ _).mono (fun r hr c => ?_) (Cert.Reference3Ideal.Value.run m' g')
  obtain ⟨h0, hk⟩ := hr c
  refine ⟨h0.trans (funext fun (y : Cert.Kernel3Ideal.S81920x1024.Idx) => ?_), hk⟩
  obtain ⟨n, j, rfl⟩ : ∃ (n : Fin 81920) (j : Fin 1024), y = ix2 n j := ⟨y 0, y 1, eq_ix2 y⟩
  have ht : n.val / 512 < 160 := by omega
  have hr' : n.val % 512 < 512 := Nat.mod_lt _ (by decide)
  have hn : n.val = n.val / 512 * 512 + n.val % 512 := by omega
  obtain ⟨e0, e1, e2, e3, e4, e5⟩ := hargs c
  have hw := row_expert m hlt h c ⟨n.val / 512, ht⟩
  rw [← e0] at hw
  refine (Cert.Reference3Ideal.Experts.result_apply m' c n ⟨n.val / 512, ht⟩ ⟨n.val % 512, hr'⟩ hn hw j).trans
    (Eq.trans ?_ (Cert.Experts.Kernel3Ideal.result_apply m h c hlt n ⟨n.val / 512, ht⟩ ⟨n.val % 512, hr'⟩ hn j).symm)
  rw [e0, e1, e2, e3, e4, e5]
  rfl

end Cert.Experts

end
-- ==== Proof.Final.Formula.lean ====
module

public import proofs.«01_k».proof.Proof.Experts.Formula

/-! # What the last call computes of a token, as a formula over the extended reals

A token's normed hidden row, scaled, plus its two experts' output rows under the router's weights, then a layer norm. -/

@[expose] public section

noncomputable section

namespace Cert.Final

open Idealize.ShloMosaic Cert.Experts

/-- The residual stream before its layer norm: the scaled hidden row plus the two experts' rows under their weights. -/
def stream (x : Fin 1024 → EReal) (ya yb : Fin 512 → BitVec 32) (wa wb : EReal) (j : Fin 1024) : EReal :=
  Ideal.ofBits .f32 0x3F9837F0#32 * x j + (feature ya j * wa + feature yb j * wb)

/-- The mean of a row. -/
def mean (f : Fin 1024 → EReal) : EReal := Ideal.div (∑ k, f k) (Ideal.ofBits .f32 0x44800000#32)

/-- A row less its mean. -/
def centred (f : Fin 1024 → EReal) (j : Fin 1024) : EReal := f j - mean f

/-- The layer norm of a row. -/
def layerNorm (f g b : Fin 1024 → EReal) (j : Fin 1024) : EReal :=
  centred f j * Ideal.rsqrt (mean (fun k => centred f k * centred f k) + Ideal.ofBits .f32 0x3727C5AC#32) * g j + b j

/-- THE LAST CALL at the token `n` of a part: its two experts' rows are rows `n` and `32768 + n` of the gathered ones, its two weights
    stand in rows 2 and 3 of the routing information. -/
def answer (x : (⟨2, ![32768, 1024]⟩ : Shape).Idx → EReal) (y : (⟨2, ![65536, 512]⟩ : Shape).Idx → BitVec 32) (w : (⟨2, ![8, 32768]⟩ : Shape).Idx → EReal)
    (g b : (⟨2, ![1, 1024]⟩ : Shape).Idx → EReal) (n : Fin 32768) (j : Fin 1024) : EReal :=
  layerNorm (stream (fun k => x (ix2 n k)) (fun k => y (ix2 ⟨n.val, by omega⟩ k)) (fun k => y (ix2 ⟨32768 + n.val, by omega⟩ k)) (w (ix2 2 n)) (w (ix2 3 n)))
    (fun k => g (ix2 0 k)) (fun k => b (ix2 0 k)) j

end Cert.Final

end
-- ==== Proof.Final.Block.lean ====
module

public import proofs.«01_k».proof.Proof.Gen.Kernel4Ideal.Frame
public import proofs.«01_k».proof.Proof.Final.Formula
public import Idealize.ShloMosaic.Lib.Pipeline.ValueKit.Basic
public import Idealize.ShloMosaic.Lib.Pipeline.ValueKit.Tiles
public import Idealize.ShloMosaic.Lib.Pointwise

/-! # What one grid point of the last call leaves, at a row and a feature: the same in both parts -/

@[expose] public section

set_option maxRecDepth 16384

noncomputable section

namespace Cert.Final.Kernel4Ideal

open Cert.Kernel4Ideal Cert.Kernel4Ideal.Gen Cert.Final Cert.Experts
open Idealize.ShloMosaic Idealize.ShloMosaic.TcCoe

section
variable (x0 : Vec Ideal S1024x1024 .f32) (x1 x2 : Vec Ideal S1024x512 .i32) (x3 : Vec Ideal S8x1024 .f32) (x4 x5 : Vec Ideal S1x1024 .f32)

/-- The 1024 rows a grid point leaves, from the blocks it reads. -/
def left : Vec Ideal S1024x1024 .f32 :=
  k0_pay1 (k0_pay2 x3 x1 x2 x1 x2) x0 (Scalar.ofBits .f32 0x3F9837F0#32) x4 x5

/-- The residual stream of a block's row. -/
def rowStream (r : Fin 1024) : Fin 1024 → EReal :=
  stream (fun k => x0 (ix2 r k)) (fun k => x1 (ix2 r k)) (fun k => x2 (ix2 r k)) (x3 (ix2 2 r)) (x3 (ix2 3 r))

/-- The two experts' rows under their weights. -/
theorem mixed_apply (r : Fin 1024) (k : Fin 1024) :
    k0_pay2 x3 x1 x2 x1 x2 (ix2 r k) = feature (fun k => x1 (ix2 r k)) k * x3 (ix2 2 r) + feature (fun k => x2 (ix2 r k)) k * x3 (ix2 3 r) := by
  unfold feature
  by_cases h : k.val < 512
  · rw [dif_pos h, dif_pos h, ← low_moved, ← low_moved]
    pointwise [k0_pay2]
    rw [dif_pos h]
    rfl
  · rw [dif_neg h, dif_neg h, ← high_kept, ← high_kept]
    pointwise [k0_pay2]
    rw [dif_neg h]
    rfl

/-- A row of what a grid point leaves is its stream, normed. -/
theorem left_apply (r : Fin 1024) (j : Fin 1024) :
    left x0 x1 x2 x3 x4 x5 (ix2 r j) = layerNorm (rowStream x0 x1 x2 x3 r) (fun k => x4 (ix2 0 k)) (fun k => x5 (ix2 0 k)) j := by
  unfold left
  have hm := mixed_apply x1 x2 x3
  generalize k0_pay2 x3 x1 x2 x1 x2 = y at hm ⊢
  pointwise [k0_pay1]
  simp only [hm]
  rfl

/-- A row's stream, normed, is the call's formula at its token, once the blocks are those of the arrays. -/
theorem left_answer (x : S32768x1024.Idx → EReal) (y : S65536x512.Idx → BitVec 32) (w : S8x32768.Idx → EReal) (g b : S1x1024.Idx → EReal)
    (n : Fin 32768) (r j : Fin 1024) (h0 : ∀ k, x0 (ix2 r k) = x (ix2 n k)) (h1 : ∀ k, x1 (ix2 r k) = y (ix2 ⟨n.val, by omega⟩ k))
    (h2 : ∀ k, x2 (ix2 r k) = y (ix2 ⟨32768 + n.val, by omega⟩ k)) (h3 : ∀ q, x3 (ix2 q r) = w (ix2 q n))
    (h4 : ∀ k, x4 (ix2 0 k) = g (ix2 0 k)) (h5 : ∀ k, x5 (ix2 0 k) = b (ix2 0 k)) :
    layerNorm (rowStream x0 x1 x2 x3 r) (fun k => x4 (ix2 0 k)) (fun k => x5 (ix2 0 k)) j = Cert.Final.answer x y w g b n j := by
  unfold rowStream Cert.Final.answer
  simp only [h0, h1, h2, h3, h4, h5]

/-- What the first part's grid point leaves. -/
theorem first_apply : out0_6 x0 x1 x2 x3 x4 x5 = left x0 x1 x2 x3 x4 x5 := by
  unfold out0_6
  rw [View.canon_cons_unit_lit _ _ _ (by decide)]
  rw [View.ld_unit_lit _ _ (by decide), View.ld_unit_lit _ _ (by decide), View.ld_unit_lit _ _ (by decide), View.ld_unit_lit _ _ (by decide),
    View.ld_unit_lit _ _ (by decide), View.ld_unit_lit _ _ (by decide)]
  rfl

section
variable (c : Dev nD) (i : grid1.Coords) (arg1 : Memref sig .tc .vmem S1024x1024 .f32) (harg1 : arg1.IsWhole) (arg2 : Memref sig .tc .vmem S1024x512 .i32) (harg2 : arg2.IsWhole)
  (arg3 : Memref sig .tc .vmem S1024x512 .i32) (harg3 : arg3.IsWhole) (arg4 : Memref sig .tc .vmem S8x1024 .f32) (harg4 : arg4.IsWhole)
  (arg5 : Memref sig .tc .vmem S1x1024 .f32) (harg5 : arg5.IsWhole) (arg6 : Memref sig .tc .vmem S1x1024 .f32) (harg6 : arg6.IsWhole)
  (arg8 : Memref sig .tc .vmem S1024x1024 .f32) (harg8 : arg8.IsWhole)

/-- What the second part's grid point stores, as its one piece. -/
theorem second_pieces :
    (kernelRun1_A (F := Ideal) c i arg1 harg1 arg2 harg2 arg3 harg3 arg4 harg4 arg5 harg5 arg6 harg6 arg8 harg8 x0 x1 x2 x3 x4 x5).1
      = [⟨r0_2, left (arg1.view.readAt (Elt Ideal) r0_2.toLoadRect (harg1.unread x0)) (arg2.view.readAt (Elt Ideal) r0_1.toLoadRect (harg2.unread x1))
          (arg3.view.readAt (Elt Ideal) r0_1.toLoadRect (harg3.unread x2)) (arg4.view.readAt (Elt Ideal) r0_0.toLoadRect (harg4.unread x3))
          (arg5.view.readAt (Elt Ideal) r0_3.toLoadRect (harg5.unread x4)) (arg6.view.readAt (Elt Ideal) r0_3.toLoadRect (harg6.unread x5))⟩] := rfl

/-- A whole buffer read whole is what it holds. -/
theorem readWhole2 {a b : Nat} {e : EltTy} (arg : Memref sig .tc .vmem (⟨2, ![a, b]⟩ : Shape) e) (harg : arg.IsWhole) (x : Vec Ideal (⟨2, ![a, b]⟩ : Shape) e)
    (h : ∀ d, (![0, 0] : Fin 2 → Nat) d + (⟨2, ![a, b]⟩ : Shape).size d ≤ (⟨2, ![a, b]⟩ : Shape).size d) :
    arg.view.readAt (Elt Ideal) (Rect.unit (s := ⟨2, ![a, b]⟩) ![0, 0] (⟨2, ![a, b]⟩ : Shape).size h).toLoadRect (harg.unread x) = x := by
  funext y
  rw [View.readAt_apply, harg.read_unread]
  refine congrArg x (funext fun d => Fin.ext ?_)
  match d with
  | ⟨0, _⟩ => show 0 + 1 * (y 0).val = (y 0).val; omega
  | ⟨1, _⟩ => show 0 + 1 * (y 1).val = (y 1).val; omega

/-- What the second part's grid point leaves. -/
theorem second_apply :
    out1_A_6 (F := Ideal) c i arg1 harg1 arg2 harg2 arg3 harg3 arg4 harg4 arg5 harg5 arg6 harg6 arg8 harg8 x0 x1 x2 x3 x4 x5 = left x0 x1 x2 x3 x4 x5 := by
  unfold out1_A_6
  rw [second_pieces, View.read_writes_eq_canon _ _ _ (cover0_6 _), View.canon_cons_unit_lit _ _ _ (by decide),
    readWhole2 arg1 harg1, readWhole2 arg2 harg2, readWhole2 arg3 harg3, readWhole2 arg4 harg4, readWhole2 arg5 harg5, readWhole2 arg6 harg6]

end
end

end Cert.Final.Kernel4Ideal

end
-- ==== Proof.Final.First.lean ====
module

public import proofs.«01_k».proof.Proof.Final.Block

/-! # The first part's array after its run, at a token and a feature, from what the part finds -/

@[expose] public section

set_option maxRecDepth 16384

noncomputable section

namespace Cert.Final.Kernel4Ideal.First

open Cert.Kernel4Ideal Cert.Kernel4Ideal.Gen Cert.Final
open Idealize.ShloMosaic Idealize.ShloMosaic.TcCoe

/-! Which block of its array each window reads or writes at a grid point. -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = t.val ∧ win0_1.index t (1 : Fin 2) = 0 := (by decide +kernel : ∀ t : Fin grid0.N, _)
theorem idx2 : ∀ t : Fin cfg0.N, win0_2.index t (0 : Fin 2) = 32 + t.val ∧ win0_2.index t (1 : Fin 2) = 0 := (by decide +kernel : ∀ t : Fin grid0.N, _)
theorem idx3 : ∀ t : Fin cfg0.N, win0_3.index t (0 : Fin 2) = 0 ∧ win0_3.index t (1 : Fin 2) = t.val := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem points : cfg0.N = 32 := (by decide +kernel : grid0.N = 32)
theorem t_lt (t : Fin cfg0.N) : t.val < 32 := t.isLt.trans_eq points

/-- The token of a grid point's row. -/
def token (t : Fin cfg0.N) (r : Fin 1024) : Fin 32768 := ⟨t.val * 1024 + r.val, by have := t_lt t; omega⟩

theorem emb0 (t : Fin cfg0.N) (r k : Fin 1024) : ((cfg0.win 0).blk t).view.emb (ix2 r k) = ix2 (token t r) k := by
  obtain ⟨e0, e1⟩ := idx0 t
  funext a; apply Fin.ext
  match a with
  | ⟨0, _⟩ => show win0_0.index t (0 : Fin 2) * 1024 + 1 * r.val = t.val * 1024 + r.val; omega
  | ⟨1, _⟩ => show win0_0.index t (1 : Fin 2) * 1024 + 1 * k.val = k.val; omega
theorem emb1 (t : Fin cfg0.N) (r : Fin 1024) (k : Fin 512) :
    ((cfg0.win 1).blk t).view.emb (ix2 r k) = ix2 (⟨(token t r).val, by omega⟩ : Fin 65536) k := by
  obtain ⟨e0, e1⟩ := idx1 t
  funext a; apply Fin.ext
  match a with
  | ⟨0, _⟩ => show win0_1.index t (0 : Fin 2) * 1024 + 1 * r.val = t.val * 1024 + r.val; omega
  | ⟨1, _⟩ => show win0_1.index t (1 : Fin 2) * 512 + 1 * k.val = k.val; omega
theorem emb2 (t : Fin cfg0.N) (r : Fin 1024) (k : Fin 512) :
    ((cfg0.win 2).blk t).view.emb (ix2 r k) = ix2 (⟨32768 + (token t r).val, by omega⟩ : Fin 65536) k := by
  obtain ⟨e0, e1⟩ := idx2 t
  funext a; apply Fin.ext
  match a with
  | ⟨0, _⟩ => show win0_2.index t (0 : Fin 2) * 1024 + 1 * r.val = 32768 + (t.val * 1024 + r.val); omega
  | ⟨1, _⟩ => show win0_2.index t (1 : Fin 2) * 512 + 1 * k.val = k.val; omega
theorem emb3 (t : Fin cfg0.N) (q : Fin 8) (r : Fin 1024) : ((cfg0.win 3).blk t).view.emb (ix2 q r) = ix2 q (token t r) := by
  obtain ⟨e0, e1⟩ := idx3 t
  funext a; apply Fin.ext
  match a with
  | ⟨0, _⟩ => show win0_3.index t (0 : Fin 2) * 8 + 1 * q.val = q.val; omega
  | ⟨1, _⟩ => show win0_3.index t (1 : Fin 2) * 1024 + 1 * r.val = t.val * 1024 + r.val; omega
theorem emb4 (t : Fin cfg0.N) (q : Fin 1) (k : Fin 1024) : ((cfg0.win 4).blk t).view.emb (ix2 q k) = ix2 q k := by
  obtain ⟨e0, e1⟩ := idx4 t
  funext a; apply Fin.ext
  match a with
  | ⟨0, _⟩ => show win0_4.index t (0 : Fin 2) * 1 + 1 * q.val = q.val; omega
  | ⟨1, _⟩ => show win0_4.index t (1 : Fin 2) * 1024 + 1 * k.val = k.val; omega
theorem emb5 (t : Fin cfg0.N) (q : Fin 1) (k : Fin 1024) : ((cfg0.win 5).blk t).view.emb (ix2 q k) = ix2 q k := by
  obtain ⟨e0, e1⟩ := idx5 t
  funext a; apply Fin.ext
  match a with
  | ⟨0, _⟩ => show win0_5.index t (0 : Fin 2) * 1 + 1 * q.val = q.val; omega
  | ⟨1, _⟩ => show win0_5.index t (1 : Fin 2) * 1024 + 1 * k.val = k.val; omega
theorem emb6 (t : Fin cfg0.N) (r j : Fin 1024) :
    ((cfg0.win 6).blk t).view.emb (ix2 r j) = ix2 (⟨(token t r).val, by omega⟩ : Fin 65536) j := by
  obtain ⟨e0, e1⟩ := idx6 t
  funext a; apply Fin.ext
  match a with
  | ⟨0, _⟩ => show win0_6.index t (0 : Fin 2) * 1024 + 1 * r.val = (t.val * 1024 + r.val); omega
  | ⟨1, _⟩ => show win0_6.index t (1 : Fin 2) * 1024 + 1 * j.val = j.val; omega

variable (V : (c : Dev nD) → (b : Ref sig .tc) → Buf (Elt Ideal) ((c : Thread nD τ).loc b)) (c : Dev nD)

/-! Each fetched block at an index. -/

theorem block0_apply (t : Fin cfg0.N) (r k : Fin 1024) : (iblk0 V c 0 t : Vec Ideal S1024x1024 .f32) (ix2 r k) = (V c main_arg0 : S32768x1024.Idx → EReal) (ix2 (token t r) k) :=
  congrArg (V c main_arg0) (emb0 t r k)
theorem block1_apply (t : Fin cfg0.N) (r : Fin 1024) (k : Fin 512) :
    (iblk0 V c 1 t : Vec Ideal S1024x512 .i32) (ix2 r k) = (V c main_arg1 : S65536x512.Idx → BitVec 32) (ix2 ⟨(token t r).val, by omega⟩ k) :=
  congrArg (V c main_arg1) (emb1 t r k)
theorem block2_apply (t : Fin cfg0.N) (r : Fin 1024) (k : Fin 512) :
    (iblk0 V c 2 t : Vec Ideal S1024x512 .i32) (ix2 r k) = (V c main_arg1 : S65536x512.Idx → BitVec 32) (ix2 ⟨32768 + (token t r).val, by omega⟩ k) :=
  congrArg (V c main_arg1) (emb2 t r k)
theorem block3_apply (t : Fin cfg0.N) (q : Fin 8) (r : Fin 1024) : (iblk0 V c 3 t : Vec Ideal S8x1024 .f32) (ix2 q r) = (V c main_arg2 : S8x32768.Idx → EReal) (ix2 q (token t r)) :=
  congrArg (V c main_arg2) (emb3 t q r)
theorem block4_apply (t : Fin cfg0.N) (k : Fin 1024) : (iblk0 V c 4 t : Vec Ideal S1x1024 .f32) (ix2 0 k) = (V c main_v1 : S1x1024.Idx → EReal) (ix2 0 k) :=
  congrArg (V c main_v1) (emb4 t 0 k)
theorem block5_apply (t : Fin cfg0.N) (k : Fin 1024) : (iblk0 V c 5 t : Vec Ideal S1x1024 .f32) (ix2 0 k) = (V c main_v3 : S1x1024.Idx → EReal) (ix2 0 k) :=
  congrArg (V c main_v3) (emb5 t 0 k)

/-- What a grid point leaves, at a row and a feature. -/
theorem leaves (t : Fin cfg0.N) (r j : Fin 1024) :
    left (iblk0 V c 0 t) (iblk0 V c 1 t) (iblk0 V c 2 t) (iblk0 V c 3 t) (iblk0 V c 4 t) (iblk0 V c 5 t) (ix2 r j)
      = answer (V c main_arg0) (V c main_arg1) (V c main_arg2) (V c main_v1) (V c main_v3) (token t r) j :=
  (left_apply _ _ _ _ _ _ r j).trans (left_answer _ _ _ _ _ _ _ _ _ _ _ (token t r) r j (block0_apply V c t r) (block1_apply V c t r) (block2_apply V c t r)
    (fun q => block3_apply V c t q r) (block4_apply V c t) (block5_apply V c t))

/-! The write-backs: every grid point's, to blocks of their own. -/

theorem idx_inj (t t' : Fin cfg0.N) (e : (cfg0.win 6).index t = (cfg0.win 6).index t') : t = t' := by
  have h : win0_6.index t (0 : Fin 2) = win0_6.index t' (0 : Fin 2) := congrFun e (0 : Fin 2)
  rw [(idx6 t).1, (idx6 t').1] at h
  exact Fin.ext (by omega)

theorem disjoint : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun e => hne (idx_inj t t' e)

theorem flushed6 (t : Fin cfg0.N) : (dat0 V c).flushed 6 t
    = (cfg0.win 6).cut (grid0.coords t) (left (iblk0 V c 0 t) (iblk0 V c 1 t) (iblk0 V c 2 t) (iblk0 V c 3 t) (iblk0 V c 4 t) (iblk0 V c 5 t)) := by
  show (cfg0.win 6).cut (grid0.coords t) ((dat0 V c).after 6 t) = _
  rw [after0_6]
  rw [first_apply]

theorem blocks6 (t : Fin cfg0.N) : ((cfg0.win 6).blk t).view.read (Elt Ideal) ((dat0 V c).arrAt 6 cfg0.N) = (dat0 V c).flushed 6 t :=
  (dat0 V c).read_blk_arrAt_eq_flushed 6 disjoint cfg0.N t t.isLt (flush0_6 t)

/-- An array whose blocks are given, at an index of a block. -/
theorem at_block (t : Fin cfg0.N) (A : Buf (Elt Ideal) ((c : Thread nD τ).loc main_v4)) (f : Vec Ideal S1024x1024 .f32)
    (e : ((cfg0.win 6).blk t).view.read (Elt Ideal) A = (cfg0.win 6).cut (grid0.coords t) f) (r j : Fin 1024) :
    (A : S65536x1024.Idx → EReal) (ix2 ⟨(token t r).val, by omega⟩ j) = f (ix2 r j) := by
  have q : A (((cfg0.win 6).blk t).view.emb (ix2 r j)) = f (ix2 r j) :=
    ((show (((cfg0.win 6).blk t).view.read (Elt Ideal) A : Vec Ideal S1024x1024 .f32) (ix2 r j) = A (((cfg0.win 6).blk t).view.emb (ix2 r j)) from rfl).symm.trans
      (congrFun e (ix2 r j))).trans (show (cfg0.win 6).cut (grid0.coords t) f (ix2 r j) = f (ix2 r j) from rfl)
  rw [emb6] at q
  exact q

/-- A token is a row of a grid point's block. -/
theorem token_surj (n : Fin 32768) : ∃ (t : Fin cfg0.N) (r : Fin 1024), n = token t r := by
  have hN := points
  exact ⟨⟨n.val / 1024, by omega⟩, ⟨n.val % 1024, by omega⟩, Fin.ext (by show n.val = n.val / 1024 * 1024 + n.val % 1024; omega)⟩

/-- THE PART'S ROWS OF THE ARRAY after the run. -/
theorem array_apply (A : Buf (Elt Ideal) ((c : Thread nD τ).loc main_v4)) (hA : A = (dat0 V c).arrAt 6 cfg0.N) (n : Fin 32768) (j : Fin 1024) :
    (A : S65536x1024.Idx → EReal) (ix2 ⟨n.val, by omega⟩ j)
      = answer (V c main_arg0) (V c main_arg1) (V c main_arg2) (V c main_v1) (V c main_v3) n j := by
  obtain ⟨t, r, rfl⟩ := token_surj n
  exact (at_block c t A _ ((congrArg (((cfg0.win 6).blk t).view.read (Elt Ideal)) hA).trans ((blocks6 V c t).trans (flushed6 V c t))) r j).trans (leaves V c t r j)

end Cert.Final.Kernel4Ideal.First

end
-- ==== Proof.Final.Second.lean ====
module

public import proofs.«01_k».proof.Proof.Final.Block

/-! # The second part's array after its run, at a token and a feature, from what the part finds -/

@[expose] public section

set_option maxRecDepth 16384

noncomputable section

namespace Cert.Final.Kernel4Ideal.Second

open Cert.Kernel4Ideal Cert.Kernel4Ideal.Gen Cert.Final
open Idealize.ShloMosaic Idealize.ShloMosaic.TcCoe

/-! Which block of its array each window reads or writes at a grid point. -/

theorem idx0 : ∀ t : Fin cfg1.N, win1_0.index t (0 : Fin 2) = t.val ∧ win1_0.index t (1 : Fin 2) = 0 := (by decide +kernel : ∀ t : Fin grid1.N, _)
theorem idx1 : ∀ t : Fin cfg1.N, win1_1.index t (0 : Fin 2) = t.val ∧ win1_1.index t (1 : Fin 2) = 0 := (by decide +kernel : ∀ t : Fin grid1.N, _)
theorem idx2 : ∀ t : Fin cfg1.N, win1_2.index t (0 : Fin 2) = 32 + t.val ∧ win1_2.index t (1 : Fin 2) = 0 := (by decide +kernel : ∀ t : Fin grid1.N, _)
theorem idx3 : ∀ t : Fin cfg1.N, win1_3.index t (0 : Fin 2) = 0 ∧ win1_3.index t (1 : Fin 2) = t.val := (by decide +kernel : ∀ t : Fin grid1.N, _)
theorem idx4 : ∀ t : Fin cfg1.N, win1_4.index t (0 : Fin 2) = 0 ∧ win1_4.index t (1 : Fin 2) = 0 := (by decide +kernel : ∀ t : Fin grid1.N, _)
theorem idx5 : ∀ t : Fin cfg1.N, win1_5.index t (0 : Fin 2) = 0 ∧ win1_5.index t (1 : Fin 2) = 0 := (by decide +kernel : ∀ t : Fin grid1.N, _)
theorem idx6 : ∀ t : Fin cfg1.N, win1_6.index t (0 : Fin 2) = 32 + t.val ∧ win1_6.index t (1 : Fin 2) = 0 := (by decide +kernel : ∀ t : Fin grid1.N, _)

theorem points : cfg1.N = 32 := (by decide +kernel : grid1.N = 32)
theorem t_lt (t : Fin cfg1.N) : t.val < 32 := t.isLt.trans_eq points

/-- The token of a grid point's row. -/
def token (t : Fin cfg1.N) (r : Fin 1024) : Fin 32768 := ⟨t.val * 1024 + r.val, by have := t_lt t; omega⟩

theorem emb0 (t : Fin cfg1.N) (r k : Fin 1024) : ((cfg1.win 0).blk t).view.emb (ix2 r k) = ix2 (token t r) k := by
  obtain ⟨e0, e1⟩ := idx0 t
  funext a; apply Fin.ext
  match a with
  | ⟨0, _⟩ => show win1_0.index t (0 : Fin 2) * 1024 + 1 * r.val = t.val * 1024 + r.val; omega
  | ⟨1, _⟩ => show win1_0.index t (1 : Fin 2) * 1024 + 1 * k.val = k.val; omega
theorem emb1 (t : Fin cfg1.N) (r : Fin 1024) (k : Fin 512) :
    ((cfg1.win 1).blk t).view.emb (ix2 r k) = ix2 (⟨(token t r).val, by omega⟩ : Fin 65536) k := by
  obtain ⟨e0, e1⟩ := idx1 t
  funext a; apply Fin.ext
  match a with
  | ⟨0, _⟩ => show win1_1.index t (0 : Fin 2) * 1024 + 1 * r.val = t.val * 1024 + r.val; omega
  | ⟨1, _⟩ => show win1_1.index t (1 : Fin 2) * 512 + 1 * k.val = k.val; omega
theorem emb2 (t : Fin cfg1.N) (r : Fin 1024) (k : Fin 512) :
    ((cfg1.win 2).blk t).view.emb (ix2 r k) = ix2 (⟨32768 + (token t r).val, by omega⟩ : Fin 65536) k := by
  obtain ⟨e0, e1⟩ := idx2 t
  funext a; apply Fin.ext
  match a with
  | ⟨0, _⟩ => show win1_2.index t (0 : Fin 2) * 1024 + 1 * r.val = 32768 + (t.val * 1024 + r.val); omega
  | ⟨1, _⟩ => show win1_2.index t (1 : Fin 2) * 512 + 1 * k.val = k.val; omega
theorem emb3 (t : Fin cfg1.N) (q : Fin 8) (r : Fin 1024) : ((cfg1.win 3).blk t).view.emb (ix2 q r) = ix2 q (token t r) := by
  obtain ⟨e0, e1⟩ := idx3 t
  funext a; apply Fin.ext
  match a with
  | ⟨0, _⟩ => show win1_3.index t (0 : Fin 2) * 8 + 1 * q.val = q.val; omega
  | ⟨1, _⟩ => show win1_3.index t (1 : Fin 2) * 1024 + 1 * r.val = t.val * 1024 + r.val; omega
theorem emb4 (t : Fin cfg1.N) (q : Fin 1) (k : Fin 1024) : ((cfg1.win 4).blk t).view.emb (ix2 q k) = ix2 q k := by
  obtain ⟨e0, e1⟩ := idx4 t
  funext a; apply Fin.ext
  match a with
  | ⟨0, _⟩ => show win1_4.index t (0 : Fin 2) * 1 + 1 * q.val = q.val; omega
  | ⟨1, _⟩ => show win1_4.index t (1 : Fin 2) * 1024 + 1 * k.val = k.val; omega
theorem emb5 (t : Fin cfg1.N) (q : Fin 1) (k : Fin 1024) : ((cfg1.win 5).blk t).view.emb (ix2 q k) = ix2 q k := by
  obtain ⟨e0, e1⟩ := idx5 t
  funext a; apply Fin.ext
  match a with
  | ⟨0, _⟩ => show win1_5.index t (0 : Fin 2) * 1 + 1 * q.val = q.val; omega
  | ⟨1, _⟩ => show win1_5.index t (1 : Fin 2) * 1024 + 1 * k.val = k.val; omega
theorem emb6 (t : Fin cfg1.N) (r j : Fin 1024) :
    ((cfg1.win 6).blk t).view.emb (ix2 r j) = ix2 (⟨32768 + (token t r).val, by omega⟩ : Fin 65536) j := by
  obtain ⟨e0, e1⟩ := idx6 t
  funext a; apply Fin.ext
  match a with
  | ⟨0, _⟩ => show win1_6.index t (0 : Fin 2) * 1024 + 1 * r.val = 32768 + (t.val * 1024 + r.val); omega
  | ⟨1, _⟩ => show win1_6.index t (1 : Fin 2) * 1024 + 1 * j.val = j.val; omega

variable (V : (c : Dev nD) → (b : Ref sig .tc) → Buf (Elt Ideal) ((c : Thread nD τ).loc b)) (c : Dev nD)

/-! Each fetched block at an index. -/

theorem block0_apply (t : Fin cfg1.N) (r k : Fin 1024) : (iblk1 V c 0 t : Vec Ideal S1024x1024 .f32) (ix2 r k) = (V c main_arg3 : S32768x1024.Idx → EReal) (ix2 (token t r) k) :=
  congrArg (V c main_arg3) (emb0 t r k)
theorem block1_apply (t : Fin cfg1.N) (r : Fin 1024) (k : Fin 512) :
    (iblk1 V c 1 t : Vec Ideal S1024x512 .i32) (ix2 r k) = (V c main_arg4 : S65536x512.Idx → BitVec 32) (ix2 ⟨(token t r).val, by omega⟩ k) :=
  congrArg (V c main_arg4) (emb1 t r k)
theorem block2_apply (t : Fin cfg1.N) (r : Fin 1024) (k : Fin 512) :
    (iblk1 V c 2 t : Vec Ideal S1024x512 .i32) (ix2 r k) = (V c main_arg4 : S65536x512.Idx → BitVec 32) (ix2 ⟨32768 + (token t r).val, by omega⟩ k) :=
  congrArg (V c main_arg4) (emb2 t r k)
theorem block3_apply (t : Fin cfg1.N) (q : Fin 8) (r : Fin 1024) : (iblk1 V c 3 t : Vec Ideal S8x1024 .f32) (ix2 q r) = (V c main_arg5 : S8x32768.Idx → EReal) (ix2 q (token t r)) :=
  congrArg (V c main_arg5) (emb3 t q r)
theorem block4_apply (t : Fin cfg1.N) (k : Fin 1024) : (iblk1 V c 4 t : Vec Ideal S1x1024 .f32) (ix2 0 k) = (V c main_v1 : S1x1024.Idx → EReal) (ix2 0 k) :=
  congrArg (V c main_v1) (emb4 t 0 k)
theorem block5_apply (t : Fin cfg1.N) (k : Fin 1024) : (iblk1 V c 5 t : Vec Ideal S1x1024 .f32) (ix2 0 k) = (V c main_v3 : S1x1024.Idx → EReal) (ix2 0 k) :=
  congrArg (V c main_v3) (emb5 t 0 k)

/-- What a grid point leaves, at a row and a feature. -/
theorem leaves (t : Fin cfg1.N) (r j : Fin 1024) :
    left (iblk1 V c 0 t) (iblk1 V c 1 t) (iblk1 V c 2 t) (iblk1 V c 3 t) (iblk1 V c 4 t) (iblk1 V c 5 t) (ix2 r j)
      = answer (V c main_arg3) (V c main_arg4) (V c main_arg5) (V c main_v1) (V c main_v3) (token t r) j :=
  (left_apply _ _ _ _ _ _ r j).trans (left_answer _ _ _ _ _ _ _ _ _ _ _ (token t r) r j (block0_apply V c t r) (block1_apply V c t r) (block2_apply V c t r)
    (fun q => block3_apply V c t q r) (block4_apply V c t) (block5_apply V c t))

/-! The write-backs: every grid point's, to blocks of their own. -/

theorem idx_inj (t t' : Fin cfg1.N) (e : (cfg1.win 6).index t = (cfg1.win 6).index t') : t = t' := by
  have h : win1_6.index t (0 : Fin 2) = win1_6.index t' (0 : Fin 2) := congrFun e (0 : Fin 2)
  rw [(idx6 t).1, (idx6 t').1] at h
  exact Fin.ext (by omega)

theorem disjoint : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun e => hne (idx_inj t t' e)

theorem flushed6 (t : Fin cfg1.N) : (dat1 V c).flushed 6 t
    = (cfg1.win 6).cut (grid1.coords t) (left (iblk1 V c 0 t) (iblk1 V c 1 t) (iblk1 V c 2 t) (iblk1 V c 3 t) (iblk1 V c 4 t) (iblk1 V c 5 t)) := by
  show (cfg1.win 6).cut (grid1.coords t) ((dat1 V c).after 6 t) = _
  rw [after1_6]
  unfold outsAt1
  rw [second_apply]

theorem blocks6 (t : Fin cfg1.N) : ((cfg1.win 6).blk t).view.read (Elt Ideal) ((dat1 V c).arrAt 6 cfg1.N) = (dat1 V c).flushed 6 t :=
  (dat1 V c).read_blk_arrAt_eq_flushed 6 disjoint cfg1.N t t.isLt (flush1_6 t)

/-- An array whose blocks are given, at an index of a block. -/
theorem at_block (t : Fin cfg1.N) (A : Buf (Elt Ideal) ((c : Thread nD τ).loc main_v5)) (f : Vec Ideal S1024x1024 .f32)
    (e : ((cfg1.win 6).blk t).view.read (Elt Ideal) A = (cfg1.win 6).cut (grid1.coords t) f) (r j : Fin 1024) :
    (A : S65536x1024.Idx → EReal) (ix2 ⟨32768 + (token t r).val, by omega⟩ j) = f (ix2 r j) := by
  have q : A (((cfg1.win 6).blk t).view.emb (ix2 r j)) = f (ix2 r j) :=
    ((show (((cfg1.win 6).blk t).view.read (Elt Ideal) A : Vec Ideal S1024x1024 .f32) (ix2 r j) = A (((cfg1.win 6).blk t).view.emb (ix2 r j)) from rfl).symm.trans
      (congrFun e (ix2 r j))).trans (show (cfg1.win 6).cut (grid1.coords t) f (ix2 r j) = f (ix2 r j) from rfl)
  rw [emb6] at q
  exact q

/-- A token is a row of a grid point's block. -/
theorem token_surj (n : Fin 32768) : ∃ (t : Fin cfg1.N) (r : Fin 1024), n = token t r := by
  have hN := points
  exact ⟨⟨n.val / 1024, by omega⟩, ⟨n.val % 1024, by omega⟩, Fin.ext (by show n.val = n.val / 1024 * 1024 + n.val % 1024; omega)⟩

/-- THE PART'S ROWS OF THE ARRAY after the run. -/
theorem array_apply (A : Buf (Elt Ideal) ((c : Thread nD τ).loc main_v5)) (hA : A = (dat1 V c).arrAt 6 cfg1.N) (n : Fin 32768) (j : Fin 1024) :
    (A : S65536x1024.Idx → EReal) (ix2 ⟨32768 + n.val, by omega⟩ j)
      = answer (V c main_arg3) (V c main_arg4) (V c main_arg5) (V c main_v1) (V c main_v3) n j := by
  obtain ⟨t, r, rfl⟩ := token_surj n
  exact (at_block c t A _ ((congrArg (((cfg1.win 6).blk t).view.read (Elt Ideal)) hA).trans ((blocks6 V c t).trans (flushed6 V c t))) r j).trans (leaves V c t r j)

/-- THE ARRAY'S OTHER ROWS end as the part finds them. -/
theorem other_apply (A : Buf (Elt Ideal) ((c : Thread nD τ).loc main_v5)) (hA : A = (dat1 V c).arrAt 6 cfg1.N) (n : Fin 65536) (hn : n.val < 32768) (j : Fin 1024) :
    (A : S65536x1024.Idx → EReal) (ix2 n j) = (V c main_v5 : S65536x1024.Idx → EReal) (ix2 n j) := by
  subst hA
  refine ((dat1 V c).arrAt_apply_of_forall_not_mem 6 cfg1.N (ix2 n j) fun t _ _ hi => ?_).trans (congrFun (A_eq1 V c 6) (ix2 n j))
  obtain ⟨y, -, hy⟩ := Finset.mem_map.mp hi
  obtain ⟨r, k, rfl⟩ : ∃ r k : Fin 1024, y = ix2 r k := ⟨y 0, y 1, eq_ix2 y⟩
  rw [emb6] at hy
  have h0 : 32768 + (token t r).val = n.val := congrArg Fin.val (congrFun hy (0 : Fin 2))
  omega

end Cert.Final.Kernel4Ideal.Second

end
-- ==== Proof.Final.IdealRun.lean ====
module

public import proofs.«01_k».proof.Proof.Final.First
public import proofs.«01_k».proof.Proof.Final.Second
public import Idealize.ShloMosaic.Lib.StableHlo.Run
public import Idealize.ShloMosaic.Lib.StableHlo.RunRead

/-! # The run of the last call, its result at what its second part leaves, and that result at a token and a feature -/

@[expose] public section

set_option maxRecDepth 16384

noncomputable section

namespace Cert.Final.Kernel4Ideal

open Cert.Kernel4Ideal Cert.Kernel4Ideal.Gen Cert.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg) (c : Dev nD)

/-- The call's result: the second part's array after its run. -/
def result : Buf (Elt Ideal) ((c : Thread nD τ).loc main_v5) := W4 m ρ c (Proc.devRef .tc main_v5)

theorem result_eq : result m ρ c = (dat1 (V3 m ρ) c).arrAt 6 cfg1.N := W4_arr m ρ c 6

/-- The first part's array is copied before the second part runs. -/
theorem copied : V3 m ρ c main_v5 = V2 m ρ c main_v4 := by
  show StableHlo.after hostOps1 (W2 m ρ c) (Proc.devRef .tc main_v5) = _
  after_reads_simp
  rfl

theorem first_eq : V2 m ρ c main_v4 = (dat0 (V1 m ρ) c).arrAt 6 cfg0.N := W2_arr m ρ c 6

/-- The gain and the bias rows, as the first part finds them. -/
theorem gain_row : V1 m ρ c main_v1 = broadcastInDim S1x1024 ![1] bcast_S1024_S1x1024_1 (shapeCast S1024 (m ((c : Thread nD τ).loc main_arg6)) shapeCasts_S1x1024_S1024) := by
  show StableHlo.after hostOps0 (W0 m ρ c) (Proc.devRef .tc main_v1) = _
  after_reads_simp
  rfl
theorem bias_row : V1 m ρ c main_v3 = broadcastInDim S1x1024 ![1] bcast_S1024_S1x1024_1 (shapeCast S1024 (m ((c : Thread nD τ).loc main_arg7)) shapeCasts_S1x1024_S1024) := by
  show StableHlo.after hostOps0 (W0 m ρ c) (Proc.devRef .tc main_v3) = _
  after_reads_simp
  rfl

/-- A row reshaped to a vector and back is the row. -/
theorem row_back (v : Vec Ideal S1x1024 .f32) :
    (broadcastInDim S1x1024 ![1] bcast_S1024_S1x1024_1 (shapeCast S1024 v shapeCasts_S1x1024_S1024) : Vec Ideal S1x1024 .f32) = v := by
  funext y
  obtain ⟨q, k, rfl⟩ : ∃ (q : Fin 1) (k : Fin 1024), y = ix2 q k := ⟨y 0, y 1, eq_ix2 y⟩
  obtain rfl : q = 0 := Subsingleton.elim _ _
  pointwise []

theorem gain1 : V1 m ρ c main_v1 = m ((c : Thread nD τ).loc main_arg6) := (gain_row m ρ c).trans (row_back _)
theorem bias1 : V1 m ρ c main_v3 = m ((c : Thread nD τ).loc main_arg7) := (bias_row m ρ c).trans (row_back _)

/-- What the first part leaves of the two rows, the second finds. -/
theorem gain3 : V3 m ρ c main_v1 = m ((c : Thread nD τ).loc main_arg6) :=
  ((W3_of m ρ c main_v1 (by decide)).trans (W2_of m ρ c main_v1 (by decide +kernel))).trans (gain1 m ρ c)
theorem bias3 : V3 m ρ c main_v3 = m ((c : Thread nD τ).loc main_arg7) :=
  ((W3_of m ρ c main_v3 (by decide)).trans (W2_of m ρ c main_v3 (by decide +kernel))).trans (bias1 m ρ c)

/-- The first part's formula, from the arguments. -/
def firstAt (n : Fin 32768) (j : Fin 1024) : EReal :=
  answer (m ((c.tc : Thread nD τ).loc main_arg0)) (m ((c.tc : Thread nD τ).loc main_arg1)) (m ((c.tc : Thread nD τ).loc main_arg2))
    (m ((c.tc : Thread nD τ).loc main_arg6)) (m ((c.tc : Thread nD τ).loc main_arg7)) n j

/-- The second part's. -/
def secondAt (n : Fin 32768) (j : Fin 1024) : EReal :=
  answer (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) n j

theorem answer_congr {x x' : (⟨2, ![32768, 1024]⟩ : Shape).Idx → EReal} {y y' : (⟨2, ![65536, 512]⟩ : Shape).Idx → BitVec 32}
    {w w' : (⟨2, ![8, 32768]⟩ : Shape).Idx → EReal} {g g' b b' : (⟨2, ![1, 1024]⟩ : Shape).Idx → EReal}
    (ex : x = x') (ey : y = y') (ew : w = w') (eg : g = g') (eb : b = b') (n : Fin 32768) (j : Fin 1024) : answer x y w g b n j = answer x' y' w' g' b' n j := by
  rw [ex, ey, ew, eg, eb]

/-- THE CALL'S RESULT at a token of the first part, -/
theorem result_first (n : Fin 65536) (h : n.val < 32768) (j : Fin 1024) :
    (result m ρ c : S65536x1024.Idx → EReal) (ix2 n j) = firstAt m c ⟨n.val, h⟩ j :=
  (Second.other_apply (V3 m ρ) c (result m ρ c) (result_eq m ρ c) n h j).trans
    ((congrFun (copied m ρ c) (ix2 n j)).trans ((First.array_apply (V1 m ρ) c (V2 m ρ c main_v4) (first_eq m ρ c) ⟨n.val, h⟩ j).trans
      (answer_congr (W1_args m ρ c main_arg0 (by decide)) (W1_args m ρ c main_arg1 (by decide)) (W1_args m ρ c main_arg2 (by decide)) (gain1 m ρ c) (bias1 m ρ c) _ j)))

/-- and of the second. -/
theorem result_second (n : Fin 65536) (h : ¬ n.val < 32768) (j : Fin 1024) :
    (result m ρ c : S65536x1024.Idx → EReal) (ix2 n j) = secondAt m c ⟨n.val - 32768, by omega⟩ j := by
  have e : n = ⟨32768 + (n.val - 32768), by omega⟩ := Fin.ext (by show n.val = 32768 + (n.val - 32768); omega)
  have q := Second.array_apply (V3 m ρ) c (result m ρ c) (result_eq m ρ c) ⟨n.val - 32768, by omega⟩ j
  rw [← e] at q
  exact q.trans (answer_congr (W3_args m ρ c main_arg3 (by decide)) (W3_args m ρ c main_arg4 (by decide)) (W3_args m ρ c main_arg5 (by decide)) (gain3 m ρ c) (bias3 m ρ c) _ j)

set_option backward.isDefEq.respectTransparency.types false in
/-- THE RUN: from any memory with zero counters every weakly fair execution terminates with the result named and the arguments unchanged. -/
theorem run_named : θ_run defs (onTc (τ := τ) (main (F := Ideal))) ⟨m, fun _ => 0, ρ⟩ (fun r => ∀ c : Dev nD,
      r.2.mem ((c.tc : Thread nD τ).loc main_v5) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => ⟨h c _ (mem_uc main_v5 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Final.Kernel4Ideal

end
-- ==== Proof.Final.Ref.lean ====
module

public import proofs.«01_k».proof.Proof.Gen.Reference4Ideal.Run
public import proofs.«01_k».proof.Proof.Final.Formula
public import Idealize.ShloMosaic.Lib.Pointwise
public import Idealize.ShloMosaic.Lib.BitcastConvert

/-! # The last call's reference, read at a token and a feature -/

@[expose] public section

set_option maxRecDepth 16384

noncomputable section

namespace Cert.Reference4Ideal.Final

open Cert.Reference4Ideal Cert.Reference4Ideal.Gen Cert.Final
open Cert.Experts (feature lowHalf highHalf)
open Idealize.ShloMosaic Idealize.ShloMosaic.TcCoe

section
variable {F : FTy → Type} [FloatOps F]
  (x : Vec F S32768x1024 .f32) (y : Vec F S65536x512 .i32) (w : Vec F S8x32768 .f32) (g b : Vec F S1x1024 .f32)

/-- The words' halves as numbers. -/
def halves : FVec F S65536x512x2 .bf16 :=
  bitcastToFloat (F := F) .bf16 (Host.bitcastConvertNarrow S65536x512x2 16 y splits_S65536x512_w32_S65536x512x2_w16)

/-- The gathered expert rows. -/
def rows : FVec F S65536x1024 .f32 :=
  extf .f32 (concatenate S65536x1024 1 [⟨S65536x512, (shapeCast _ (extractStridedSlice S65536x512x1 ![0, 0, 0] (halves y) slices_S65536x512x2_S65536x512x1_0_0_0) shapeCasts_S65536x512x1_S65536x512)⟩, ⟨S65536x512, (shapeCast _ (extractStridedSlice S65536x512x1 ![0, 0, 1] (halves y) slices_S65536x512x2_S65536x512x1_0_0_1) shapeCasts_S65536x512x1_S65536x512)⟩] concatenates_S65536x512_S65536x512_S65536x1024_d1 : FVec F S65536x1024 .bf16) bitsLt_bf16_f32

/-- A weight of every token, along its features. -/
def weight (v : FVec F S1x32768 .f32) : FVec F S32768x1024 .f32 :=
  broadcastInDim S32768x1024 ![0, 1] bcast_S32768x1_S32768x1024_0_1 (broadcastInDim S32768x1 ![0] bcast_S32768_S32768x1_0 (shapeCast S32768 v shapeCasts_S1x32768_S32768))

/-- The two experts' rows under their weights. -/
def mixed : FVec F S32768x1024 .f32 :=
  addf (mulf (extractStridedSlice S32768x1024 ![0, 0] (rows y) slices_S65536x1024_S32768x1024_0_0) (weight (extractStridedSlice S1x32768 ![2, 0] w slices_S8x32768_S1x32768_2_0)))
    (mulf (extractStridedSlice S32768x1024 ![32768, 0] (rows y) slices_S65536x1024_S32768x1024_32768_0) (weight (extractStridedSlice S1x32768 ![3, 0] w slices_S8x32768_S1x32768_3_0)))

/-- The residual stream. -/
def residual : FVec F S32768x1024 .f32 :=
  addf (mulf (broadcastInDim S32768x1024 ![] bcast_S_S32768x1024 (constant S_ .f32 0x3F9837F0#32)) x) (mixed y w)

/-- The rows' means. -/
def means (p : FVec F S32768x1024 .f32) : FVec F S32768x1 .f32 :=
  Host.divf (broadcastInDim S32768x1 ![0] bcast_S32768_S32768x1_0 (Host.reduceAdd p (constant S_ .f32 0x00000000#32) reducesTo_S32768x1024_S32768_d1 h_S_)) (broadcastInDim S32768x1 ![] bcast_S_S32768x1 (constant S_ .f32 0x44800000#32))

/-- The rows less their means. -/
def shifted (p : FVec F S32768x1024 .f32) : FVec F S32768x1024 .f32 :=
  subf p (broadcastInDim S32768x1024 ![0, 1] bcast_S32768x1_S32768x1024_0_1 (means p))

/-- A gain or a bias along the tokens. -/
def along (v : FVec F S1x1024 .f32) : FVec F S32768x1024 .f32 :=
  broadcastInDim S32768x1024 ![0, 1] bcast_S1x1024_S32768x1024_0_1 (broadcastInDim S1x1024 ![1] bcast_S1024_S1x1024_1 (shapeCast S1024 v shapeCasts_S1x1024_S1024))

/-- The rows, layer-normed. -/
def normed (p : FVec F S32768x1024 .f32) : FVec F S32768x1024 .f32 :=
  addf (mulf (mulf (shifted p) (broadcastInDim S32768x1024 ![0, 1] bcast_S32768x1_S32768x1024_0_1 (Host.rsqrt (addf (means (mulf (shifted p) (shifted p))) (broadcastInDim S32768x1 ![] bcast_S_S32768x1 (constant S_ .f32 0x3727C5AC#32)))))) (along g)) (along b)

end

section
variable (x : Vec Ideal S32768x1024 .f32) (y : Vec Ideal S65536x512 .i32) (w : Vec Ideal S8x32768 .f32) (g b : Vec Ideal S1x1024 .f32)

/-- The word a half came from. -/
theorem drop_eq (n : Fin 65536) (k : Fin 512) (h : Fin 2) : splits_S65536x512_w32_S65536x512x2_w16.drop (ix3 n k h) = ix2 n k := by
  funext a
  match a with
  | 0 => rfl
  | 1 => rfl

/-- A gathered row's features are its words' halves. -/
theorem rows_apply (n : Fin 65536) (k : Fin 1024) : rows (F := Ideal) y (ix2 n k) = feature (fun k => y (ix2 n k)) k := by
  unfold feature
  by_cases h : k.val < 512
  · rw [dif_pos h]
    pointwise [rows, halves, lowHalf]
    rw [dif_pos h, drop_eq]
  · rw [dif_neg h]
    pointwise [rows, halves, highHalf]
    rw [dif_neg h, drop_eq]

theorem weight_apply (v : FVec Ideal S1x32768 .f32) (n : Fin 32768) (k : Fin 1024) : weight v (ix2 n k) = v (ix2 0 n) := by
  pointwise [weight]

theorem along_apply (v : FVec Ideal S1x1024 .f32) (n : Fin 32768) (k : Fin 1024) : along v (ix2 n k) = v (ix2 0 k) := by
  pointwise [along]

/-- The residual stream of a token. -/
theorem residual_apply (n : Fin 32768) (j : Fin 1024) :
    residual (F := Ideal) x y w (ix2 n j) = stream (fun k => x (ix2 n k)) (fun k => y (ix2 ⟨n.val, by omega⟩ k)) (fun k => y (ix2 ⟨32768 + n.val, by omega⟩ k))
      (w (ix2 2 n)) (w (ix2 3 n)) j := by
  unfold residual mixed stream
  pointwise []
  simp only [rows_apply, weight_apply]
  pointwise []

theorem means_apply (p : FVec Ideal S32768x1024 .f32) (n : Fin 32768) (i : Fin 1) : means p (ix2 n i) = mean (fun k => p (ix2 n k)) := by
  pointwise [means, mean]

theorem shifted_apply (p : FVec Ideal S32768x1024 .f32) (n : Fin 32768) (j : Fin 1024) : shifted p (ix2 n j) = centred (fun k => p (ix2 n k)) j := by
  unfold shifted centred
  pointwise []
  rw [means_apply]

/-- A layer-normed row. -/
theorem normed_apply (p : FVec Ideal S32768x1024 .f32) (n : Fin 32768) (j : Fin 1024) :
    normed g b p (ix2 n j) = layerNorm (fun k => p (ix2 n k)) (fun k => g (ix2 0 k)) (fun k => b (ix2 0 k)) j := by
  unfold normed layerNorm
  pointwise []
  simp only [means_apply, along_apply]
  pointwise []
  simp only [shifted_apply]

/-- A part's formula at a token and a feature. -/
theorem part_apply (n : Fin 32768) (j : Fin 1024) : normed g b (residual (F := Ideal) x y w) (ix2 n j) = answer x y w g b n j := by
  rw [normed_apply]
  unfold answer
  simp only [residual_apply]

end

/-- The two parts, one after the other. -/
def both {F : FTy → Type} [FloatOps F] (p q : FVec F S32768x1024 .f32) : FVec F S65536x1024 .f32 :=
  concatenate S65536x1024 0 [⟨S32768x1024, p⟩, ⟨S32768x1024, q⟩] concatenates_S32768x1024_S32768x1024_S65536x1024_d0

theorem both_apply (p q : FVec Ideal S32768x1024 .f32) (n : Fin 65536) (j : Fin 1024) :
    both p q (ix2 n j) = if h : n.val < 32768 then p (ix2 ⟨n.val, h⟩ j) else q (ix2 ⟨n.val - 32768, by omega⟩ j) := by
  pointwise [both]

/-- THE REFERENCE'S RESULT at a token and a feature. -/
theorem result_apply (m : (ℓ : Loc nD τ sig) → Buf (Elt Ideal) ℓ) (c : Dev nD) (n : Fin 65536) (j : Fin 1024) :
    Value.res_out0 m c (ix2 n j)
      = if h : n.val < 32768 then
          answer (m ((c.tc : Thread nD τ).loc main_arg0)) (m ((c.tc : Thread nD τ).loc main_arg1)) (m ((c.tc : Thread nD τ).loc main_arg2))
            (m ((c.tc : Thread nD τ).loc main_arg6)) (m ((c.tc : Thread nD τ).loc main_arg7)) ⟨n.val, h⟩ j
        else
          answer (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) ⟨n.val - 32768, by omega⟩ j := by
  refine Eq.trans (congrFun (show Value.res_out0 m c = both
      (normed (m ((c.tc : Thread nD τ).loc main_arg6)) (m ((c.tc : Thread nD τ).loc main_arg7))
        (residual (m ((c.tc : Thread nD τ).loc main_arg0)) (m ((c.tc : Thread nD τ).loc main_arg1)) (m ((c.tc : Thread nD τ).loc main_arg2))))
      (normed (m ((c.tc : Thread nD τ).loc main_arg6)) (m ((c.tc : Thread nD τ).loc main_arg7))
        (residual (m ((c.tc : Thread nD τ).loc main_arg3)) (m ((c.tc : Thread nD τ).loc main_arg4)) (m ((c.tc : Thread nD τ).loc main_arg5)))) from rfl) _)
    ((both_apply _ _ n j).trans ?_)
  simp only [part_apply]

end Cert.Reference4Ideal.Final

end
-- ==== Proof.Final.Claim.lean ====
/- The claims on the last call: the reference's frame and the value claim. -/
module

public import proofs.«01_k».proof.Defs
public import proofs.«01_k».proof.Proof.Final.IdealRun
public import proofs.«01_k».proof.Proof.Final.Ref
public import Idealize.ShloMosaic.Lib.Quiescent

@[expose] public section

set_option maxRecDepth 16384

noncomputable section

namespace Cert.Final

open Idealize.ShloMosaic Idealize.SL.Sem

/-- The last call's reference runs, keeps its arguments and leaves no semaphore raised. -/
theorem frame_ri : quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- THE VALUE CLAIM ON THE LAST CALL: both programs leave, at every token and feature, the layer norm of the scaled hidden row plus the
    two experts' rows under their weights (`answer`), the first part's tokens before the second's. -/
theorem algebraic : algebraic_Kernel4Ideal_Reference4Ideal (hKernel4Ideal := Cert.Kernel4Ideal.Gen.facts)
    (hReference4Ideal := Cert.Reference4Ideal.Gen.facts) := by
  intro m g m' g' _ hargs
  refine ⟨fun c => Cert.Final.Kernel4Ideal.result m g c, Cert.Final.Kernel4Ideal.run_named m g, ?_⟩
  refine (θ_run _ _ _).mono (fun r hr c => ?_) (Cert.Reference4Ideal.Value.run m' g')
  obtain ⟨h0, hk⟩ := hr c
  refine ⟨h0.trans (funext fun (y : Cert.Kernel4Ideal.S65536x1024.Idx) => ?_), hk⟩
  obtain ⟨n, j, rfl⟩ : ∃ (n : Fin 65536) (j : Fin 1024), y = ix2 n j := ⟨y 0, y 1, eq_ix2 y⟩
  obtain ⟨e0, e1, e2, e3, e4, e5, e6, e7⟩ := hargs c
  refine (Cert.Reference4Ideal.Final.result_apply m' c n j).trans ?_
  by_cases h : n.val < 32768
  · rw [dif_pos h]
    refine Eq.trans ?_ (Cert.Final.Kernel4Ideal.result_first m g c n h j).symm
    rw [e0, e1, e2, e6, e7]
    rfl
  · rw [dif_neg h]
    refine Eq.trans ?_ (Cert.Final.Kernel4Ideal.result_second m g c n h j).symm
    rw [e3, e4, e5, e6, e7]
    rfl

end Cert.Final

end
-- ==== Proof.Dest.Formula.lean ====
module

public import proofs.«01_k».proof.Proof.Experts.Formula
public import Idealize.ShloMosaic.Lib.WordCmp

/-! # The places of a token's rows in the order by experts

A token's routing information names an expert by a number and gives the token's rank among that expert's tokens; its row goes to the
expert's first place plus the rank. -/

@[expose] public section

noncomputable section

namespace Cert.Dest

open Idealize.ShloMosaic
open Cert.Experts (slab)

/-- A number, cut to a word. -/
def word (x : Ideal .f32) : BitVec 32 := FloatOps.fptosi 32 x

/-- A word as a number. -/
def number (v : BitVec 32) : Ideal .f32 := FloatOps.sitofp .f32 v

/-- The place: the named expert's first place plus the rank. -/
def place (first : Fin 32 → BitVec 32) (e rank : Ideal .f32) : BitVec 32 := word (number (first (slab (word e))) + rank)

/-- The answer's eight rows: the two places, and six rows of zeros. -/
def answer {T : Nat} (r : Fin 8 → Fin T → Ideal .f32) (first : Fin 32 → BitVec 32) (i : Fin 8) (n : Fin T) : BitVec 32 :=
  if i.val = 0 then place first (r 0 n) (r 4 n) else if i.val = 1 then place first (r 1 n) (r 5 n) else 0#32

/-- Among 32 numbers, the sum of those whose index a word equals is the one the word names. -/
theorem sum_named (e : BitVec 32) (h : e.toNat < 32) (p : Fin 32 → EReal) :
    (∑ k : Fin 32, Scalar.select (IntOp.cmpi .eq (BitVec.ofNat 32 k.val) e) (p k) 0) = p (slab e) := by
  have hk : ∀ k : Fin 32, Scalar.select (IntOp.cmpi .eq (BitVec.ofNat 32 k.val) e) (p k) 0 = if k = slab e then p k else 0 := fun k => by
    have hn : (BitVec.ofNat 32 k.val).toNat = k.val := by rw [BitVec.toNat_ofNat]; exact Nat.mod_eq_of_lt (by omega)
    rw [WordCmp.cmpi_eq_eq_toNat, hn]
    by_cases hc : k.val = e.toNat
    · rw [decide_eq_true hc, if_pos (Fin.ext (by show k.val = e.toNat % 32; omega))]; rfl
    · rw [decide_eq_false hc, if_neg (fun q => hc (by have := congrArg Fin.val q; change k.val = e.toNat % 32 at this; omega))]; rfl
  rw [Finset.sum_congr rfl fun k _ => hk k, Finset.sum_ite_eq' Finset.univ (slab e) p, if_pos (Finset.mem_univ _)]

/-- Zero, cut to a word, is zero. -/
theorem word_zero : word (0 : EReal) = 0#32 := by
  have h : word (0 : EReal) = BitVec.ofInt 32 (max (-((2 ^ 31 : Nat) : Int)) (min (((2 ^ 31 : Nat) : Int) - 1) (if (0 : ℝ) ≤ 0 then ⌊(0 : ℝ)⌋ else ⌈(0 : ℝ)⌉))) := rfl
  rw [h, if_pos le_rfl, Int.floor_zero]
  decide

end Cert.Dest

end
-- ==== Proof.Dest.Block.lean ====
/- What one grid point of the destinations' call leaves, at an index. -/
module

public import proofs.«01_k».proof.Proof.Gen.Kernel5Ideal.Value
public import proofs.«01_k».proof.Proof.Dest.Formula
public import Idealize.ShloMosaic.Lib.Pipeline.ValueKit.Basic
public import Idealize.ShloMosaic.Lib.Pointwise

@[expose] public section

set_option maxRecDepth 16384

namespace Cert.Kernel5Ideal.Dest

open Cert.Kernel5Ideal Cert.Kernel5Ideal.Gen Cert.Dest
open Cert.Experts (slab)
open Idealize.ShloMosaic Idealize.ShloMosaic.TcCoe

/-- Which of a row's three choices an index below 8 makes. -/
theorem choose_row (i : Fin 8) (a b z : EReal) :
    Scalar.select (IntOp.cmpi .eq (BitVec.ofNat 32 i.val) 1#32) a (Scalar.select (IntOp.cmpi .eq (BitVec.ofNat 32 i.val) 0#32) b z)
      = if i.val = 0 then b else if i.val = 1 then a else z := by
  have hn : (BitVec.ofNat 32 i.val).toNat = i.val := by rw [BitVec.toNat_ofNat]; exact Nat.mod_eq_of_lt (by omega)
  rw [WordCmp.cmpi_eq_eq_toNat, WordCmp.cmpi_eq_eq_toNat, hn]
  show Scalar.select (BitVec.ofBool (decide (i.val = 1))) a (Scalar.select (BitVec.ofBool (decide (i.val = 0))) b z) = _
  by_cases h0 : i.val = 0
  · rw [if_pos h0, decide_eq_true h0, decide_eq_false (by omega : ¬i.val = 1)]; rfl
  · by_cases h1 : i.val = 1
    · rw [if_neg h0, if_pos h1, decide_eq_true h1]; rfl
    · rw [if_neg h0, if_neg h1, decide_eq_false h0, decide_eq_false h1]; rfl

/-- A tile's eight rows at a token, where the two experts named exist. -/
theorem pay_apply (p : Vec Ideal S32x1 .f32) (first : Fin 32 → BitVec 32) (hp : ∀ k, p (ix2 k 0) = number (first k))
    (e0 r0 e1 r1 : Vec Ideal S1x8192 .f32) (i : Fin 8) (n : Fin 8192)
    (h0 : (word (e0 (ix2 0 n))).toNat < 32) (h1 : (word (e1 (ix2 0 n))).toNat < 32) :
    k0_pay1 p e0 r0 e1 r1 (ix2 i n)
      = if i.val = 0 then place first (e0 (ix2 0 n)) (r0 (ix2 0 n)) else if i.val = 1 then place first (e1 (ix2 0 n)) (r1 (ix2 0 n)) else 0#32 := by
  pointwise [k0_pay1]
  rw [choose_row]
  have s0 := sum_named _ h0 fun k => p (ix2 k 0)
  have s1 := sum_named _ h1 fun k => p (ix2 k 0)
  unfold word at s0 s1
  rw [s0, s1, hp, hp]
  unfold place
  by_cases a : i.val = 0
  · rw [if_pos a, if_pos a]; rfl
  · by_cases b : i.val = 1
    · rw [if_neg a, if_neg a, if_pos b, if_pos b]; rfl
    · rw [if_neg a, if_neg a, if_neg b, if_neg b]; exact word_zero

/-- A row of the fetched routing information. -/
theorem row0 (x : Vec Ideal S8x8192 .f32) (n : Fin 8192) : View.ld x r0_1 (ix2 0 n) = x (ix2 0 n) :=
  congrArg x (funext fun a => Fin.ext (match a with | 0 => rfl | 1 => (by show 0 + 1 * n.val = n.val; omega)))
theorem row4 (x : Vec Ideal S8x8192 .f32) (n : Fin 8192) : View.ld x r0_2 (ix2 0 n) = x (ix2 4 n) :=
  congrArg x (funext fun a => Fin.ext (match a with | 0 => rfl | 1 => (by show 0 + 1 * n.val = n.val; omega)))
theorem row1 (x : Vec Ideal S8x8192 .f32) (n : Fin 8192) : View.ld x r0_3 (ix2 0 n) = x (ix2 1 n) :=
  congrArg x (funext fun a => Fin.ext (match a with | 0 => rfl | 1 => (by show 0 + 1 * n.val = n.val; omega)))
theorem row5 (x : Vec Ideal S8x8192 .f32) (n : Fin 8192) : View.ld x r0_4 (ix2 0 n) = x (ix2 5 n) :=
  congrArg x (funext fun a => Fin.ext (match a with | 0 => rfl | 1 => (by show 0 + 1 * n.val = n.val; omega)))

/-- WHAT A GRID POINT LEAVES, from its two fetched blocks. -/
theorem out_apply (x : Vec Ideal S8x8192 .f32) (p : Vec Ideal S32x1 .f32) (first : Fin 32 → BitVec 32)
    (hp : ∀ k, p (ix2 k 0) = number (first k)) (i : Fin 8) (n : Fin 8192)
    (h0 : (word (x (ix2 0 n))).toNat < 32) (h1 : (word (x (ix2 1 n))).toNat < 32) :
    out0_2 x p (ix2 i n) = answer (fun k n => x (ix2 k n)) first i n := by
  unfold out0_2
  rw [View.canon_cons_unit_lit _ _ _ (by decide), View.ld_unit_lit _ _ (by decide),
    pay_apply p first hp _ _ _ _ i n (by rw [row0]; exact h0) (by rw [row1]; exact h1), row0, row4, row1, row5]
  rfl

end Cert.Kernel5Ideal.Dest
-- ==== Proof.Dest.Array.lean ====
/- The array after the destinations' run, at an index, from the arguments. -/
module

public import proofs.«01_k».proof.Proof.Dest.Block
public import Idealize.ShloMosaic.Lib.StableHlo.Run
public import Idealize.ShloMosaic.Lib.StableHlo.RunRead

@[expose] public section

set_option maxRecDepth 16384

namespace Cert.Kernel5Ideal.Dest

open Cert.Kernel5Ideal Cert.Kernel5Ideal.Gen Cert.Dest
open Idealize.ShloMosaic Idealize.ShloMosaic.TcCoe Idealize.ShloMosaic.StableHlo

/-- Which block of its array each window reads or writes at a grid point. -/
theorem idx0 : ∀ t : Fin cfg0.N, win0_0.index t (0 : Fin 2) = 0 ∧ win0_0.index t (1 : Fin 2) = t.val :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)

theorem N_eq : cfg0.N = 4 := by decide +kernel
theorem t_lt (t : Fin cfg0.N) : t.val < 4 := t.isLt.trans_eq N_eq

theorem emb0 (t : Fin cfg0.N) (i : Fin 8) (n : Fin 8192) :
    ((cfg0.win 0).blk t).view.emb (ix2 i n) = ix2 i (⟨t.val * 8192 + n.val, by have := t_lt t; omega⟩ : Fin 32768) := by
  obtain ⟨e0, e1⟩ := idx0 t
  funext a; apply Fin.ext
  match a with
  | ⟨0, _⟩ => show win0_0.index t (0 : Fin 2) * 8 + 1 * i.val = i.val; omega
  | ⟨1, _⟩ => show win0_0.index t (1 : Fin 2) * 8192 + 1 * n.val = t.val * 8192 + n.val; omega
theorem emb1 (t : Fin cfg0.N) (k : Fin 32) (i : Fin 1) : ((cfg0.win 1).blk t).view.emb (ix2 k i) = ix2 k i := by
  obtain ⟨e0, e1⟩ := idx1 t
  funext a; apply Fin.ext
  match a with
  | ⟨0, _⟩ => show win0_1.index t (0 : Fin 2) * 32 + 1 * k.val = k.val; omega
  | ⟨1, _⟩ => show win0_1.index t (1 : Fin 2) * 1 + 1 * i.val = i.val; omega
theorem emb2 (t : Fin cfg0.N) (i : Fin 8) (n : Fin 8192) :
    ((cfg0.win 2).blk t).view.emb (ix2 i n) = ix2 i (⟨t.val * 8192 + n.val, by have := t_lt t; omega⟩ : Fin 32768) := by
  obtain ⟨e0, e1⟩ := idx2 t
  funext a; apply Fin.ext
  match a with
  | ⟨0, _⟩ => show win0_2.index t (0 : Fin 2) * 8 + 1 * i.val = i.val; omega
  | ⟨1, _⟩ => show win0_2.index t (1 : Fin 2) * 8192 + 1 * n.val = t.val * 8192 + n.val; omega

variable (m : (ℓ : Loc nD τ sig) → Buf (Elt Ideal) ℓ) (c : Dev nD)

/-- The experts' first places, as the call reads them: numbers, in a column. -/
theorem V_first : V m c main_v1 = broadcastInDim S32x1 ![0] bcast_S32_S32x1_0 (sitofp (F := Ideal) .f32 (m ((c : Thread nD τ).loc main_arg1))) := by
  unfold V hostOps0
  after_reads_simp

theorem iblk0_apply (t : Fin cfg0.N) (i : Fin 8) (n : Fin 8192) :
    iblk m c 0 t (ix2 i n) = m ((c : Thread nD τ).loc main_arg0) (ix2 i ⟨t.val * 8192 + n.val, by have := t_lt t; omega⟩) :=
  (congrArg (V m c main_arg0) (emb0 t i n)).trans (congrFun (V_main_arg0 m c) _)
theorem column_apply (v : Vec Ideal S32 .i32) (k : Fin 32) :
    broadcastInDim S32x1 ![0] bcast_S32_S32x1_0 (sitofp (F := Ideal) .f32 v) (ix2 k 0) = number (v (ix1 k)) := by
  pointwise [number]
theorem iblk1_apply (t : Fin cfg0.N) (k : Fin 32) : iblk m c 1 t (ix2 k 0) = number (m ((c : Thread nD τ).loc main_arg1) (ix1 k)) :=
  ((congrArg (V m c main_v1) (emb1 t k 0)).trans (congrFun (V_first m c) _)).trans (column_apply _ k)

/-- THE DESTINATIONS AFTER THE RUN, where the experts named at the token exist. -/
theorem array_apply (i : Fin 8) (n : Fin 32768)
    (h0 : (word (m ((c : Thread nD τ).loc main_arg0) (ix2 0 n))).toNat < 32) (h1 : (word (m ((c : Thread nD τ).loc main_arg0) (ix2 1 n))).toNat < 32) :
    (dats m 0 c).arrAt 2 cfg0.N (ix2 i n) = answer (fun i n => m ((c : Thread nD τ).loc main_arg0) (ix2 i n))
      (fun k => m ((c : Thread nD τ).loc main_arg1) (ix1 k)) i n := by
  have hN := N_eq
  obtain ⟨t, r, hn⟩ : ∃ (t : Fin cfg0.N) (r : Fin 8192), n.val = t.val * 8192 + r.val :=
    ⟨⟨n.val / 8192, by omega⟩, ⟨n.val % 8192, by omega⟩, by dsimp only; omega⟩
  have en : n = ⟨t.val * 8192 + r.val, by have := t_lt t; omega⟩ := Fin.ext hn
  have e := congrFun (Value.blocks2 m c t (flush0_2 t)) (ix2 i r)
  rw [Value.flushed2] at e
  have e' : (dats m 0 c).arrAt 2 cfg0.N (((cfg0.win 2).blk t).view.emb (ix2 i r)) = out0_2 (iblk m c 0 t) (iblk m c 1 t) (ix2 i r) := e
  rw [emb2, ← en, out_apply _ _ (fun k => m ((c : Thread nD τ).loc main_arg1) (ix1 k)) (iblk1_apply m c t) i r
    (by rw [iblk0_apply, ← en]; exact h0) (by rw [iblk0_apply, ← en]; exact h1)] at e'
  refine e'.trans ?_
  unfold answer
  simp only [iblk0_apply, ← en]

end Cert.Kernel5Ideal.Dest
-- ==== Proof.Dest.Ref.lean ====
/- The destinations' reference, read at a row and a token. -/
module

public import proofs.«01_k».proof.Proof.Gen.Reference5Ideal.Run
public import proofs.«01_k».proof.Proof.Dest.Formula
public import Idealize.ShloMosaic.Lib.Pointwise
public import Idealize.ShloMosaic.Lib.Routing.OpsPair

@[expose] public section

set_option maxRecDepth 16384

noncomputable section

namespace Cert.Reference5Ideal.Dest

open Cert.Reference5Ideal Cert.Reference5Ideal.Gen Cert.Dest
open Cert.Experts (slab)
open Idealize.ShloMosaic Idealize.ShloMosaic.TcCoe Idealize.SL.Sem

section
variable {F : FTy → Type} [FloatOps F] (r : Vec F S8x32768 .f32) (p : Vec F S32 .i32)

/-- The tokens' experts as words. -/
def named : IVec S2x32768 32 := fptosi (F := F) 32 (extractStridedSlice S2x32768 ![0, 0] r slices_S8x32768_S2x32768_0_0)

/-- The same as the table is indexed with them. -/
def picks : IVec S2x32768x1 32 :=
  broadcastInDim S2x32768x1 ![0, 1] bcast_S2x32768_S2x32768x1_0_1
    (select (cmpi .slt (named r) (broadcastInDim S2x32768 ![] bcast_S_S2x32768 (constantI S_ 32 0#32)))
      (addi (named r) (broadcastInDim S2x32768 ![] bcast_S_S2x32768 (constantI S_ 32 32#32))) (named r))

/-- The experts' first places. -/
def firsts : FVec F S2x32768 .f32 :=
  Host.gather gather_S32_S2x32768x1_S2x32768_n_0_n_n_0_2_1 (sitofp (F := F) .f32 p) (picks r)

/-- The places. -/
def places : IVec S2x32768 32 :=
  fptosi 32 (addf (firsts r p) (extractStridedSlice S2x32768 ![4, 0] r slices_S8x32768_S2x32768_4_0))

/-- The result. -/
def total : IVec S8x32768 32 :=
  concatenate S8x32768 0 [⟨S2x32768, places r p⟩, ⟨S6x32768, broadcastInDim S6x32768 ![] bcast_S_S6x32768 (constantI S_ 32 0#32)⟩] concatenates_S2x32768_S6x32768_S8x32768_d0

end

section
variable (r : Vec Ideal S8x32768 .f32) (p : Vec Ideal S32 .i32)

theorem named_apply (i : Fin 2) (n : Fin 32768) : named (F := Ideal) r (ix2 i n) = word (r (ix2 ⟨i.val, by omega⟩ n)) := by
  pointwise [named, word]

theorem picks_apply (i : Fin 2) (n : Fin 32768) (h : (word (r (ix2 ⟨i.val, by omega⟩ n))).toNat < 32) :
    picks (F := Ideal) r (ix3 i n 0) = word (r (ix2 ⟨i.val, by omega⟩ n)) := by
  unfold picks
  pointwise []
  rw [named_apply]
  exact Routing.wrap_of_lt _ _ (by omega)

/-- A small word's clamped signed reading is the word. -/
theorem clamp_small (v : BitVec 32) (h : v.toNat < 32) : min v.toInt.toNat 31 = v.toNat % 32 := by
  have := BitVec.toInt_eq_toNat_cond v
  split at this <;> omega

theorem firsts_apply (i : Fin 2) (n : Fin 32768) (h : (word (r (ix2 ⟨i.val, by omega⟩ n))).toNat < 32) :
    firsts (F := Ideal) r p (ix2 i n) = number (p (ix1 (slab (word (r (ix2 ⟨i.val, by omega⟩ n)))))) := by
  show number (p (gather_S32_S2x32768x1_S2x32768_n_0_n_n_0_2_1.operandIdx (ix2 i n) (picks (F := Ideal) r))) = _
  refine congrArg (fun j => number (p j)) (funext fun a => Fin.ext ?_)
  match a with
  | 0 =>
    refine Eq.trans ?_ (clamp_small _ h)
    rw [← picks_apply r i n h]
    show min (picks (F := Ideal) r (gather_S32_S2x32768x1_S2x32768_n_0_n_n_0_2_1.siIdx (ix2 i n) ⟨0, Nat.one_pos⟩)).toInt.toNat 31 + 0 + 0 = _
    rw [show gather_S32_S2x32768x1_S2x32768_n_0_n_n_0_2_1.siIdx (ix2 i n) ⟨0, Nat.one_pos⟩ = ix3 i n 0 from
      funext fun b => match b with | 0 => rfl | 1 => rfl | 2 => rfl]
    rfl

theorem places_apply (i : Fin 2) (n : Fin 32768) (h : (word (r (ix2 ⟨i.val, by omega⟩ n))).toNat < 32) :
    places (F := Ideal) r p (ix2 i n) = place (fun k => p (ix1 k)) (r (ix2 ⟨i.val, by omega⟩ n)) (r (ix2 ⟨4 + i.val, by omega⟩ n)) := by
  unfold places place
  rw [← firsts_apply r p i n h]
  pointwise [word]

/-- THE REFERENCE'S FORMULA at a row and a token. -/
theorem total_apply (i : Fin 8) (n : Fin 32768) (h0 : (word (r (ix2 0 n))).toNat < 32) (h1 : (word (r (ix2 1 n))).toNat < 32) :
    total (F := Ideal) r p (ix2 i n) = answer (fun i n => r (ix2 i n)) (fun k => p (ix1 k)) i n := by
  have e : total (F := Ideal) r p (ix2 i n) = if h : i.val < 2 then places (F := Ideal) r p (ix2 ⟨i.val, h⟩ n) else 0#32 := by
    unfold total
    pointwise []
  rw [e]
  unfold answer
  by_cases a : i.val = 0
  · obtain rfl : i = 0 := Fin.ext a
    exact places_apply r p 0 n h0
  · by_cases b : i.val = 1
    · obtain rfl : i = 1 := Fin.ext b
      exact places_apply r p 1 n h1
    · rw [if_neg a, if_neg b, dif_neg (by omega)]

end

/-- The reference runs to that result and keeps its arguments. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = total (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.Reference5Ideal.Dest

end
-- ==== Proof.Dest.Claim.lean ====
/- The claims on the destinations: the reference's frame and the value claim. -/
module

public import proofs.«01_k».proof.Defs
public import proofs.«01_k».proof.Proof.Dest.Array
public import proofs.«01_k».proof.Proof.Dest.Ref
public import proofs.«01_k».proof.Proof.Experts.IdealNamed
public import proofs.«01_k».proof.Proof.Gen.Pre_routed
public import Idealize.ShloMosaic.Lib.Quiescent

@[expose] public section

set_option maxRecDepth 16384

noncomputable section

namespace Cert.Dest

open Idealize.ShloMosaic Idealize.SL.Sem

/-- The destinations' reference runs, keeps its arguments and leaves no semaphore raised. -/
theorem frame_ri : quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- In particular where the routing information names experts that exist. -/
theorem frame_ri_pre : quiescent_Reference5Ideal_pre_routed (hReference5Ideal := Cert.Reference5Ideal.Gen.facts)
    (hPre_routed := Cert.Pre_routed.Gen.facts) := fun m ρ _ => frame_ri m ρ trivial

/-- The precondition at a token: the word of either expert's number is below 32. -/
theorem word_lt [Cert.Pre_routed.Facts] (r : FVec Ideal Cert.Pre_routed.S8x32768 .f32) (p : IVec Cert.Pre_routed.S32 32)
    (hp : Cert.Pre_routed.fn (F := Ideal) r p = fun _ => 1#1) (i : Fin 2) (n : Fin 32768) : (word (r (ix2 ⟨i.val, by omega⟩ n))).toNat < 32 := by
  have h := congrFun hp (ix2 i n)
  have e : extractStridedSlice Cert.Pre_routed.S2x32768 ![0, 0] r Cert.Pre_routed.Facts.slices_S8x32768_S2x32768_0_0 (ix2 i n) = r (ix2 ⟨i.val, by omega⟩ n) := by
    pointwise []
  rw [← e]
  exact Cert.Experts.Kernel3Ideal.small_of_signed h

/-- THE VALUE CLAIM ON THE DESTINATIONS: where the routing information names experts that exist, both programs leave every token's two
    places, each its expert's first place plus its rank there, and six rows of zeros (`answer`). -/
theorem algebraic : algebraic_Kernel5Ideal_Reference5Ideal_pre_routed (hKernel5Ideal := Cert.Kernel5Ideal.Gen.facts)
    (hReference5Ideal := Cert.Reference5Ideal.Gen.facts) (hPre_routed := Cert.Pre_routed.Gen.facts) := by
  intro m g m' g' hp hargs
  refine ⟨fun c => (Cert.Kernel5Ideal.Gen.dats m 0 c).arrAt 2 Cert.Kernel5Ideal.cfg0.N, Cert.Kernel5Ideal.Value.run_blocks m g, ?_⟩
  refine (θ_run _ _ _).mono (fun r hr c => ?_) (Cert.Reference5Ideal.Dest.run_total m' g')
  obtain ⟨h0, hk⟩ := hr c
  refine ⟨h0.trans (funext fun (y : Cert.Kernel5Ideal.S8x32768.Idx) => ?_), hk⟩
  obtain ⟨i, n, rfl⟩ : ∃ (i : Fin 8) (n : Fin 32768), y = ix2 i n := ⟨y 0, y 1, eq_ix2 y⟩
  obtain ⟨e0, e1⟩ := hargs c
  have w0 := word_lt _ _ (hp c) 0 n
  have w1 := word_lt _ _ (hp c) 1 n
  refine Eq.trans ?_ (Cert.Kernel5Ideal.Dest.array_apply m c i n w0 w1).symm
  refine (Cert.Reference5Ideal.Dest.total_apply _ _ i n (by rw [e0]; exact w0) (by rw [e0]; exact w1)).trans ?_
  rw [e0, e1]

end Cert.Dest

end
-- ==== Proof.Bias.Formula.lean ====
module

public import Idealize.ShloMosaic.Lib.WordCmp
public import Idealize.ShloMosaic.Lib.Pointwise
public import proofs.«01_k».proof.Proof.Experts.Formula

/-! # The attention's bias of a key and a query, by the bucket of their distance -/

@[expose] public section

noncomputable section

namespace Cert.Bias

open Idealize.ShloMosaic
open Cert.Experts (slab)

/-- The base-2 logarithm of e, as the programs round it. -/
def log2e : EReal := Ideal.ofBits .f32 0x3FB8AA3B#32

/-- The bias of a pair that no query may see: minus ten to the thirtieth, as the programs round it. -/
def unseen : EReal := Ideal.ofBits .f32 0xF149F2CA#32

/-- A pair's bias in one head, whose table has a number per bucket: the bucket's number less the farthest bucket's, in powers of two;
    where the word names no bucket, the pair is hidden. -/
def bias (t : Fin 32 → EReal) (v : BitVec 32) : EReal := if v.toNat < 32 then (t (slab v) - t 31) * log2e else unseen

/-- A choice by comparison with one bucket after another, below `n`: the bucket's number where one is met, `z` where none is. -/
def chain (v : BitVec 32) (f : Nat → EReal) (z : EReal) : Nat → EReal
  | 0 => z
  | n + 1 => Scalar.select (IntOp.cmpi .eq v (BitVec.ofNat 32 n)) (f n) (chain v f z n)

/-- The choice meets exactly the word's own bucket. -/
theorem chain_eq (v : BitVec 32) (f : Nat → EReal) (z : EReal) (n : Nat) (h : n ≤ 32) :
    chain v f z n = if v.toNat < n then f v.toNat else z := by
  induction n with
  | zero => rw [if_neg (by omega)]; rfl
  | succ n ih =>
    have hn : (BitVec.ofNat 32 n).toNat = n := by rw [BitVec.toNat_ofNat]; exact Nat.mod_eq_of_lt (by omega)
    show Scalar.select (IntOp.cmpi .eq v (BitVec.ofNat 32 n)) (f n) (chain v f z n) = _
    rw [WordCmp.cmpi_eq_eq_toNat, hn, ih (by omega)]
    by_cases c : v.toNat = n
    · rw [decide_eq_true c, c]
      exact (if_pos (Nat.lt_succ_self n)).symm
    · rw [decide_eq_false c]
      refine (show _ = (if v.toNat < n then f v.toNat else z) from rfl).trans ?_
      by_cases l : v.toNat < n
      · rw [if_pos l, if_pos (by omega)]
      · rw [if_neg l, if_neg (by omega)]

/-- Of a word's two signed bounds, that it is between 0 and 31. -/
theorem both_bounds (v : BitVec 32) :
    IntOp.andi (IntOp.cmpi .sge v 0#32) (IntOp.cmpi .slt v 32#32) = BitVec.ofBool (decide (v.toNat < 32)) := by
  have ge : IntOp.cmpi .sge v 0#32 = BitVec.ofBool (decide (0 ≤ v.toInt)) := rfl
  have lt : IntOp.cmpi .slt v 32#32 = BitVec.ofBool (decide (v.toInt < 32)) := rfl
  rw [ge, lt]
  have e := BitVec.toInt_eq_toNat_cond v
  have b := v.isLt
  by_cases l : v.toNat < 32
  · rw [decide_eq_true l, decide_eq_true (by split at e <;> omega), decide_eq_true (by split at e <;> omega)]; rfl
  · rw [decide_eq_false l]
    by_cases p : 0 ≤ v.toInt
    · rw [decide_eq_true p, decide_eq_false (by split at e <;> omega)]; rfl
    · rw [decide_eq_false p]
      by_cases q : v.toInt < 32
      · rw [decide_eq_true q]; rfl
      · rw [decide_eq_false q]; rfl

end Cert.Bias

end
-- ==== Proof.Bias.Block.lean ====
/- What one grid point of the bias tables' call leaves, at an index. -/
module

public import proofs.«01_k».proof.Proof.Gen.Kernel6Ideal.Value
public import proofs.«01_k».proof.Proof.Bias.Formula
public import Idealize.ShloMosaic.Lib.Pipeline.ValueKit.Basic
public import Idealize.ShloMosaic.Lib.Pointwise

@[expose] public section

set_option maxRecDepth 16384

namespace Cert.Kernel6Ideal.Bias

open Cert.Kernel6Ideal Cert.Kernel6Ideal.Gen Cert.Bias
open Cert.Experts (slab)
open Idealize.ShloMosaic Idealize.ShloMosaic.TcCoe

/-- A load from a whole buffer reads the array that the buffer holds. -/
theorem load_whole {sp : Space} {s : Shape} {e : EltTy} (a : Memref sig .tc sp s e) (h : a.IsWhole) (x : Vec Ideal s e) (r : Rect s) :
    View.readAt (Elt Ideal) a.view r.toLoadRect (h.unread x) = View.ld x r := by
  show View.ld (a.view.read (Elt Ideal) (h.unread x)) r = _
  rw [h.read_unread]

/-- WHAT A GRID POINT LEAVES, from the heads' table, the farthest buckets' numbers and the buckets: the 32 choices one upon another
    (`chain`) meet the pair's own bucket. -/
theorem out_apply (c : Dev nD) (i : grid0.Coords) (arg1 : Memref sig .tc .smem S8x32 .f32) (harg1 : arg1.IsWhole)
    (arg2 : Memref sig .tc .smem S8 .f32) (harg2 : arg2.IsWhole) (arg3 : Memref sig .tc .vmem S512x256 .i32) (harg3 : arg3.IsWhole)
    (arg4 : Memref sig .tc .vmem S1x512x256 .f32) (harg4 : arg4.IsWhole) (x0 : Vec Ideal S8x32 .f32) (x1 : Vec Ideal S8 .f32)
    (x2 : Vec Ideal S512x256 .i32) (k : Fin 512) (q : Fin 256) (hr : k0_off1 i 0 < 8) :
    out0_A_3 c i arg1 harg1 arg2 harg2 arg3 harg3 arg4 harg4 x0 x1 x2 (ix3 0 k q)
      = if (x2 (ix2 k q)).toNat < 32 then (x0 (ix2 ⟨k0_off1 i 0, hr⟩ (slab (x2 (ix2 k q)))) - x1 (ix1 ⟨k0_off1 i 0, hr⟩)) * log2e else unseen := by
  unfold out0_A_3
  rw [View.read_writes_eq_canon _ _ _ (cover0_A_3 c i arg1 harg1 arg2 harg2 arg3 harg3 arg4 harg4 x0 x1 x2)]
  unfold kernelRun0_A
  dsimp only
  rw [View.canon_cons_unit_lit _ _ _ (by decide)]
  simp only [kernelRun0_A.sl.r, kernelRun0_A.sl.r_1, kernelRun0_A.sl.r_2, kernelRun0_A.sl.r_3, kernelRun0_A.sl.r_4, kernelRun0_A.sl.r_5,
    kernelRun0_A.sl.r_6, kernelRun0_A.sl.r_7, kernelRun0_A.sl.r_8, kernelRun0_A.sl.r_9, kernelRun0_A.sl.r_10, kernelRun0_A.sl.r_11,
    kernelRun0_A.sl.r_12, kernelRun0_A.sl.r_13, kernelRun0_A.sl.r_14, kernelRun0_A.sl.r_15, kernelRun0_A.sl.r_16,
    kernelRun0_A.sl.r_17, kernelRun0_A.sl.r_18, kernelRun0_A.sl.r_19, kernelRun0_A.sl.r_20, kernelRun0_A.sl.r_21,
    kernelRun0_A.sl.r_22, kernelRun0_A.sl.r_23, kernelRun0_A.sl.r_24, kernelRun0_A.sl.r_25, kernelRun0_A.sl.r_26,
    kernelRun0_A.sl.r_27, kernelRun0_A.sl.r_28, kernelRun0_A.sl.r_29, kernelRun0_A.sl.r_30, kernelRun0_A.sl.r_31,
    kernelRun0_A.sl.r_32, kernelRun0_A.sl.r_33, kernelRun0_A.sl.r_34, kernelRun0_A.sl.r_35, kernelRun0_A.sl.r_36,
    kernelRun0_A.sl.r_37, kernelRun0_A.sl.r_38, kernelRun0_A.sl.r_39, kernelRun0_A.sl.r_40, kernelRun0_A.sl.r_41,
    kernelRun0_A.sl.r_42, kernelRun0_A.sl.r_43, kernelRun0_A.sl.r_44, kernelRun0_A.sl.r_45, kernelRun0_A.sl.r_46,
    kernelRun0_A.sl.r_47, load_whole]
  rw [View.ld_unit_lit _ _ (by decide)]
  pointwise [k0_pay1, k0_pay2, k0_pay3, k0_pay4, k0_pay5, k0_pay6, k0_pay7, k0_pay8, k0_pay9, k0_pay10, k0_pay11, k0_pay12, k0_pay13,
    k0_pay14, k0_pay15, k0_pay16]
  exact (show _ = chain (x2 (ix2 k q)) (fun n => (x0 (ix2 ⟨k0_off1 i 0, hr⟩ (⟨n % 32, by omega⟩ : Fin 32)) - x1 (ix1 ⟨k0_off1 i 0, hr⟩)) * log2e)
    unseen 32 from rfl).trans (chain_eq _ _ _ 32 le_rfl)

end Cert.Kernel6Ideal.Bias
-- ==== Proof.Bias.Array.lean ====
/- The bias tables after the call's run, at an index, from the arguments. -/
module

public import proofs.«01_k».proof.Proof.Bias.Block
public import Idealize.ShloMosaic.Lib.StableHlo.Run
public import Idealize.ShloMosaic.Lib.StableHlo.RunRead

@[expose] public section

set_option maxRecDepth 16384

namespace Cert.Kernel6Ideal.Bias

open Cert.Kernel6Ideal Cert.Kernel6Ideal.Gen Cert.Bias
open Cert.Experts (slab)
open Idealize.ShloMosaic Idealize.ShloMosaic.TcCoe Idealize.ShloMosaic.StableHlo

/-- Which block of its array each window reads or writes at a grid point: the tables and the buckets whole, of the result one head's. -/
theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 1) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = t.val ∧ win0_3.index t (1 : Fin 3) = 0 ∧ win0_3.index t (2 : Fin 3) = 0 :=
  (by decide +kernel : ∀ t : Fin grid0.N, _)

/-- The table's row that a grid point reads is its head's. -/
theorem row_eq : ∀ t : Fin cfg0.N, k0_off1 (grid0.coords t) 0 = t.val := (by decide +kernel : ∀ t : Fin grid0.N, _)

theorem N_eq : cfg0.N = 8 := by decide +kernel
theorem t_lt (t : Fin cfg0.N) : t.val < 8 := t.isLt.trans_eq N_eq

theorem emb0 (t : Fin cfg0.N) (h : Fin 8) (n : Fin 32) : ((cfg0.win 0).blk t).view.emb (ix2 h n) = ix2 h n := by
  obtain ⟨e0, e1⟩ := idx0 t
  funext a; apply Fin.ext
  match a with
  | ⟨0, _⟩ => show win0_0.index t (0 : Fin 2) * 8 + 1 * h.val = h.val; omega
  | ⟨1, _⟩ => show win0_0.index t (1 : Fin 2) * 32 + 1 * n.val = n.val; omega
theorem emb1 (t : Fin cfg0.N) (h : Fin 8) : ((cfg0.win 1).blk t).view.emb (ix1 h) = ix1 h := by
  have e0 := idx1 t
  funext a; apply Fin.ext
  match a with
  | ⟨0, _⟩ => show win0_1.index t (0 : Fin 1) * 8 + 1 * h.val = h.val; omega
theorem emb2 (t : Fin cfg0.N) (k : Fin 512) (q : Fin 256) : ((cfg0.win 2).blk t).view.emb (ix2 k q) = ix2 k q := by
  obtain ⟨e0, e1⟩ := idx2 t
  funext a; apply Fin.ext
  match a with
  | ⟨0, _⟩ => show win0_2.index t (0 : Fin 2) * 512 + 1 * k.val = k.val; omega
  | ⟨1, _⟩ => show win0_2.index t (1 : Fin 2) * 256 + 1 * q.val = q.val; omega
theorem emb3 (t : Fin cfg0.N) (k : Fin 512) (q : Fin 256) :
    ((cfg0.win 3).blk t).view.emb (ix3 0 k q) = ix3 (⟨t.val, t_lt t⟩ : Fin 8) k q := by
  obtain ⟨e0, e1, e2⟩ := idx3 t
  funext a; apply Fin.ext
  match a with
  | ⟨0, _⟩ => show win0_3.index t (0 : Fin 3) * 1 + 1 * 0 = t.val; omega
  | ⟨1, _⟩ => show win0_3.index t (1 : Fin 3) * 512 + 1 * k.val = k.val; omega
  | ⟨2, _⟩ => show win0_3.index t (2 : Fin 3) * 256 + 1 * q.val = q.val; omega

variable (m : (ℓ : Loc nD τ sig) → Buf (Elt Ideal) ℓ) (c : Dev nD)

/-- The heads' table, as the call reads it: the argument's last eight columns, as rows. -/
theorem V_table : V m c main_v1 = transpose S8x32 [1, 0]
    (extractStridedSlice S32x8 ![0, 8] (m ((c : Thread nD τ).loc main_arg0)) slices_S32x16_S32x8_0_8) transposes_S32x8_S8x32_1_0 := by
  unfold V hostOps0
  after_reads_simp
/-- The farthest buckets' numbers, as the call reads them. -/
theorem V_last : V m c main_v3 = shapeCast S8 (extractStridedSlice S8x1 ![0, 31] (transpose S8x32 [1, 0]
    (extractStridedSlice S32x8 ![0, 8] (m ((c : Thread nD τ).loc main_arg0)) slices_S32x16_S32x8_0_8) transposes_S32x8_S8x32_1_0)
    slices_S8x32_S8x1_0_31) shapeCasts_S8x1_S8 := by
  unfold V hostOps0
  after_reads_simp
  rfl

theorem table_apply (x : Vec Ideal S32x16 .f32) (h : Fin 8) (n : Fin 32) :
    transpose S8x32 [1, 0] (extractStridedSlice S32x8 ![0, 8] x slices_S32x16_S32x8_0_8) transposes_S32x8_S8x32_1_0 (ix2 h n)
      = x (ix2 n ⟨8 + h.val, by omega⟩) := by
  pointwise []
theorem last_apply (x : Vec Ideal S32x16 .f32) (h : Fin 8) :
    shapeCast S8 (extractStridedSlice S8x1 ![0, 31] (transpose S8x32 [1, 0] (extractStridedSlice S32x8 ![0, 8] x slices_S32x16_S32x8_0_8)
      transposes_S32x8_S8x32_1_0) slices_S8x32_S8x1_0_31) shapeCasts_S8x1_S8 (ix1 h) = x (ix2 31 ⟨8 + h.val, by omega⟩) := by
  pointwise []

theorem iblk0_apply (t : Fin cfg0.N) (h : Fin 8) (n : Fin 32) :
    iblk m c 0 t (ix2 h n) = m ((c : Thread nD τ).loc main_arg0) (ix2 n ⟨8 + h.val, by omega⟩) :=
  ((congrArg (V m c main_v1) (emb0 t h n)).trans (congrFun (V_table m c) _)).trans (table_apply _ h n)
theorem iblk1_apply (t : Fin cfg0.N) (h : Fin 8) :
    iblk m c 1 t (ix1 h) = m ((c : Thread nD τ).loc main_arg0) (ix2 31 ⟨8 + h.val, by omega⟩) :=
  ((congrArg (V m c main_v3) (emb1 t h)).trans (congrFun (V_last m c) _)).trans (last_apply _ h)
theorem iblk2_apply (t : Fin cfg0.N) (k : Fin 512) (q : Fin 256) :
    iblk m c 2 t (ix2 k q) = m ((c : Thread nD τ).loc main_arg1) (ix2 k q) :=
  (congrArg (V m c main_arg1) (emb2 t k q)).trans (congrFun (V_main_arg1 m c) _)

/-- THE BIAS TABLES AFTER THE RUN. -/
theorem array_apply (h : Fin 8) (k : Fin 512) (q : Fin 256) :
    (dats m 0 c).arrAt 3 cfg0.N (ix3 h k q)
      = bias (fun n => m ((c : Thread nD τ).loc main_arg0) (ix2 n ⟨8 + h.val, by omega⟩)) (m ((c : Thread nD τ).loc main_arg1) (ix2 k q)) := by
  have hN := N_eq
  obtain ⟨t, ht⟩ : ∃ t : Fin cfg0.N, h.val = t.val := ⟨⟨h.val, by omega⟩, rfl⟩
  have eh : h = ⟨t.val, t_lt t⟩ := Fin.ext ht
  have hr : k0_off1 (grid0.coords t) 0 < 8 := (row_eq t).trans_lt (t_lt t)
  have er : (⟨k0_off1 (grid0.coords t) 0, hr⟩ : Fin 8) = h := Fin.ext ((row_eq t).trans ht.symm)
  have e := congrFun (Value.blocks3 m c t (flush0_3 t)) (ix3 0 k q)
  rw [Value.flushed3_A] at e
  have e' : (dats m 0 c).arrAt 3 cfg0.N (((cfg0.win 3).blk t).view.emb (ix3 0 k q))
      = out0_A_3 c (grid0.coords t) (ms0_0 t) (hs0_0 t) (ms0_1 t) (hs0_1 t) (ms0_2 t) (hs0_2 t) (ms0_3 t) (hs0_3 t)
        (iblk m c 0 t) (iblk m c 1 t) (iblk m c 2 t) (ix3 0 k q) := e
  rw [emb3, ← eh, out_apply _ _ _ _ _ _ _ _ _ _ _ _ _ k q hr, er, iblk2_apply, iblk0_apply, iblk1_apply] at e'
  exact e'

end Cert.Kernel6Ideal.Bias
-- ==== Proof.Bias.Ref.lean ====
/- The bias tables' reference, read at a head, a key and a query. -/
module

public import proofs.«01_k».proof.Proof.Gen.Reference6Ideal.Run
public import proofs.«01_k».proof.Proof.Bias.Formula
public import Idealize.ShloMosaic.Lib.Pointwise
public import Idealize.ShloMosaic.Lib.Routing.OpsPair

@[expose] public section

set_option maxRecDepth 16384

noncomputable section

namespace Cert.Reference6Ideal.Bias

open Cert.Reference6Ideal Cert.Reference6Ideal.Gen Cert.Bias
open Cert.Experts (slab)
open Idealize.ShloMosaic Idealize.ShloMosaic.TcCoe Idealize.SL.Sem

section
variable {F : FTy → Type} [FloatOps F] (x : FVec F S32x16 .f32) (b : IVec S512x256 32)

/-- The attention's columns of the table. -/
def table : FVec F S32x8 .f32 := extractStridedSlice S32x8 ![0, 8] x slices_S32x16_S32x8_0_8

/-- The farthest bucket's numbers, one per head. -/
def farthest : FVec F S8 .f32 := shapeCast S8 (extractStridedSlice S1x8 ![31, 0] (table x) slices_S32x8_S1x8_31_0) shapeCasts_S1x8_S8

/-- The table less the farthest bucket's numbers, in powers of two. -/
def scaled : FVec F S32x8 .f32 :=
  mulf (subf (table x) (broadcastInDim S32x8 ![0, 1] bcast_S1x8_S32x8_0_1 (broadcastInDim S1x8 ![1] bcast_S8_S1x8_1 (farthest x))))
    (broadcastInDim S32x8 ![] bcast_S_S32x8 (constant S_ .f32 0x3FB8AA3B#32))

/-- The buckets as the table is indexed with them. -/
def picks : IVec S512x256x1 32 :=
  broadcastInDim S512x256x1 ![0, 1] bcast_S512x256_S512x256x1_0_1
    (select (cmpi .slt b (broadcastInDim S512x256 ![] bcast_S_S512x256 (constantI S_ 32 0#32)))
      (addi b (broadcastInDim S512x256 ![] bcast_S_S512x256 (constantI S_ 32 32#32))) b)

/-- The pairs' numbers, a row per pair. -/
def rows : FVec F S512x256x8 .f32 := Host.gather gather_S32x8_S512x256x1_S512x256x8_2_0_n_n_0_2_18 (scaled x) (picks b)

/-- Whether the word names a bucket. -/
def seen : IVec S512x256 1 :=
  andi (cmpi .sge b (broadcastInDim S512x256 ![] bcast_S_S512x256 (constantI S_ 32 0#32)))
    (cmpi .slt b (broadcastInDim S512x256 ![] bcast_S_S512x256 (constantI S_ 32 32#32)))

/-- The result. -/
def total : FVec F S8x512x256 .f32 :=
  select (broadcastInDim S8x512x256 ![1, 2] bcast_S512x256_S8x512x256_1_2 (seen b))
    (transpose S8x512x256 [2, 0, 1] (rows x b) transposes_S512x256x8_S8x512x256_2_0_1)
    (broadcastInDim S8x512x256 ![] bcast_S_S8x512x256 (constant S_ .f32 0xF149F2CA#32))

end

section
variable (x : Vec Ideal S32x16 .f32) (b : Vec Ideal S512x256 .i32)

theorem scaled_apply (n : Fin 32) (h : Fin 8) :
    scaled (F := Ideal) x (ix2 n h) = (x (ix2 n ⟨8 + h.val, by omega⟩) - x (ix2 31 ⟨8 + h.val, by omega⟩)) * log2e := by
  pointwise [scaled, table, farthest, log2e]

theorem picks_apply (k : Fin 512) (q : Fin 256) (l : (b (ix2 k q)).toNat < 32) : picks b (ix3 k q 0) = b (ix2 k q) := by
  unfold picks
  pointwise []
  exact Routing.wrap_of_lt _ _ (by omega)

/-- A small word's clamped signed reading is the word. -/
theorem clamp_small (v : BitVec 32) (h : v.toNat < 32) : min v.toInt.toNat 31 = v.toNat % 32 := by
  have := BitVec.toInt_eq_toNat_cond v
  split at this <;> omega

theorem rows_apply (k : Fin 512) (q : Fin 256) (h : Fin 8) (l : (b (ix2 k q)).toNat < 32) :
    rows (F := Ideal) x b (ix3 k q h) = scaled (F := Ideal) x (ix2 (slab (b (ix2 k q))) h) := by
  show scaled (F := Ideal) x (gather_S32x8_S512x256x1_S512x256x8_2_0_n_n_0_2_18.operandIdx (ix3 k q h) (picks b)) = _
  refine congrArg (scaled (F := Ideal) x) (funext fun a => Fin.ext ?_)
  match a with
  | 0 =>
    refine Eq.trans ?_ (clamp_small _ l)
    rw [← picks_apply b k q l]
    show min (picks b (gather_S32x8_S512x256x1_S512x256x8_2_0_n_n_0_2_18.siIdx (ix3 k q h) ⟨0, Nat.one_pos⟩)).toInt.toNat 31 + 0 + 0 = _
    rw [show gather_S32x8_S512x256x1_S512x256x8_2_0_n_n_0_2_18.siIdx (ix3 k q h) ⟨0, Nat.one_pos⟩ = ix3 k q 0 from
      funext fun b => match b with | 0 => rfl | 1 => rfl | 2 => rfl]
    rfl
  | 1 => show 0 + 0 + h.val = h.val; omega

/-- THE REFERENCE'S FORMULA at a head, a key and a query. -/
theorem total_apply (h : Fin 8) (k : Fin 512) (q : Fin 256) :
    total (F := Ideal) x b (ix3 h k q) = bias (fun n => x (ix2 n ⟨8 + h.val, by omega⟩)) (b (ix2 k q)) := by
  have e : total (F := Ideal) x b (ix3 h k q)
      = Scalar.select (IntOp.andi (IntOp.cmpi .sge (b (ix2 k q)) 0#32) (IntOp.cmpi .slt (b (ix2 k q)) 32#32)) (rows (F := Ideal) x b (ix3 k q h)) unseen := by
    pointwise [total, seen, unseen]
  rw [e, both_bounds]
  unfold bias
  by_cases l : (b (ix2 k q)).toNat < 32
  · rw [decide_eq_true l, if_pos l, rows_apply x b k q h l, scaled_apply]; rfl
  · rw [decide_eq_false l, if_neg l]; rfl

end

/-- The reference runs to that result and keeps its arguments. -/
theorem run_total (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21) = total (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run (F := Ideal) m ρ

end Cert.Reference6Ideal.Bias

end
-- ==== Proof.Bias.Claim.lean ====
/- The claims on the bias tables: the reference's frame and the value claim. -/
module

public import proofs.«01_k».proof.Defs
public import proofs.«01_k».proof.Proof.Bias.Array
public import proofs.«01_k».proof.Proof.Bias.Ref
public import Idealize.ShloMosaic.Lib.Quiescent

@[expose] public section

set_option maxRecDepth 16384

noncomputable section

namespace Cert.Bias

open Idealize.ShloMosaic Idealize.SL.Sem

/-- The bias tables' reference runs, keeps its arguments and leaves no semaphore raised. -/
theorem frame_ri : quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- THE VALUE CLAIM ON THE BIAS TABLES: both programs leave, for every head and pair of a key and a query, the number of the bucket of
    their distance less the farthest bucket's, in powers of two, and the hidden pairs' number where the word names no bucket (`bias`). -/
theorem algebraic : algebraic_Kernel6Ideal_Reference6Ideal (hKernel6Ideal := Cert.Kernel6Ideal.Gen.facts)
    (hReference6Ideal := Cert.Reference6Ideal.Gen.facts) := by
  intro m g m' g' _ hargs
  refine ⟨fun c => (Cert.Kernel6Ideal.Gen.dats m 0 c).arrAt 3 Cert.Kernel6Ideal.cfg0.N, Cert.Kernel6Ideal.Value.run_blocks m g, ?_⟩
  refine (θ_run _ _ _).mono (fun r hr c => ?_) (Cert.Reference6Ideal.Bias.run_total m' g')
  obtain ⟨h0, hk⟩ := hr c
  refine ⟨h0.trans (funext fun (y : Cert.Kernel6Ideal.S8x512x256.Idx) => ?_), hk⟩
  obtain ⟨h, k, q, rfl⟩ : ∃ (h : Fin 8) (k : Fin 512) (q : Fin 256), y = ix3 h k q := ⟨y 0, y 1, y 2, eq_ix3 y⟩
  obtain ⟨e0, e1⟩ := hargs c
  refine Eq.trans ?_ (Cert.Kernel6Ideal.Bias.array_apply m c h k q).symm
  refine (Cert.Reference6Ideal.Bias.total_apply _ _ h k q).trans ?_
  rw [e0, e1]

end Cert.Bias

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Pre_experts_exist
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Pre_routed
public import proofs.«01_k».proof.Proof.Merge.Ref
public import Idealize.ShloMosaic.Lib.Bf16PairInverse
public import Idealize.ShloMosaic.Lib.Quiescent
public import proofs.«01_k».proof.Proof.Merge.Array
public import proofs.«01_k».proof.Proof.Inproj.Claim
public import proofs.«01_k».proof.Proof.Experts.Claim
public import proofs.«01_k».proof.Proof.Final.Claim
public import proofs.«01_k».proof.Proof.Dest.Claim
public import proofs.«01_k».proof.Proof.Bias.Claim
public import Idealize.ShloMosaic.Adequacy
public import Idealize.ShloMosaic.Init

@[expose] public section

noncomputable section

namespace Cert.Proof

open Idealize.ShloMosaic Idealize.SL.Sem

/-- The reference terminates, keeps its arguments and leaves no semaphore raised. -/
theorem frame_ri : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization rewrote the kernel's program at its packed words and its mask constant only, each by its rule's statement. -/
theorem preserves : preserves_Kernel_KernelIdeal :=
  ⟨IdealRules.bf16_pair.bufferStatement .., IdealRules.bf16_pair.bufferStatement .., IdealRules.bf16_pair.statement .., IdealRules.bf16_pack.statement _,
    IdealRules.named_const.statement _ _ _ _ _ rfl⟩

/-- The token that both programs take from memories agreeing on the arguments. -/
theorem tok_eq (a0 : Vec Ideal Cert.KernelIdeal.S16x4096x1024 .f32) (a1 a2 : Vec Ideal Cert.KernelIdeal.S16x4096x512 .bf16) (a3 : Vec Ideal Cert.KernelIdeal.S1x1024x4352 .f32)
    (a4 : Vec Ideal Cert.KernelIdeal.S1x4352 .f32) (a5 a6 : Vec Ideal Cert.KernelIdeal.S1x512x1024 .f32) (a7 : Vec Ideal Cert.KernelIdeal.S1x1024x1024 .f32)
    (a8 a9 : Vec Ideal Cert.KernelIdeal.S1x1024 .f32) (n : Fin 32768) :
    Cert.ReferenceIdeal.Merge.tok a0 a1 a2 a3 a4 a5 a6 a7 a8 a9 n = Cert.KernelIdeal.Merge.argTok a0 a1 a2 a3 a4 a5 a6 a7 a8 a9 n := rfl

/-- THE VALUE CLAIM: both programs leave, at every token and feature, the layer norm of the gated merge (`Cert.Merge.Tok.x1`). -/
theorem algebraic : algebraic_KernelIdeal_ReferenceIdeal (hKernelIdeal := Cert.KernelIdeal.Gen.facts) (hReferenceIdeal := Cert.ReferenceIdeal.Gen.facts) := by
  intro m g m' g' _ hargs
  refine ⟨fun c => (Cert.KernelIdeal.Gen.dats m 0 c).arrAt 13 Cert.KernelIdeal.cfg0.N, ?_, ?_⟩
  · refine (θ_run _ _ _).mono (fun r h c => ?_) (Cert.KernelIdeal.Value.run_blocks m g)
    obtain ⟨h13, -, -, -, hk⟩ := h c
    exact ⟨h13, hk⟩
  · refine (θ_run _ _ _).mono (fun r h c => ?_) (Cert.ReferenceIdeal.Value.run m' g')
    obtain ⟨hr, hk⟩ := h c
    refine ⟨hr.trans (funext fun (y : Cert.KernelIdeal.S32768x1024.Idx) => ?_), hk⟩
    obtain ⟨n, j, rfl⟩ : ∃ (n : Fin 32768) (j : Fin 1024), y = ix2 n j := ⟨y 0, y 1, eq_ix2 y⟩
    refine (Cert.ReferenceIdeal.Merge.result_apply m' c n j).trans (Eq.trans ?_ (Cert.KernelIdeal.Merge.array_apply m c n j).symm)
    obtain ⟨e0, e1, e2, e3, e4, e5, e6, e7, e8, e9, -⟩ := hargs c
    rw [e0, e1, e2, e3, e4, e5, e6, e7, e8, e9, tok_eq]
    rfl

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_experts_exist.Gen.facts, Cert.Pre_routed.Gen.facts,
  fun m ρ _ => Cert.Kernel.Gen.frame m ρ,
  fun m ρ _ => Cert.KernelIdeal.Gen.frame m ρ,
  frame_ri,
  fun m ρ _ => Cert.Kernel2.Gen.frame m ρ,
  fun m ρ _ => Cert.Kernel2Ideal.Gen.frame m ρ,
  Cert.Inproj.frame_ri,
  Cert.Experts.frame_p, Cert.Experts.frame_pi, Cert.Experts.frame_ri, Cert.Experts.frame_ri_pre,
  fun m ρ _ => Cert.Kernel4.Gen.frame m ρ,
  fun m ρ _ => Cert.Kernel4Ideal.Gen.frame m ρ,
  Cert.Final.frame_ri,
  fun m ρ _ => Cert.Kernel5.Gen.frame m ρ,
  fun m ρ _ => Cert.Kernel5Ideal.Gen.frame m ρ,
  fun m ρ _ => Cert.Kernel5Ideal.Gen.frame m ρ,
  Cert.Dest.frame_ri,
  Cert.Dest.frame_ri_pre,
  fun m ρ _ => Cert.Kernel6.Gen.frame m ρ,
  fun m ρ _ => Cert.Kernel6Ideal.Gen.frame m ρ,
  Cert.Bias.frame_ri,
  preserves, algebraic, trivial, Cert.Inproj.algebraic, trivial, Cert.Experts.algebraic, trivial, Cert.Final.algebraic, trivial, Cert.Dest.algebraic,
  trivial, Cert.Bias.algebraic⟩

end Cert.Proof

end
